-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S2048x2x128 Cert.KernelIdeal.S2048x1x128
  ∧ IdealRules.bf16_pair.PackStatement Cert.KernelIdeal.S128x128
  ∧ IdealRules.bf16_pair.Statement Cert.KernelIdeal.S128x2x128 Cert.KernelIdeal.S128x1x128
  ∧ IdealRules.bf16_pair.Statement Cert.KernelIdeal.S32x2x128 Cert.KernelIdeal.S32x1x128
  ∧ IdealRules.bf16_pair.Statement Cert.KernelIdeal.S64x128 Cert.KernelIdeal.S32x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x4096 : Shape := ⟨3, ![1, 128, 4096]⟩
abbrev S22544384 : Shape := ⟨1, ![22544384]⟩
abbrev S22016 : Shape := ⟨1, ![22016]⟩
abbrev S44032x4x128 : Shape := ⟨3, ![44032, 4, 128]⟩
abbrev S44032x128x4 : Shape := ⟨3, ![44032, 128, 4]⟩
abbrev S44032x128 : Shape := ⟨2, ![44032, 128]⟩
abbrev S512x43 : Shape := ⟨2, ![512, 43]⟩
abbrev S_ : Shape := ⟨0, ![]⟩
abbrev S512x256 : Shape := ⟨2, ![512, 256]⟩
abbrev S128x4096 : Shape := ⟨2, ![128, 4096]⟩
abbrev S128x11008 : Shape := ⟨2, ![128, 11008]⟩
abbrev S2048x128 : Shape := ⟨2, ![2048, 128]⟩
abbrev S4x128x4096 : Shape := ⟨3, ![4, 128, 4096]⟩
abbrev S43x2x128x128 : Shape := ⟨4, ![43, 2, 128, 128]⟩
abbrev S2 : Shape := ⟨1, ![2]⟩
abbrev S5 : Shape := ⟨1, ![5]⟩
abbrev S1 : Shape := ⟨1, ![1]⟩
abbrev S2752x128 : Shape := ⟨2, ![2752, 128]⟩
abbrev S5504x128 : Shape := ⟨2, ![5504, 128]⟩
abbrev S8256x128 : Shape := ⟨2, ![8256, 128]⟩
abbrev S11008x128 : Shape := ⟨2, ![11008, 128]⟩
abbrev S16512x128 : Shape := ⟨2, ![16512, 128]⟩
abbrev S256x256 : Shape := ⟨2, ![256, 256]⟩
abbrev S128x256 : Shape := ⟨2, ![128, 256]⟩
abbrev S128x128 : Shape := ⟨2, ![128, 128]⟩
abbrev S128x128x1 : Shape := ⟨3, ![128, 128, 1]⟩
abbrev S1x128x128 : Shape := ⟨3, ![1, 128, 128]⟩
abbrev S8x128 : Shape := ⟨2, ![8, 128]⟩
abbrev S32x128 : Shape := ⟨2, ![32, 128]⟩
abbrev S16x128 : Shape := ⟨2, ![16, 128]⟩
abbrev S64x128 : Shape := ⟨2, ![64, 128]⟩
abbrev S64x128x1 : Shape := ⟨3, ![64, 128, 1]⟩
abbrev S8x8x128 : Shape := ⟨3, ![8, 8, 128]⟩
abbrev S8x1x128 : Shape := ⟨3, ![8, 1, 128]⟩
abbrev S256x128 : Shape := ⟨2, ![256, 128]⟩
abbrev S1x128x256 : Shape := ⟨3, ![1, 128, 256]⟩
abbrev S1x1x128x128 : Shape := ⟨4, ![1, 1, 128, 128]⟩
abbrev S1x128x11008 : Shape := ⟨3, ![1, 128, 11008]⟩

abbrev nBuf : Space → Nat
  | .hbm => 14
  | .vmem => 7
  | .smem => 0
  | _ => 0

abbrev bufTy : (tb : Table) → Fin (tcTables nBuf tb) → BufTy
  | .hbm, ⟨0, _⟩ => ⟨S1x128x4096, .bf16⟩
  | .hbm, ⟨1, _⟩ => ⟨S22544384, .i8⟩
  | .hbm, ⟨2, _⟩ => ⟨S22016, .f32⟩
  | .hbm, ⟨3, _⟩ => ⟨S44032x4x128, .i8⟩
  | .hbm, ⟨4, _⟩ => ⟨S44032x128x4, .i8⟩
  | .hbm, ⟨5, _⟩ => ⟨S44032x128, .i32⟩
  | .hbm, ⟨6, _⟩ => ⟨S22016, .bf16⟩
  | .hbm, ⟨7, _⟩ => ⟨S512x43, .bf16⟩
  | .hbm, ⟨8, _⟩ => ⟨S_, .i32⟩
  | .hbm, ⟨9, _⟩ => ⟨S_, .bf16⟩
  | .hbm, ⟨10, _⟩ => ⟨S512x256, .bf16⟩
  | .hbm, ⟨11, _⟩ => ⟨S128x4096, .bf16⟩
  | .hbm, ⟨12, _⟩ => ⟨S128x11008, .bf16⟩
  | .hbm, ⟨13, _⟩ => ⟨S1x128x11008, .bf16⟩
  | .local _ .vmem, ⟨0, _⟩ => ⟨S128x4096, .bf16⟩
  | .local _ .vmem, ⟨1, _⟩ => ⟨S44032x128, .i32⟩
  | .local _ .vmem, ⟨2, _⟩ => ⟨S512x256, .bf16⟩
  | .local _ .vmem, ⟨3, _⟩ => ⟨S2048x128, .i32⟩
  | .local _ .vmem, ⟨4, _⟩ => ⟨S4x128x4096, .bf16⟩
  | .local _ .vmem, ⟨5, _⟩ => ⟨S43x2x128x128, .f32⟩
  | .local _ .vmem, ⟨6, _⟩ => ⟨S43x2x128x128, .bf16⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [BitOps F]

abbrev grid0 : Pipeline.Grid := .none

@[reducible] def k0_t1_loop : Scf.Loop 32 :=
  let c0_i32_1045_r0 : BitVec 32 := 0#32
  let c10_i32_r0 : BitVec 32 := 10#32
  let v2283_r0 : BitVec 32 := Scalar.addi c0_i32_1045_r0 c10_i32_r0
  let c1_i32_1046_r0 : BitVec 32 := 1#32
  ⟨c0_i32_1045_r0, v2283_r0, c1_i32_1046_r0⟩
def k0_off1 (k0_t1 : Fin k0_t1_loop.trips) (c0_i32_5814_r0 : BitVec 32) : Fin 2 → Nat :=
  let c0_i32_1045_r0 : BitVec 32 := 0#32
  let c1_i32_1046_r0 : BitVec 32 := 1#32
  let arg14_r0 : BitVec 32 := Scf.iv c0_i32_1045_r0 c1_i32_1046_r0 k0_t1
  let v17764_r0 : BitVec 32 := Scalar.addi c0_i32_5814_r0 arg14_r0
  let v17765_r0 : Index := Scalar.indexCast v17764_r0
  let c0_5815_r0 : Index := 0#32
  ![v17765_r0.toNat, 0]
def k0_off1_at (r : Fin 56) : BitVec 32 :=
  if r.val < 28 then
    if r.val < 14 then
      if r.val < 7 then
        if r.val < 3 then
          if r.val < 1 then
            0#32
          else
            if r.val < 2 then
              32#32
            else
              21#32
        else
          if r.val < 5 then
            if r.val < 4 then
              10#32
            else
              22#32
          else
            if r.val < 6 then
              11#32
            else
              43#32
      else
        if r.val < 10 then
          if r.val < 8 then
            75#32
          else
            if r.val < 9 then
              64#32
            else
              53#32
        else
          if r.val < 12 then
            if r.val < 11 then
              65#32
            else
              54#32
          else
            if r.val < 13 then
              688#32
            else
              720#32
    else
      if r.val < 21 then
        if r.val < 17 then
          if r.val < 15 then
            709#32
          else
            if r.val < 16 then
              698#32
            else
              710#32
        else
          if r.val < 19 then
            if r.val < 18 then
              699#32
            else
              731#32
          else
            if r.val < 20 then
              763#32
            else
              752#32
      else
        if r.val < 24 then
          if r.val < 22 then
            741#32
          else
            if r.val < 23 then
              753#32
            else
              742#32
        else
          if r.val < 26 then
            if r.val < 25 then
              1376#32
            else
              1408#32
          else
            if r.val < 27 then
              1397#32
            else
              1386#32
  else
    if r.val < 42 then
      if r.val < 35 then
        if r.val < 31 then
          if r.val < 29 then
            1398#32
          else
            if r.val < 30 then
              1387#32
            else
              1419#32
        else
          if r.val < 33 then
            if r.val < 32 then
              1451#32
            else
              1440#32
          else
            if r.val < 34 then
              1429#32
            else
              1441#32
      else
        if r.val < 38 then
          if r.val < 36 then
            1430#32
          else
            if r.val < 37 then
              2064#32
            else
              2096#32
        else
          if r.val < 40 then
            if r.val < 39 then
              2085#32
            else
              2074#32
          else
            if r.val < 41 then
              2086#32
            else
              2075#32
    else
      if r.val < 49 then
        if r.val < 45 then
          if r.val < 43 then
            2107#32
          else
            if r.val < 44 then
              2139#32
            else
              2128#32
        else
          if r.val < 47 then
            if r.val < 46 then
              2117#32
            else
              2129#32
          else
            if r.val < 48 then
              2118#32
            else
              33#32
      else
        if r.val < 52 then
          if r.val < 50 then
            76#32
          else
            if r.val < 51 then
              721#32
            else
              764#32
        else
          if r.val < 54 then
            if r.val < 53 then
              1409#32
            else
              1452#32
          else
            if r.val < 55 then
              2097#32
            else
              2140#32
def k0_off2 (k0_t1 : Fin k0_t1_loop.trips) (c0_i32_6182_r0 : BitVec 32) : Fin 4 → Nat :=
  let c4_i32_6181_r0 : BitVec 32 := 4#32
  let c0_i32_1045_r0 : BitVec 32 := 0#32
  let c1_i32_1046_r0 : BitVec 32 := 1#32
  let arg14_r0 : BitVec 32 := Scf.iv c0_i32_1045_r0 c1_i32_1046_r0 k0_t1
  let v19184_r0 : BitVec 32 := Scalar.muli c4_i32_6181_r0 arg14_r0
  let v19185_r0 : BitVec 32 := Scalar.addi v19184_r0 c0_i32_6182_r0
  let v19189_r0 : Index := Scalar.indexCast v19185_r0
  let c0_6183_r0 : Index := 0#32
  let c0_6184_r0 : Index := 0#32
  let c0_6185_r0 : Index := 0#32
  ![v19189_r0.toNat, 0, 0, 0]
def k0_off3 (k0_t1 : Fin k0_t1_loop.trips) (c0_i32_6182_r0 : BitVec 32) : Fin 4 → Nat :=
  let c4_i32_6181_r0 : BitVec 32 := 4#32
  let c0_i32_1045_r0 : BitVec 32 := 0#32
  let c1_i32_1046_r0 : BitVec 32 := 1#32
  let arg14_r0 : BitVec 32 := Scf.iv c0_i32_1045_r0 c1_i32_1046_r0 k0_t1
  let v19184_r0 : BitVec 32 := Scalar.muli c4_i32_6181_r0 arg14_r0
  let v19185_r0 : BitVec 32 := Scalar.addi v19184_r0 c0_i32_6182_r0
  let v19193_r0 : Index := Scalar.indexCast v19185_r0
  let c1_6186_r0 : Index := 1#32
  let c0_6187_r0 : Index := 0#32
  let c0_6188_r0 : Index := 0#32
  ![v19193_r0.toNat, 1, 0, 0]
def k0_off4 (k0_t1 : Fin k0_t1_loop.trips) (c0_i32_6190_r0 : BitVec 32) : Fin 4 → Nat :=
  let c4_i32_6189_r0 : BitVec 32 := 4#32
  let c0_i32_1045_r0 : BitVec 32 := 0#32
  let c1_i32_1046_r0 : BitVec 32 := 1#32
  let arg14_r0 : BitVec 32 := Scf.iv c0_i32_1045_r0 c1_i32_1046_r0 k0_t1
  let v19197_r0 : BitVec 32 := Scalar.muli c4_i32_6189_r0 arg14_r0
  let v19198_r0 : BitVec 32 := Scalar.addi v19197_r0 c0_i32_6190_r0
  let c2_i32_6191_r0 : BitVec 32 := 2#32
  let v19199_r0 : BitVec 32 := Scalar.addi v19198_r0 c2_i32_6191_r0
  let v19203_r0 : Index := Scalar.indexCast v19199_r0
  let c0_6192_r0 : Index := 0#32
  let c0_6193_r0 : Index := 0#32
  let c0_6194_r0 : Index := 0#32
  ![v19203_r0.toNat, 0, 0, 0]
def k0_off5 (k0_t1 : Fin k0_t1_loop.trips) (c0_i32_6190_r0 : BitVec 32) : Fin 4 → Nat :=
  let c4_i32_6189_r0 : BitVec 32 := 4#32
  let c0_i32_1045_r0 : BitVec 32 := 0#32
  let c1_i32_1046_r0 : BitVec 32 := 1#32
  let arg14_r0 : BitVec 32 := Scf.iv c0_i32_1045_r0 c1_i32_1046_r0 k0_t1
  let v19197_r0 : BitVec 32 := Scalar.muli c4_i32_6189_r0 arg14_r0
  let v19198_r0 : BitVec 32 := Scalar.addi v19197_r0 c0_i32_6190_r0
  let c2_i32_6191_r0 : BitVec 32 := 2#32
  let v19199_r0 : BitVec 32 := Scalar.addi v19198_r0 c2_i32_6191_r0
  let v19207_r0 : Index := Scalar.indexCast v19199_r0
  let c1_6195_r0 : Index := 1#32
  let c0_6196_r0 : Index := 0#32
  let c0_6197_r0 : Index := 0#32
  ![v19207_r0.toNat, 1, 0, 0]
@[reducible] def k0_t2_loop : Scf.Loop 32 :=
  let c0_i32_1352_r0 : BitVec 32 := 0#32
  let c10_i32_1353_r0 : BitVec 32 := 10#32
  let v3257_r0 : BitVec 32 := Scalar.addi c0_i32_1352_r0 c10_i32_1353_r0
  let c1_i32_1354_r0 : BitVec 32 := 1#32
  ⟨c0_i32_1352_r0, v3257_r0, c1_i32_1354_r0⟩
def k0_off6 (k0_t2 : Fin k0_t2_loop.trips) (c2752_i32_5814_r0 : BitVec 32) : Fin 2 → Nat :=
  let c0_i32_1352_r0 : BitVec 32 := 0#32
  let c1_i32_1354_r0 : BitVec 32 := 1#32
  let arg14_r0 : BitVec 32 := Scf.iv c0_i32_1352_r0 c1_i32_1354_r0 k0_t2
  let v17764_r0 : BitVec 32 := Scalar.addi c2752_i32_5814_r0 arg14_r0
  let v17765_r0 : Index := Scalar.indexCast v17764_r0
  let c0_5815_r0 : Index := 0#32
  ![v17765_r0.toNat, 0]
def k0_off6_at (r : Fin 112) : BitVec 32 :=
  if r.val < 56 then
    if r.val < 28 then
      if r.val < 14 then
        if r.val < 7 then
          if r.val < 3 then
            if r.val < 1 then
              2752#32
            else
              if r.val < 2 then
                2784#32
              else
                2773#32
          else
            if r.val < 5 then
              if r.val < 4 then
                2762#32
              else
                2774#32
            else
              if r.val < 6 then
                2763#32
              else
                2795#32
        else
          if r.val < 10 then
            if r.val < 8 then
              2827#32
            else
              if r.val < 9 then
                2816#32
              else
                2805#32
          else
            if r.val < 12 then
              if r.val < 11 then
                2817#32
              else
                2806#32
            else
              if r.val < 13 then
                3440#32
              else
                3472#32
      else
        if r.val < 21 then
          if r.val < 17 then
            if r.val < 15 then
              3461#32
            else
              if r.val < 16 then
                3450#32
              else
                3462#32
          else
            if r.val < 19 then
              if r.val < 18 then
                3451#32
              else
                3483#32
            else
              if r.val < 20 then
                3515#32
              else
                3504#32
        else
          if r.val < 24 then
            if r.val < 22 then
              3493#32
            else
              if r.val < 23 then
                3505#32
              else
                3494#32
          else
            if r.val < 26 then
              if r.val < 25 then
                4128#32
              else
                4160#32
            else
              if r.val < 27 then
                4149#32
              else
                4138#32
    else
      if r.val < 42 then
        if r.val < 35 then
          if r.val < 31 then
            if r.val < 29 then
              4150#32
            else
              if r.val < 30 then
                4139#32
              else
                4171#32
          else
            if r.val < 33 then
              if r.val < 32 then
                4203#32
              else
                4192#32
            else
              if r.val < 34 then
                4181#32
              else
                4193#32
        else
          if r.val < 38 then
            if r.val < 36 then
              4182#32
            else
              if r.val < 37 then
                4816#32
              else
                4848#32
          else
            if r.val < 40 then
              if r.val < 39 then
                4837#32
              else
                4826#32
            else
              if r.val < 41 then
                4838#32
              else
                4827#32
      else
        if r.val < 49 then
          if r.val < 45 then
            if r.val < 43 then
              4859#32
            else
              if r.val < 44 then
                4891#32
              else
                4880#32
          else
            if r.val < 47 then
              if r.val < 46 then
                4869#32
              else
                4881#32
            else
              if r.val < 48 then
                4870#32
              else
                5504#32
        else
          if r.val < 52 then
            if r.val < 50 then
              5536#32
            else
              if r.val < 51 then
                5525#32
              else
                5514#32
          else
            if r.val < 54 then
              if r.val < 53 then
                5526#32
              else
                5515#32
            else
              if r.val < 55 then
                5547#32
              else
                5579#32
  else
    if r.val < 84 then
      if r.val < 70 then
        if r.val < 63 then
          if r.val < 59 then
            if r.val < 57 then
              5568#32
            else
              if r.val < 58 then
                5557#32
              else
                5569#32
          else
            if r.val < 61 then
              if r.val < 60 then
                5558#32
              else
                6192#32
            else
              if r.val < 62 then
                6224#32
              else
                6213#32
        else
          if r.val < 66 then
            if r.val < 64 then
              6202#32
            else
              if r.val < 65 then
                6214#32
              else
                6203#32
          else
            if r.val < 68 then
              if r.val < 67 then
                6235#32
              else
                6267#32
            else
              if r.val < 69 then
                6256#32
              else
                6245#32
      else
        if r.val < 77 then
          if r.val < 73 then
            if r.val < 71 then
              6257#32
            else
              if r.val < 72 then
                6246#32
              else
                6880#32
          else
            if r.val < 75 then
              if r.val < 74 then
                6912#32
              else
                6901#32
            else
              if r.val < 76 then
                6890#32
              else
                6902#32
        else
          if r.val < 80 then
            if r.val < 78 then
              6891#32
            else
              if r.val < 79 then
                6923#32
              else
                6955#32
          else
            if r.val < 82 then
              if r.val < 81 then
                6944#32
              else
                6933#32
            else
              if r.val < 83 then
                6945#32
              else
                6934#32
    else
      if r.val < 98 then
        if r.val < 91 then
          if r.val < 87 then
            if r.val < 85 then
              7568#32
            else
              if r.val < 86 then
                7600#32
              else
                7589#32
          else
            if r.val < 89 then
              if r.val < 88 then
                7578#32
              else
                7590#32
            else
              if r.val < 90 then
                7579#32
              else
                7611#32
        else
          if r.val < 94 then
            if r.val < 92 then
              7643#32
            else
              if r.val < 93 then
                7632#32
              else
                7621#32
          else
            if r.val < 96 then
              if r.val < 95 then
                7633#32
              else
                7622#32
            else
              if r.val < 97 then
                2785#32
              else
                2828#32
      else
        if r.val < 105 then
          if r.val < 101 then
            if r.val < 99 then
              3473#32
            else
              if r.val < 100 then
                3516#32
              else
                4161#32
          else
            if r.val < 103 then
              if r.val < 102 then
                4204#32
              else
                4849#32
            else
              if r.val < 104 then
                4892#32
              else
                5537#32
        else
          if r.val < 108 then
            if r.val < 106 then
              5580#32
            else
              if r.val < 107 then
                6225#32
              else
                6268#32
          else
            if r.val < 110 then
              if r.val < 109 then
                6913#32
              else
                6956#32
            else
              if r.val < 111 then
                7601#32
              else
                7644#32
def k0_off7 (k0_t2 : Fin k0_t2_loop.trips) (c0_i32_6534_r0 : BitVec 32) : Fin 4 → Nat :=
  let c4_i32_6533_r0 : BitVec 32 := 4#32
  let c0_i32_1352_r0 : BitVec 32 := 0#32
  let c1_i32_1354_r0 : BitVec 32 := 1#32
  let arg14_r0 : BitVec 32 := Scf.iv c0_i32_1352_r0 c1_i32_1354_r0 k0_t2
  let v20604_r0 : BitVec 32 := Scalar.muli c4_i32_6533_r0 arg14_r0
  let v20605_r0 : BitVec 32 := Scalar.addi v20604_r0 c0_i32_6534_r0
  let v20609_r0 : Index := Scalar.indexCast v20605_r0
  let c0_6535_r0 : Index := 0#32
  let c0_6536_r0 : Index := 0#32
  let c0_6537_r0 : Index := 0#32
  ![v20609_r0.toNat, 0, 0, 0]
def k0_off8 (k0_t2 : Fin k0_t2_loop.trips) (c0_i32_6534_r0 : BitVec 32) : Fin 4 → Nat :=
  let c4_i32_6533_r0 : BitVec 32 := 4#32
  let c0_i32_1352_r0 : BitVec 32 := 0#32
  let c1_i32_1354_r0 : BitVec 32 := 1#32
  let arg14_r0 : BitVec 32 := Scf.iv c0_i32_1352_r0 c1_i32_1354_r0 k0_t2
  let v20604_r0 : BitVec 32 := Scalar.muli c4_i32_6533_r0 arg14_r0
  let v20605_r0 : BitVec 32 := Scalar.addi v20604_r0 c0_i32_6534_r0
  let v20613_r0 : Index := Scalar.indexCast v20605_r0
  let c1_6538_r0 : Index := 1#32
  let c0_6539_r0 : Index := 0#32
  let c0_6540_r0 : Index := 0#32
  ![v20613_r0.toNat, 1, 0, 0]
def k0_off9 (k0_t2 : Fin k0_t2_loop.trips) (c0_i32_6548_r0 : BitVec 32) : Fin 4 → Nat :=
  let c4_i32_6547_r0 : BitVec 32 := 4#32
  let c0_i32_1352_r0 : BitVec 32 := 0#32
  let c1_i32_1354_r0 : BitVec 32 := 1#32
  let arg14_r0 : BitVec 32 := Scf.iv c0_i32_1352_r0 c1_i32_1354_r0 k0_t2
  let v20625_r0 : BitVec 32 := Scalar.muli c4_i32_6547_r0 arg14_r0
  let v20626_r0 : BitVec 32 := Scalar.addi v20625_r0 c0_i32_6548_r0
  let c2_i32_6549_r0 : BitVec 32 := 2#32
  let v20627_r0 : BitVec 32 := Scalar.addi v20626_r0 c2_i32_6549_r0
  let v20631_r0 : Index := Scalar.indexCast v20627_r0
  let c0_6550_r0 : Index := 0#32
  let c0_6551_r0 : Index := 0#32
  let c0_6552_r0 : Index := 0#32
  ![v20631_r0.toNat, 0, 0, 0]
def k0_off10 (k0_t2 : Fin k0_t2_loop.trips) (c0_i32_6548_r0 : BitVec 32) : Fin 4 → Nat :=
  let c4_i32_6547_r0 : BitVec 32 := 4#32
  let c0_i32_1352_r0 : BitVec 32 := 0#32
  let c1_i32_1354_r0 : BitVec 32 := 1#32
  let arg14_r0 : BitVec 32 := Scf.iv c0_i32_1352_r0 c1_i32_1354_r0 k0_t2
  let v20625_r0 : BitVec 32 := Scalar.muli c4_i32_6547_r0 arg14_r0
  let v20626_r0 : BitVec 32 := Scalar.addi v20625_r0 c0_i32_6548_r0
  let c2_i32_6549_r0 : BitVec 32 := 2#32
  let v20627_r0 : BitVec 32 := Scalar.addi v20626_r0 c2_i32_6549_r0
  let v20635_r0 : Index := Scalar.indexCast v20627_r0
  let c1_6553_r0 : Index := 1#32
  let c0_6554_r0 : Index := 0#32
  let c0_6555_r0 : Index := 0#32
  ![v20635_r0.toNat, 1, 0, 0]
@[reducible] def k0_t3_loop : Scf.Loop 32 :=
  let c0_i32_1965_r0 : BitVec 32 := 0#32
  let c10_i32_1966_r0 : BitVec 32 := 10#32
  let v5191_r0 : BitVec 32 := Scalar.addi c0_i32_1965_r0 c10_i32_1966_r0
  let c1_i32_1967_r0 : BitVec 32 := 1#32
  ⟨c0_i32_1965_r0, v5191_r0, c1_i32_1967_r0⟩
def k0_off11 (k0_t3 : Fin k0_t3_loop.trips) (c8256_i32_5814_r0 : BitVec 32) : Fin 2 → Nat :=
  let c0_i32_1965_r0 : BitVec 32 := 0#32
  let c1_i32_1967_r0 : BitVec 32 := 1#32
  let arg14_r0 : BitVec 32 := Scf.iv c0_i32_1965_r0 c1_i32_1967_r0 k0_t3
  let v17764_r0 : BitVec 32 := Scalar.addi c8256_i32_5814_r0 arg14_r0
  let v17765_r0 : Index := Scalar.indexCast v17764_r0
  let c0_5815_r0 : Index := 0#32
  ![v17765_r0.toNat, 0]
def k0_off11_at (r : Fin 168) : BitVec 32 :=
  if r.val < 84 then
    if r.val < 42 then
      if r.val < 21 then
        if r.val < 10 then
          if r.val < 5 then
            if r.val < 2 then
              if r.val < 1 then
                8256#32
              else
                8288#32
            else
              if r.val < 3 then
                8277#32
              else
                if r.val < 4 then
                  8266#32
                else
                  8278#32
          else
            if r.val < 7 then
              if r.val < 6 then
                8267#32
              else
                8299#32
            else
              if r.val < 8 then
                8331#32
              else
                if r.val < 9 then
                  8320#32
                else
                  8309#32
        else
          if r.val < 15 then
            if r.val < 12 then
              if r.val < 11 then
                8321#32
              else
                8310#32
            else
              if r.val < 13 then
                8944#32
              else
                if r.val < 14 then
                  8976#32
                else
                  8965#32
          else
            if r.val < 18 then
              if r.val < 16 then
                8954#32
              else
                if r.val < 17 then
                  8966#32
                else
                  8955#32
            else
              if r.val < 19 then
                8987#32
              else
                if r.val < 20 then
                  9019#32
                else
                  9008#32
      else
        if r.val < 31 then
          if r.val < 26 then
            if r.val < 23 then
              if r.val < 22 then
                8997#32
              else
                9009#32
            else
              if r.val < 24 then
                8998#32
              else
                if r.val < 25 then
                  9632#32
                else
                  9664#32
          else
            if r.val < 28 then
              if r.val < 27 then
                9653#32
              else
                9642#32
            else
              if r.val < 29 then
                9654#32
              else
                if r.val < 30 then
                  9643#32
                else
                  9675#32
        else
          if r.val < 36 then
            if r.val < 33 then
              if r.val < 32 then
                9707#32
              else
                9696#32
            else
              if r.val < 34 then
                9685#32
              else
                if r.val < 35 then
                  9697#32
                else
                  9686#32
          else
            if r.val < 39 then
              if r.val < 37 then
                10320#32
              else
                if r.val < 38 then
                  10352#32
                else
                  10341#32
            else
              if r.val < 40 then
                10330#32
              else
                if r.val < 41 then
                  10342#32
                else
                  10331#32
    else
      if r.val < 63 then
        if r.val < 52 then
          if r.val < 47 then
            if r.val < 44 then
              if r.val < 43 then
                10363#32
              else
                10395#32
            else
              if r.val < 45 then
                10384#32
              else
                if r.val < 46 then
                  10373#32
                else
                  10385#32
          else
            if r.val < 49 then
              if r.val < 48 then
                10374#32
              else
                11008#32
            else
              if r.val < 50 then
                11040#32
              else
                if r.val < 51 then
                  11029#32
                else
                  11018#32
        else
          if r.val < 57 then
            if r.val < 54 then
              if r.val < 53 then
                11030#32
              else
                11019#32
            else
              if r.val < 55 then
                11051#32
              else
                if r.val < 56 then
                  11083#32
                else
                  11072#32
          else
            if r.val < 60 then
              if r.val < 58 then
                11061#32
              else
                if r.val < 59 then
                  11073#32
                else
                  11062#32
            else
              if r.val < 61 then
                11696#32
              else
                if r.val < 62 then
                  11728#32
                else
                  11717#32
      else
        if r.val < 73 then
          if r.val < 68 then
            if r.val < 65 then
              if r.val < 64 then
                11706#32
              else
                11718#32
            else
              if r.val < 66 then
                11707#32
              else
                if r.val < 67 then
                  11739#32
                else
                  11771#32
          else
            if r.val < 70 then
              if r.val < 69 then
                11760#32
              else
                11749#32
            else
              if r.val < 71 then
                11761#32
              else
                if r.val < 72 then
                  11750#32
                else
                  12384#32
        else
          if r.val < 78 then
            if r.val < 75 then
              if r.val < 74 then
                12416#32
              else
                12405#32
            else
              if r.val < 76 then
                12394#32
              else
                if r.val < 77 then
                  12406#32
                else
                  12395#32
          else
            if r.val < 81 then
              if r.val < 79 then
                12427#32
              else
                if r.val < 80 then
                  12459#32
                else
                  12448#32
            else
              if r.val < 82 then
                12437#32
              else
                if r.val < 83 then
                  12449#32
                else
                  12438#32
  else
    if r.val < 126 then
      if r.val < 105 then
        if r.val < 94 then
          if r.val < 89 then
            if r.val < 86 then
              if r.val < 85 then
                13072#32
              else
                13104#32
            else
              if r.val < 87 then
                13093#32
              else
                if r.val < 88 then
                  13082#32
                else
                  13094#32
          else
            if r.val < 91 then
              if r.val < 90 then
                13083#32
              else
                13115#32
            else
              if r.val < 92 then
                13147#32
              else
                if r.val < 93 then
                  13136#32
                else
                  13125#32
        else
          if r.val < 99 then
            if r.val < 96 then
              if r.val < 95 then
                13137#32
              else
                13126#32
            else
              if r.val < 97 then
                13760#32
              else
                if r.val < 98 then
                  13792#32
                else
                  13781#32
          else
            if r.val < 102 then
              if r.val < 100 then
                13770#32
              else
                if r.val < 101 then
                  13782#32
                else
                  13771#32
            else
              if r.val < 103 then
                13803#32
              else
                if r.val < 104 then
                  13835#32
                else
                  13824#32
      else
        if r.val < 115 then
          if r.val < 110 then
            if r.val < 107 then
              if r.val < 106 then
                13813#32
              else
                13825#32
            else
              if r.val < 108 then
                13814#32
              else
                if r.val < 109 then
                  14448#32
                else
                  14480#32
          else
            if r.val < 112 then
              if r.val < 111 then
                14469#32
              else
                14458#32
            else
              if r.val < 113 then
                14470#32
              else
                if r.val < 114 then
                  14459#32
                else
                  14491#32
        else
          if r.val < 120 then
            if r.val < 117 then
              if r.val < 116 then
                14523#32
              else
                14512#32
            else
              if r.val < 118 then
                14501#32
              else
                if r.val < 119 then
                  14513#32
                else
                  14502#32
          else
            if r.val < 123 then
              if r.val < 121 then
                15136#32
              else
                if r.val < 122 then
                  15168#32
                else
                  15157#32
            else
              if r.val < 124 then
                15146#32
              else
                if r.val < 125 then
                  15158#32
                else
                  15147#32
    else
      if r.val < 147 then
        if r.val < 136 then
          if r.val < 131 then
            if r.val < 128 then
              if r.val < 127 then
                15179#32
              else
                15211#32
            else
              if r.val < 129 then
                15200#32
              else
                if r.val < 130 then
                  15189#32
                else
                  15201#32
          else
            if r.val < 133 then
              if r.val < 132 then
                15190#32
              else
                15824#32
            else
              if r.val < 134 then
                15856#32
              else
                if r.val < 135 then
                  15845#32
                else
                  15834#32
        else
          if r.val < 141 then
            if r.val < 138 then
              if r.val < 137 then
                15846#32
              else
                15835#32
            else
              if r.val < 139 then
                15867#32
              else
                if r.val < 140 then
                  15899#32
                else
                  15888#32
          else
            if r.val < 144 then
              if r.val < 142 then
                15877#32
              else
                if r.val < 143 then
                  15889#32
                else
                  15878#32
            else
              if r.val < 145 then
                8289#32
              else
                if r.val < 146 then
                  8332#32
                else
                  8977#32
      else
        if r.val < 157 then
          if r.val < 152 then
            if r.val < 149 then
              if r.val < 148 then
                9020#32
              else
                9665#32
            else
              if r.val < 150 then
                9708#32
              else
                if r.val < 151 then
                  10353#32
                else
                  10396#32
          else
            if r.val < 154 then
              if r.val < 153 then
                11041#32
              else
                11084#32
            else
              if r.val < 155 then
                11729#32
              else
                if r.val < 156 then
                  11772#32
                else
                  12417#32
        else
          if r.val < 162 then
            if r.val < 159 then
              if r.val < 158 then
                12460#32
              else
                13105#32
            else
              if r.val < 160 then
                13148#32
              else
                if r.val < 161 then
                  13793#32
                else
                  13836#32
          else
            if r.val < 165 then
              if r.val < 163 then
                14481#32
              else
                if r.val < 164 then
                  14524#32
                else
                  15169#32
            else
              if r.val < 166 then
                15212#32
              else
                if r.val < 167 then
                  15857#32
                else
                  15900#32
def k0_off12 (k0_t3 : Fin k0_t3_loop.trips) (c0_i32_6894_r0 : BitVec 32) : Fin 4 → Nat :=
  let c4_i32_6893_r0 : BitVec 32 := 4#32
  let c0_i32_1965_r0 : BitVec 32 := 0#32
  let c1_i32_1967_r0 : BitVec 32 := 1#32
  let arg14_r0 : BitVec 32 := Scf.iv c0_i32_1965_r0 c1_i32_1967_r0 k0_t3
  let v22024_r0 : BitVec 32 := Scalar.muli c4_i32_6893_r0 arg14_r0
  let v22025_r0 : BitVec 32 := Scalar.addi v22024_r0 c0_i32_6894_r0
  let v22029_r0 : Index := Scalar.indexCast v22025_r0
  let c0_6895_r0 : Index := 0#32
  let c0_6896_r0 : Index := 0#32
  let c0_6897_r0 : Index := 0#32
  ![v22029_r0.toNat, 0, 0, 0]
def k0_off13 (k0_t3 : Fin k0_t3_loop.trips) (c0_i32_6894_r0 : BitVec 32) : Fin 4 → Nat :=
  let c4_i32_6893_r0 : BitVec 32 := 4#32
  let c0_i32_1965_r0 : BitVec 32 := 0#32
  let c1_i32_1967_r0 : BitVec 32 := 1#32
  let arg14_r0 : BitVec 32 := Scf.iv c0_i32_1965_r0 c1_i32_1967_r0 k0_t3
  let v22024_r0 : BitVec 32 := Scalar.muli c4_i32_6893_r0 arg14_r0
  let v22025_r0 : BitVec 32 := Scalar.addi v22024_r0 c0_i32_6894_r0
  let v22033_r0 : Index := Scalar.indexCast v22025_r0
  let c1_6898_r0 : Index := 1#32
  let c0_6899_r0 : Index := 0#32
  let c0_6900_r0 : Index := 0#32
  ![v22033_r0.toNat, 1, 0, 0]
def k0_off14 (k0_t3 : Fin k0_t3_loop.trips) (c0_i32_6908_r0 : BitVec 32) : Fin 4 → Nat :=
  let c4_i32_6907_r0 : BitVec 32 := 4#32
  let c0_i32_1965_r0 : BitVec 32 := 0#32
  let c1_i32_1967_r0 : BitVec 32 := 1#32
  let arg14_r0 : BitVec 32 := Scf.iv c0_i32_1965_r0 c1_i32_1967_r0 k0_t3
  let v22045_r0 : BitVec 32 := Scalar.muli c4_i32_6907_r0 arg14_r0
  let v22046_r0 : BitVec 32 := Scalar.addi v22045_r0 c0_i32_6908_r0
  let c2_i32_6909_r0 : BitVec 32 := 2#32
  let v22047_r0 : BitVec 32 := Scalar.addi v22046_r0 c2_i32_6909_r0
  let v22051_r0 : Index := Scalar.indexCast v22047_r0
  let c0_6910_r0 : Index := 0#32
  let c0_6911_r0 : Index := 0#32
  let c0_6912_r0 : Index := 0#32
  ![v22051_r0.toNat, 0, 0, 0]
def k0_off15 (k0_t3 : Fin k0_t3_loop.trips) (c0_i32_6908_r0 : BitVec 32) : Fin 4 → Nat :=
  let c4_i32_6907_r0 : BitVec 32 := 4#32
  let c0_i32_1965_r0 : BitVec 32 := 0#32
  let c1_i32_1967_r0 : BitVec 32 := 1#32
  let arg14_r0 : BitVec 32 := Scf.iv c0_i32_1965_r0 c1_i32_1967_r0 k0_t3
  let v22045_r0 : BitVec 32 := Scalar.muli c4_i32_6907_r0 arg14_r0
  let v22046_r0 : BitVec 32 := Scalar.addi v22045_r0 c0_i32_6908_r0
  let c2_i32_6909_r0 : BitVec 32 := 2#32
  let v22047_r0 : BitVec 32 := Scalar.addi v22046_r0 c2_i32_6909_r0
  let v22055_r0 : Index := Scalar.indexCast v22047_r0
  let c1_6913_r0 : Index := 1#32
  let c0_6914_r0 : Index := 0#32
  let c0_6915_r0 : Index := 0#32
  ![v22055_r0.toNat, 1, 0, 0]
@[reducible] def k0_t4_loop : Scf.Loop 32 :=
  let c0_i32_2854_r0 : BitVec 32 := 0#32
  let c10_i32_2855_r0 : BitVec 32 := 10#32
  let v8067_r0 : BitVec 32 := Scalar.addi c0_i32_2854_r0 c10_i32_2855_r0
  let c1_i32_2856_r0 : BitVec 32 := 1#32
  ⟨c0_i32_2854_r0, v8067_r0, c1_i32_2856_r0⟩
def k0_off16 (k0_t4 : Fin k0_t4_loop.trips) (c16512_i32_5814_r0 : BitVec 32) : Fin 2 → Nat :=
  let c0_i32_2854_r0 : BitVec 32 := 0#32
  let c1_i32_2856_r0 : BitVec 32 := 1#32
  let arg14_r0 : BitVec 32 := Scf.iv c0_i32_2854_r0 c1_i32_2856_r0 k0_t4
  let v17764_r0 : BitVec 32 := Scalar.addi c16512_i32_5814_r0 arg14_r0
  let v17765_r0 : Index := Scalar.indexCast v17764_r0
  let c0_5815_r0 : Index := 0#32
  ![v17765_r0.toNat, 0]
def k0_off16_at (r : Fin 224) : BitVec 32 :=
  if r.val < 112 then
    if r.val < 56 then
      if r.val < 28 then
        if r.val < 14 then
          if r.val < 7 then
            if r.val < 3 then
              if r.val < 1 then
                16512#32
              else
                if r.val < 2 then
                  16544#32
                else
                  16533#32
            else
              if r.val < 5 then
                if r.val < 4 then
                  16522#32
                else
                  16534#32
              else
                if r.val < 6 then
                  16523#32
                else
                  16555#32
          else
            if r.val < 10 then
              if r.val < 8 then
                16587#32
              else
                if r.val < 9 then
                  16576#32
                else
                  16565#32
            else
              if r.val < 12 then
                if r.val < 11 then
                  16577#32
                else
                  16566#32
              else
                if r.val < 13 then
                  17200#32
                else
                  17232#32
        else
          if r.val < 21 then
            if r.val < 17 then
              if r.val < 15 then
                17221#32
              else
                if r.val < 16 then
                  17210#32
                else
                  17222#32
            else
              if r.val < 19 then
                if r.val < 18 then
                  17211#32
                else
                  17243#32
              else
                if r.val < 20 then
                  17275#32
                else
                  17264#32
          else
            if r.val < 24 then
              if r.val < 22 then
                17253#32
              else
                if r.val < 23 then
                  17265#32
                else
                  17254#32
            else
              if r.val < 26 then
                if r.val < 25 then
                  17888#32
                else
                  17920#32
              else
                if r.val < 27 then
                  17909#32
                else
                  17898#32
      else
        if r.val < 42 then
          if r.val < 35 then
            if r.val < 31 then
              if r.val < 29 then
                17910#32
              else
                if r.val < 30 then
                  17899#32
                else
                  17931#32
            else
              if r.val < 33 then
                if r.val < 32 then
                  17963#32
                else
                  17952#32
              else
                if r.val < 34 then
                  17941#32
                else
                  17953#32
          else
            if r.val < 38 then
              if r.val < 36 then
                17942#32
              else
                if r.val < 37 then
                  18576#32
                else
                  18608#32
            else
              if r.val < 40 then
                if r.val < 39 then
                  18597#32
                else
                  18586#32
              else
                if r.val < 41 then
                  18598#32
                else
                  18587#32
        else
          if r.val < 49 then
            if r.val < 45 then
              if r.val < 43 then
                18619#32
              else
                if r.val < 44 then
                  18651#32
                else
                  18640#32
            else
              if r.val < 47 then
                if r.val < 46 then
                  18629#32
                else
                  18641#32
              else
                if r.val < 48 then
                  18630#32
                else
                  19264#32
          else
            if r.val < 52 then
              if r.val < 50 then
                19296#32
              else
                if r.val < 51 then
                  19285#32
                else
                  19274#32
            else
              if r.val < 54 then
                if r.val < 53 then
                  19286#32
                else
                  19275#32
              else
                if r.val < 55 then
                  19307#32
                else
                  19339#32
    else
      if r.val < 84 then
        if r.val < 70 then
          if r.val < 63 then
            if r.val < 59 then
              if r.val < 57 then
                19328#32
              else
                if r.val < 58 then
                  19317#32
                else
                  19329#32
            else
              if r.val < 61 then
                if r.val < 60 then
                  19318#32
                else
                  19952#32
              else
                if r.val < 62 then
                  19984#32
                else
                  19973#32
          else
            if r.val < 66 then
              if r.val < 64 then
                19962#32
              else
                if r.val < 65 then
                  19974#32
                else
                  19963#32
            else
              if r.val < 68 then
                if r.val < 67 then
                  19995#32
                else
                  20027#32
              else
                if r.val < 69 then
                  20016#32
                else
                  20005#32
        else
          if r.val < 77 then
            if r.val < 73 then
              if r.val < 71 then
                20017#32
              else
                if r.val < 72 then
                  20006#32
                else
                  20640#32
            else
              if r.val < 75 then
                if r.val < 74 then
                  20672#32
                else
                  20661#32
              else
                if r.val < 76 then
                  20650#32
                else
                  20662#32
          else
            if r.val < 80 then
              if r.val < 78 then
                20651#32
              else
                if r.val < 79 then
                  20683#32
                else
                  20715#32
            else
              if r.val < 82 then
                if r.val < 81 then
                  20704#32
                else
                  20693#32
              else
                if r.val < 83 then
                  20705#32
                else
                  20694#32
      else
        if r.val < 98 then
          if r.val < 91 then
            if r.val < 87 then
              if r.val < 85 then
                21328#32
              else
                if r.val < 86 then
                  21360#32
                else
                  21349#32
            else
              if r.val < 89 then
                if r.val < 88 then
                  21338#32
                else
                  21350#32
              else
                if r.val < 90 then
                  21339#32
                else
                  21371#32
          else
            if r.val < 94 then
              if r.val < 92 then
                21403#32
              else
                if r.val < 93 then
                  21392#32
                else
                  21381#32
            else
              if r.val < 96 then
                if r.val < 95 then
                  21393#32
                else
                  21382#32
              else
                if r.val < 97 then
                  22016#32
                else
                  22048#32
        else
          if r.val < 105 then
            if r.val < 101 then
              if r.val < 99 then
                22037#32
              else
                if r.val < 100 then
                  22026#32
                else
                  22038#32
            else
              if r.val < 103 then
                if r.val < 102 then
                  22027#32
                else
                  22059#32
              else
                if r.val < 104 then
                  22091#32
                else
                  22080#32
          else
            if r.val < 108 then
              if r.val < 106 then
                22069#32
              else
                if r.val < 107 then
                  22081#32
                else
                  22070#32
            else
              if r.val < 110 then
                if r.val < 109 then
                  22704#32
                else
                  22736#32
              else
                if r.val < 111 then
                  22725#32
                else
                  22714#32
  else
    if r.val < 168 then
      if r.val < 140 then
        if r.val < 126 then
          if r.val < 119 then
            if r.val < 115 then
              if r.val < 113 then
                22726#32
              else
                if r.val < 114 then
                  22715#32
                else
                  22747#32
            else
              if r.val < 117 then
                if r.val < 116 then
                  22779#32
                else
                  22768#32
              else
                if r.val < 118 then
                  22757#32
                else
                  22769#32
          else
            if r.val < 122 then
              if r.val < 120 then
                22758#32
              else
                if r.val < 121 then
                  23392#32
                else
                  23424#32
            else
              if r.val < 124 then
                if r.val < 123 then
                  23413#32
                else
                  23402#32
              else
                if r.val < 125 then
                  23414#32
                else
                  23403#32
        else
          if r.val < 133 then
            if r.val < 129 then
              if r.val < 127 then
                23435#32
              else
                if r.val < 128 then
                  23467#32
                else
                  23456#32
            else
              if r.val < 131 then
                if r.val < 130 then
                  23445#32
                else
                  23457#32
              else
                if r.val < 132 then
                  23446#32
                else
                  24080#32
          else
            if r.val < 136 then
              if r.val < 134 then
                24112#32
              else
                if r.val < 135 then
                  24101#32
                else
                  24090#32
            else
              if r.val < 138 then
                if r.val < 137 then
                  24102#32
                else
                  24091#32
              else
                if r.val < 139 then
                  24123#32
                else
                  24155#32
      else
        if r.val < 154 then
          if r.val < 147 then
            if r.val < 143 then
              if r.val < 141 then
                24144#32
              else
                if r.val < 142 then
                  24133#32
                else
                  24145#32
            else
              if r.val < 145 then
                if r.val < 144 then
                  24134#32
                else
                  24768#32
              else
                if r.val < 146 then
                  24800#32
                else
                  24789#32
          else
            if r.val < 150 then
              if r.val < 148 then
                24778#32
              else
                if r.val < 149 then
                  24790#32
                else
                  24779#32
            else
              if r.val < 152 then
                if r.val < 151 then
                  24811#32
                else
                  24843#32
              else
                if r.val < 153 then
                  24832#32
                else
                  24821#32
        else
          if r.val < 161 then
            if r.val < 157 then
              if r.val < 155 then
                24833#32
              else
                if r.val < 156 then
                  24822#32
                else
                  25456#32
            else
              if r.val < 159 then
                if r.val < 158 then
                  25488#32
                else
                  25477#32
              else
                if r.val < 160 then
                  25466#32
                else
                  25478#32
          else
            if r.val < 164 then
              if r.val < 162 then
                25467#32
              else
                if r.val < 163 then
                  25499#32
                else
                  25531#32
            else
              if r.val < 166 then
                if r.val < 165 then
                  25520#32
                else
                  25509#32
              else
                if r.val < 167 then
                  25521#32
                else
                  25510#32
    else
      if r.val < 196 then
        if r.val < 182 then
          if r.val < 175 then
            if r.val < 171 then
              if r.val < 169 then
                26144#32
              else
                if r.val < 170 then
                  26176#32
                else
                  26165#32
            else
              if r.val < 173 then
                if r.val < 172 then
                  26154#32
                else
                  26166#32
              else
                if r.val < 174 then
                  26155#32
                else
                  26187#32
          else
            if r.val < 178 then
              if r.val < 176 then
                26219#32
              else
                if r.val < 177 then
                  26208#32
                else
                  26197#32
            else
              if r.val < 180 then
                if r.val < 179 then
                  26209#32
                else
                  26198#32
              else
                if r.val < 181 then
                  26832#32
                else
                  26864#32
        else
          if r.val < 189 then
            if r.val < 185 then
              if r.val < 183 then
                26853#32
              else
                if r.val < 184 then
                  26842#32
                else
                  26854#32
            else
              if r.val < 187 then
                if r.val < 186 then
                  26843#32
                else
                  26875#32
              else
                if r.val < 188 then
                  26907#32
                else
                  26896#32
          else
            if r.val < 192 then
              if r.val < 190 then
                26885#32
              else
                if r.val < 191 then
                  26897#32
                else
                  26886#32
            else
              if r.val < 194 then
                if r.val < 193 then
                  16545#32
                else
                  16588#32
              else
                if r.val < 195 then
                  17233#32
                else
                  17276#32
      else
        if r.val < 210 then
          if r.val < 203 then
            if r.val < 199 then
              if r.val < 197 then
                17921#32
              else
                if r.val < 198 then
                  17964#32
                else
                  18609#32
            else
              if r.val < 201 then
                if r.val < 200 then
                  18652#32
                else
                  19297#32
              else
                if r.val < 202 then
                  19340#32
                else
                  19985#32
          else
            if r.val < 206 then
              if r.val < 204 then
                20028#32
              else
                if r.val < 205 then
                  20673#32
                else
                  20716#32
            else
              if r.val < 208 then
                if r.val < 207 then
                  21361#32
                else
                  21404#32
              else
                if r.val < 209 then
                  22049#32
                else
                  22092#32
        else
          if r.val < 217 then
            if r.val < 213 then
              if r.val < 211 then
                22737#32
              else
                if r.val < 212 then
                  22780#32
                else
                  23425#32
            else
              if r.val < 215 then
                if r.val < 214 then
                  23468#32
                else
                  24113#32
              else
                if r.val < 216 then
                  24156#32
                else
                  24801#32
          else
            if r.val < 220 then
              if r.val < 218 then
                24844#32
              else
                if r.val < 219 then
                  25489#32
                else
                  25532#32
            else
              if r.val < 222 then
                if r.val < 221 then
                  26177#32
                else
                  26220#32
              else
                if r.val < 223 then
                  26865#32
                else
                  26908#32
def k0_off17 (k0_t4 : Fin k0_t4_loop.trips) (c0_i32_7254_r0 : BitVec 32) : Fin 4 → Nat :=
  let c4_i32_7253_r0 : BitVec 32 := 4#32
  let c0_i32_2854_r0 : BitVec 32 := 0#32
  let c1_i32_2856_r0 : BitVec 32 := 1#32
  let arg14_r0 : BitVec 32 := Scf.iv c0_i32_2854_r0 c1_i32_2856_r0 k0_t4
  let v23444_r0 : BitVec 32 := Scalar.muli c4_i32_7253_r0 arg14_r0
  let v23445_r0 : BitVec 32 := Scalar.addi v23444_r0 c0_i32_7254_r0
  let v23449_r0 : Index := Scalar.indexCast v23445_r0
  let c0_7255_r0 : Index := 0#32
  let c0_7256_r0 : Index := 0#32
  let c0_7257_r0 : Index := 0#32
  ![v23449_r0.toNat, 0, 0, 0]
def k0_off18 (k0_t4 : Fin k0_t4_loop.trips) (c0_i32_7254_r0 : BitVec 32) : Fin 4 → Nat :=
  let c4_i32_7253_r0 : BitVec 32 := 4#32
  let c0_i32_2854_r0 : BitVec 32 := 0#32
  let c1_i32_2856_r0 : BitVec 32 := 1#32
  let arg14_r0 : BitVec 32 := Scf.iv c0_i32_2854_r0 c1_i32_2856_r0 k0_t4
  let v23444_r0 : BitVec 32 := Scalar.muli c4_i32_7253_r0 arg14_r0
  let v23445_r0 : BitVec 32 := Scalar.addi v23444_r0 c0_i32_7254_r0
  let v23453_r0 : Index := Scalar.indexCast v23445_r0
  let c1_7258_r0 : Index := 1#32
  let c0_7259_r0 : Index := 0#32
  let c0_7260_r0 : Index := 0#32
  ![v23453_r0.toNat, 1, 0, 0]
def k0_off19 (k0_t4 : Fin k0_t4_loop.trips) (c0_i32_7268_r0 : BitVec 32) : Fin 4 → Nat :=
  let c4_i32_7267_r0 : BitVec 32 := 4#32
  let c0_i32_2854_r0 : BitVec 32 := 0#32
  let c1_i32_2856_r0 : BitVec 32 := 1#32
  let arg14_r0 : BitVec 32 := Scf.iv c0_i32_2854_r0 c1_i32_2856_r0 k0_t4
  let v23465_r0 : BitVec 32 := Scalar.muli c4_i32_7267_r0 arg14_r0
  let v23466_r0 : BitVec 32 := Scalar.addi v23465_r0 c0_i32_7268_r0
  let c2_i32_7269_r0 : BitVec 32 := 2#32
  let v23467_r0 : BitVec 32 := Scalar.addi v23466_r0 c2_i32_7269_r0
  let v23471_r0 : Index := Scalar.indexCast v23467_r0
  let c0_7270_r0 : Index := 0#32
  let c0_7271_r0 : Index := 0#32
  let c0_7272_r0 : Index := 0#32
  ![v23471_r0.toNat, 0, 0, 0]
def k0_off20 (k0_t4 : Fin k0_t4_loop.trips) (c0_i32_7268_r0 : BitVec 32) : Fin 4 → Nat :=
  let c4_i32_7267_r0 : BitVec 32 := 4#32
  let c0_i32_2854_r0 : BitVec 32 := 0#32
  let c1_i32_2856_r0 : BitVec 32 := 1#32
  let arg14_r0 : BitVec 32 := Scf.iv c0_i32_2854_r0 c1_i32_2856_r0 k0_t4
  let v23465_r0 : BitVec 32 := Scalar.muli c4_i32_7267_r0 arg14_r0
  let v23466_r0 : BitVec 32 := Scalar.addi v23465_r0 c0_i32_7268_r0
  let c2_i32_7269_r0 : BitVec 32 := 2#32
  let v23467_r0 : BitVec 32 := Scalar.addi v23466_r0 c2_i32_7269_r0
  let v23475_r0 : Index := Scalar.indexCast v23467_r0
  let c1_7273_r0 : Index := 1#32
  let c0_7274_r0 : Index := 0#32
  let c0_7275_r0 : Index := 0#32
  ![v23475_r0.toNat, 1, 0, 0]
@[reducible] def k0_t5_loop : Scf.Loop 32 :=
  let c0_i32_4020_r0 : BitVec 32 := 0#32
  let c10_i32_4021_r0 : BitVec 32 := 10#32
  let v11885_r0 : BitVec 32 := Scalar.addi c0_i32_4020_r0 c10_i32_4021_r0
  let c1_i32_4022_r0 : BitVec 32 := 1#32
  ⟨c0_i32_4020_r0, v11885_r0, c1_i32_4022_r0⟩
def k0_off21 (k0_t5 : Fin k0_t5_loop.trips) (c27520_i32_5814_r0 : BitVec 32) : Fin 2 → Nat :=
  let c0_i32_4020_r0 : BitVec 32 := 0#32
  let c1_i32_4022_r0 : BitVec 32 := 1#32
  let arg14_r0 : BitVec 32 := Scf.iv c0_i32_4020_r0 c1_i32_4022_r0 k0_t5
  let v17764_r0 : BitVec 32 := Scalar.addi c27520_i32_5814_r0 arg14_r0
  let v17765_r0 : Index := Scalar.indexCast v17764_r0
  let c0_5815_r0 : Index := 0#32
  ![v17765_r0.toNat, 0]
def k0_off21_at (r : Fin 336) : BitVec 32 :=
  if r.val < 168 then
    if r.val < 84 then
      if r.val < 42 then
        if r.val < 21 then
          if r.val < 10 then
            if r.val < 5 then
              if r.val < 2 then
                if r.val < 1 then
                  27520#32
                else
                  27552#32
              else
                if r.val < 3 then
                  27541#32
                else
                  if r.val < 4 then
                    27530#32
                  else
                    27542#32
            else
              if r.val < 7 then
                if r.val < 6 then
                  27531#32
                else
                  27563#32
              else
                if r.val < 8 then
                  27595#32
                else
                  if r.val < 9 then
                    27584#32
                  else
                    27573#32
          else
            if r.val < 15 then
              if r.val < 12 then
                if r.val < 11 then
                  27585#32
                else
                  27574#32
              else
                if r.val < 13 then
                  28208#32
                else
                  if r.val < 14 then
                    28240#32
                  else
                    28229#32
            else
              if r.val < 18 then
                if r.val < 16 then
                  28218#32
                else
                  if r.val < 17 then
                    28230#32
                  else
                    28219#32
              else
                if r.val < 19 then
                  28251#32
                else
                  if r.val < 20 then
                    28283#32
                  else
                    28272#32
        else
          if r.val < 31 then
            if r.val < 26 then
              if r.val < 23 then
                if r.val < 22 then
                  28261#32
                else
                  28273#32
              else
                if r.val < 24 then
                  28262#32
                else
                  if r.val < 25 then
                    28896#32
                  else
                    28928#32
            else
              if r.val < 28 then
                if r.val < 27 then
                  28917#32
                else
                  28906#32
              else
                if r.val < 29 then
                  28918#32
                else
                  if r.val < 30 then
                    28907#32
                  else
                    28939#32
          else
            if r.val < 36 then
              if r.val < 33 then
                if r.val < 32 then
                  28971#32
                else
                  28960#32
              else
                if r.val < 34 then
                  28949#32
                else
                  if r.val < 35 then
                    28961#32
                  else
                    28950#32
            else
              if r.val < 39 then
                if r.val < 37 then
                  29584#32
                else
                  if r.val < 38 then
                    29616#32
                  else
                    29605#32
              else
                if r.val < 40 then
                  29594#32
                else
                  if r.val < 41 then
                    29606#32
                  else
                    29595#32
      else
        if r.val < 63 then
          if r.val < 52 then
            if r.val < 47 then
              if r.val < 44 then
                if r.val < 43 then
                  29627#32
                else
                  29659#32
              else
                if r.val < 45 then
                  29648#32
                else
                  if r.val < 46 then
                    29637#32
                  else
                    29649#32
            else
              if r.val < 49 then
                if r.val < 48 then
                  29638#32
                else
                  30272#32
              else
                if r.val < 50 then
                  30304#32
                else
                  if r.val < 51 then
                    30293#32
                  else
                    30282#32
          else
            if r.val < 57 then
              if r.val < 54 then
                if r.val < 53 then
                  30294#32
                else
                  30283#32
              else
                if r.val < 55 then
                  30315#32
                else
                  if r.val < 56 then
                    30347#32
                  else
                    30336#32
            else
              if r.val < 60 then
                if r.val < 58 then
                  30325#32
                else
                  if r.val < 59 then
                    30337#32
                  else
                    30326#32
              else
                if r.val < 61 then
                  30960#32
                else
                  if r.val < 62 then
                    30992#32
                  else
                    30981#32
        else
          if r.val < 73 then
            if r.val < 68 then
              if r.val < 65 then
                if r.val < 64 then
                  30970#32
                else
                  30982#32
              else
                if r.val < 66 then
                  30971#32
                else
                  if r.val < 67 then
                    31003#32
                  else
                    31035#32
            else
              if r.val < 70 then
                if r.val < 69 then
                  31024#32
                else
                  31013#32
              else
                if r.val < 71 then
                  31025#32
                else
                  if r.val < 72 then
                    31014#32
                  else
                    31648#32
          else
            if r.val < 78 then
              if r.val < 75 then
                if r.val < 74 then
                  31680#32
                else
                  31669#32
              else
                if r.val < 76 then
                  31658#32
                else
                  if r.val < 77 then
                    31670#32
                  else
                    31659#32
            else
              if r.val < 81 then
                if r.val < 79 then
                  31691#32
                else
                  if r.val < 80 then
                    31723#32
                  else
                    31712#32
              else
                if r.val < 82 then
                  31701#32
                else
                  if r.val < 83 then
                    31713#32
                  else
                    31702#32
    else
      if r.val < 126 then
        if r.val < 105 then
          if r.val < 94 then
            if r.val < 89 then
              if r.val < 86 then
                if r.val < 85 then
                  32336#32
                else
                  32368#32
              else
                if r.val < 87 then
                  32357#32
                else
                  if r.val < 88 then
                    32346#32
                  else
                    32358#32
            else
              if r.val < 91 then
                if r.val < 90 then
                  32347#32
                else
                  32379#32
              else
                if r.val < 92 then
                  32411#32
                else
                  if r.val < 93 then
                    32400#32
                  else
                    32389#32
          else
            if r.val < 99 then
              if r.val < 96 then
                if r.val < 95 then
                  32401#32
                else
                  32390#32
              else
                if r.val < 97 then
                  33024#32
                else
                  if r.val < 98 then
                    33056#32
                  else
                    33045#32
            else
              if r.val < 102 then
                if r.val < 100 then
                  33034#32
                else
                  if r.val < 101 then
                    33046#32
                  else
                    33035#32
              else
                if r.val < 103 then
                  33067#32
                else
                  if r.val < 104 then
                    33099#32
                  else
                    33088#32
        else
          if r.val < 115 then
            if r.val < 110 then
              if r.val < 107 then
                if r.val < 106 then
                  33077#32
                else
                  33089#32
              else
                if r.val < 108 then
                  33078#32
                else
                  if r.val < 109 then
                    33712#32
                  else
                    33744#32
            else
              if r.val < 112 then
                if r.val < 111 then
                  33733#32
                else
                  33722#32
              else
                if r.val < 113 then
                  33734#32
                else
                  if r.val < 114 then
                    33723#32
                  else
                    33755#32
          else
            if r.val < 120 then
              if r.val < 117 then
                if r.val < 116 then
                  33787#32
                else
                  33776#32
              else
                if r.val < 118 then
                  33765#32
                else
                  if r.val < 119 then
                    33777#32
                  else
                    33766#32
            else
              if r.val < 123 then
                if r.val < 121 then
                  34400#32
                else
                  if r.val < 122 then
                    34432#32
                  else
                    34421#32
              else
                if r.val < 124 then
                  34410#32
                else
                  if r.val < 125 then
                    34422#32
                  else
                    34411#32
      else
        if r.val < 147 then
          if r.val < 136 then
            if r.val < 131 then
              if r.val < 128 then
                if r.val < 127 then
                  34443#32
                else
                  34475#32
              else
                if r.val < 129 then
                  34464#32
                else
                  if r.val < 130 then
                    34453#32
                  else
                    34465#32
            else
              if r.val < 133 then
                if r.val < 132 then
                  34454#32
                else
                  35088#32
              else
                if r.val < 134 then
                  35120#32
                else
                  if r.val < 135 then
                    35109#32
                  else
                    35098#32
          else
            if r.val < 141 then
              if r.val < 138 then
                if r.val < 137 then
                  35110#32
                else
                  35099#32
              else
                if r.val < 139 then
                  35131#32
                else
                  if r.val < 140 then
                    35163#32
                  else
                    35152#32
            else
              if r.val < 144 then
                if r.val < 142 then
                  35141#32
                else
                  if r.val < 143 then
                    35153#32
                  else
                    35142#32
              else
                if r.val < 145 then
                  35776#32
                else
                  if r.val < 146 then
                    35808#32
                  else
                    35797#32
        else
          if r.val < 157 then
            if r.val < 152 then
              if r.val < 149 then
                if r.val < 148 then
                  35786#32
                else
                  35798#32
              else
                if r.val < 150 then
                  35787#32
                else
                  if r.val < 151 then
                    35819#32
                  else
                    35851#32
            else
              if r.val < 154 then
                if r.val < 153 then
                  35840#32
                else
                  35829#32
              else
                if r.val < 155 then
                  35841#32
                else
                  if r.val < 156 then
                    35830#32
                  else
                    36464#32
          else
            if r.val < 162 then
              if r.val < 159 then
                if r.val < 158 then
                  36496#32
                else
                  36485#32
              else
                if r.val < 160 then
                  36474#32
                else
                  if r.val < 161 then
                    36486#32
                  else
                    36475#32
            else
              if r.val < 165 then
                if r.val < 163 then
                  36507#32
                else
                  if r.val < 164 then
                    36539#32
                  else
                    36528#32
              else
                if r.val < 166 then
                  36517#32
                else
                  if r.val < 167 then
                    36529#32
                  else
                    36518#32
  else
    if r.val < 252 then
      if r.val < 210 then
        if r.val < 189 then
          if r.val < 178 then
            if r.val < 173 then
              if r.val < 170 then
                if r.val < 169 then
                  37152#32
                else
                  37184#32
              else
                if r.val < 171 then
                  37173#32
                else
                  if r.val < 172 then
                    37162#32
                  else
                    37174#32
            else
              if r.val < 175 then
                if r.val < 174 then
                  37163#32
                else
                  37195#32
              else
                if r.val < 176 then
                  37227#32
                else
                  if r.val < 177 then
                    37216#32
                  else
                    37205#32
          else
            if r.val < 183 then
              if r.val < 180 then
                if r.val < 179 then
                  37217#32
                else
                  37206#32
              else
                if r.val < 181 then
                  37840#32
                else
                  if r.val < 182 then
                    37872#32
                  else
                    37861#32
            else
              if r.val < 186 then
                if r.val < 184 then
                  37850#32
                else
                  if r.val < 185 then
                    37862#32
                  else
                    37851#32
              else
                if r.val < 187 then
                  37883#32
                else
                  if r.val < 188 then
                    37915#32
                  else
                    37904#32
        else
          if r.val < 199 then
            if r.val < 194 then
              if r.val < 191 then
                if r.val < 190 then
                  37893#32
                else
                  37905#32
              else
                if r.val < 192 then
                  37894#32
                else
                  if r.val < 193 then
                    38528#32
                  else
                    38560#32
            else
              if r.val < 196 then
                if r.val < 195 then
                  38549#32
                else
                  38538#32
              else
                if r.val < 197 then
                  38550#32
                else
                  if r.val < 198 then
                    38539#32
                  else
                    38571#32
          else
            if r.val < 204 then
              if r.val < 201 then
                if r.val < 200 then
                  38603#32
                else
                  38592#32
              else
                if r.val < 202 then
                  38581#32
                else
                  if r.val < 203 then
                    38593#32
                  else
                    38582#32
            else
              if r.val < 207 then
                if r.val < 205 then
                  39216#32
                else
                  if r.val < 206 then
                    39248#32
                  else
                    39237#32
              else
                if r.val < 208 then
                  39226#32
                else
                  if r.val < 209 then
                    39238#32
                  else
                    39227#32
      else
        if r.val < 231 then
          if r.val < 220 then
            if r.val < 215 then
              if r.val < 212 then
                if r.val < 211 then
                  39259#32
                else
                  39291#32
              else
                if r.val < 213 then
                  39280#32
                else
                  if r.val < 214 then
                    39269#32
                  else
                    39281#32
            else
              if r.val < 217 then
                if r.val < 216 then
                  39270#32
                else
                  39904#32
              else
                if r.val < 218 then
                  39936#32
                else
                  if r.val < 219 then
                    39925#32
                  else
                    39914#32
          else
            if r.val < 225 then
              if r.val < 222 then
                if r.val < 221 then
                  39926#32
                else
                  39915#32
              else
                if r.val < 223 then
                  39947#32
                else
                  if r.val < 224 then
                    39979#32
                  else
                    39968#32
            else
              if r.val < 228 then
                if r.val < 226 then
                  39957#32
                else
                  if r.val < 227 then
                    39969#32
                  else
                    39958#32
              else
                if r.val < 229 then
                  40592#32
                else
                  if r.val < 230 then
                    40624#32
                  else
                    40613#32
        else
          if r.val < 241 then
            if r.val < 236 then
              if r.val < 233 then
                if r.val < 232 then
                  40602#32
                else
                  40614#32
              else
                if r.val < 234 then
                  40603#32
                else
                  if r.val < 235 then
                    40635#32
                  else
                    40667#32
            else
              if r.val < 238 then
                if r.val < 237 then
                  40656#32
                else
                  40645#32
              else
                if r.val < 239 then
                  40657#32
                else
                  if r.val < 240 then
                    40646#32
                  else
                    41280#32
          else
            if r.val < 246 then
              if r.val < 243 then
                if r.val < 242 then
                  41312#32
                else
                  41301#32
              else
                if r.val < 244 then
                  41290#32
                else
                  if r.val < 245 then
                    41302#32
                  else
                    41291#32
            else
              if r.val < 249 then
                if r.val < 247 then
                  41323#32
                else
                  if r.val < 248 then
                    41355#32
                  else
                    41344#32
              else
                if r.val < 250 then
                  41333#32
                else
                  if r.val < 251 then
                    41345#32
                  else
                    41334#32
    else
      if r.val < 294 then
        if r.val < 273 then
          if r.val < 262 then
            if r.val < 257 then
              if r.val < 254 then
                if r.val < 253 then
                  41968#32
                else
                  42000#32
              else
                if r.val < 255 then
                  41989#32
                else
                  if r.val < 256 then
                    41978#32
                  else
                    41990#32
            else
              if r.val < 259 then
                if r.val < 258 then
                  41979#32
                else
                  42011#32
              else
                if r.val < 260 then
                  42043#32
                else
                  if r.val < 261 then
                    42032#32
                  else
                    42021#32
          else
            if r.val < 267 then
              if r.val < 264 then
                if r.val < 263 then
                  42033#32
                else
                  42022#32
              else
                if r.val < 265 then
                  42656#32
                else
                  if r.val < 266 then
                    42688#32
                  else
                    42677#32
            else
              if r.val < 270 then
                if r.val < 268 then
                  42666#32
                else
                  if r.val < 269 then
                    42678#32
                  else
                    42667#32
              else
                if r.val < 271 then
                  42699#32
                else
                  if r.val < 272 then
                    42731#32
                  else
                    42720#32
        else
          if r.val < 283 then
            if r.val < 278 then
              if r.val < 275 then
                if r.val < 274 then
                  42709#32
                else
                  42721#32
              else
                if r.val < 276 then
                  42710#32
                else
                  if r.val < 277 then
                    43344#32
                  else
                    43376#32
            else
              if r.val < 280 then
                if r.val < 279 then
                  43365#32
                else
                  43354#32
              else
                if r.val < 281 then
                  43366#32
                else
                  if r.val < 282 then
                    43355#32
                  else
                    43387#32
          else
            if r.val < 288 then
              if r.val < 285 then
                if r.val < 284 then
                  43419#32
                else
                  43408#32
              else
                if r.val < 286 then
                  43397#32
                else
                  if r.val < 287 then
                    43409#32
                  else
                    43398#32
            else
              if r.val < 291 then
                if r.val < 289 then
                  27553#32
                else
                  if r.val < 290 then
                    27596#32
                  else
                    28241#32
              else
                if r.val < 292 then
                  28284#32
                else
                  if r.val < 293 then
                    28929#32
                  else
                    28972#32
      else
        if r.val < 315 then
          if r.val < 304 then
            if r.val < 299 then
              if r.val < 296 then
                if r.val < 295 then
                  29617#32
                else
                  29660#32
              else
                if r.val < 297 then
                  30305#32
                else
                  if r.val < 298 then
                    30348#32
                  else
                    30993#32
            else
              if r.val < 301 then
                if r.val < 300 then
                  31036#32
                else
                  31681#32
              else
                if r.val < 302 then
                  31724#32
                else
                  if r.val < 303 then
                    32369#32
                  else
                    32412#32
          else
            if r.val < 309 then
              if r.val < 306 then
                if r.val < 305 then
                  33057#32
                else
                  33100#32
              else
                if r.val < 307 then
                  33745#32
                else
                  if r.val < 308 then
                    33788#32
                  else
                    34433#32
            else
              if r.val < 312 then
                if r.val < 310 then
                  34476#32
                else
                  if r.val < 311 then
                    35121#32
                  else
                    35164#32
              else
                if r.val < 313 then
                  35809#32
                else
                  if r.val < 314 then
                    35852#32
                  else
                    36497#32
        else
          if r.val < 325 then
            if r.val < 320 then
              if r.val < 317 then
                if r.val < 316 then
                  36540#32
                else
                  37185#32
              else
                if r.val < 318 then
                  37228#32
                else
                  if r.val < 319 then
                    37873#32
                  else
                    37916#32
            else
              if r.val < 322 then
                if r.val < 321 then
                  38561#32
                else
                  38604#32
              else
                if r.val < 323 then
                  39249#32
                else
                  if r.val < 324 then
                    39292#32
                  else
                    39937#32
          else
            if r.val < 330 then
              if r.val < 327 then
                if r.val < 326 then
                  39980#32
                else
                  40625#32
              else
                if r.val < 328 then
                  40668#32
                else
                  if r.val < 329 then
                    41313#32
                  else
                    41356#32
            else
              if r.val < 333 then
                if r.val < 331 then
                  42001#32
                else
                  if r.val < 332 then
                    42044#32
                  else
                    42689#32
              else
                if r.val < 334 then
                  42732#32
                else
                  if r.val < 335 then
                    43377#32
                  else
                    43420#32
def k0_off22 (k0_t5 : Fin k0_t5_loop.trips) (c0_i32_7974_r0 : BitVec 32) : Fin 4 → Nat :=
  let c4_i32_7973_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26284_r0 : BitVec 32 := Scalar.muli c4_i32_7973_r0 arg14_r0
  let v26285_r0 : BitVec 32 := Scalar.addi v26284_r0 c0_i32_7974_r0
  let v26289_r0 : Index := Scalar.indexCast v26285_r0
  let c0_7975_r0 : Index := 0#32
  let c0_7976_r0 : Index := 0#32
  let c0_7977_r0 : Index := 0#32
  ![v26289_r0.toNat, 0, 0, 0]
def k0_off23 (k0_t5 : Fin k0_t5_loop.trips) (c0_i32_7974_r0 : BitVec 32) : Fin 4 → Nat :=
  let c4_i32_7973_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26284_r0 : BitVec 32 := Scalar.muli c4_i32_7973_r0 arg14_r0
  let v26285_r0 : BitVec 32 := Scalar.addi v26284_r0 c0_i32_7974_r0
  let v26293_r0 : Index := Scalar.indexCast v26285_r0
  let c1_7978_r0 : Index := 1#32
  let c0_7979_r0 : Index := 0#32
  let c0_7980_r0 : Index := 0#32
  ![v26293_r0.toNat, 1, 0, 0]
def k0_off24 (k0_t5 : Fin k0_t5_loop.trips) (c0_i32_8004_r0 : BitVec 32) : Fin 4 → Nat :=
  let c4_i32_8003_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26357_r0 : BitVec 32 := Scalar.muli c4_i32_8003_r0 arg14_r0
  let v26358_r0 : BitVec 32 := Scalar.addi v26357_r0 c0_i32_8004_r0
  let c2_i32_8005_r0 : BitVec 32 := 2#32
  let v26359_r0 : BitVec 32 := Scalar.addi v26358_r0 c2_i32_8005_r0
  let v26363_r0 : Index := Scalar.indexCast v26359_r0
  let c0_8006_r0 : Index := 0#32
  let c0_8007_r0 : Index := 0#32
  let c0_8008_r0 : Index := 0#32
  ![v26363_r0.toNat, 0, 0, 0]
def k0_off25 (k0_t5 : Fin k0_t5_loop.trips) (c0_i32_8004_r0 : BitVec 32) : Fin 4 → Nat :=
  let c4_i32_8003_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26357_r0 : BitVec 32 := Scalar.muli c4_i32_8003_r0 arg14_r0
  let v26358_r0 : BitVec 32 := Scalar.addi v26357_r0 c0_i32_8004_r0
  let c2_i32_8005_r0 : BitVec 32 := 2#32
  let v26359_r0 : BitVec 32 := Scalar.addi v26358_r0 c2_i32_8005_r0
  let v26367_r0 : Index := Scalar.indexCast v26359_r0
  let c1_8009_r0 : Index := 1#32
  let c0_8010_r0 : Index := 0#32
  let c0_8011_r0 : Index := 0#32
  ![v26367_r0.toNat, 1, 0, 0]
def k0_mult1 (k0_t5 : Fin k0_t5_loop.trips) : BitVec 32 :=
  let c4_i32_8095_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26578_r0 : BitVec 32 := Scalar.muli c4_i32_8095_r0 arg14_r0
  let c0_i32_8096_r0 : BitVec 32 := 0#32
  let v26579_r0 : BitVec 32 := Scalar.addi v26578_r0 c0_i32_8096_r0
  let c2_i32_8097_r0 : BitVec 32 := 2#32
  let v26580_r0 : BitVec 32 := Scalar.muli v26579_r0 c2_i32_8097_r0
  let c128_i32_8098_r0 : BitVec 32 := 128#32
  let v26581_r0 : BitVec 32 := Scalar.muli v26580_r0 c128_i32_8098_r0
  let c0_i32_8099_r0 : BitVec 32 := 0#32
  let v26582_r0 : BitVec 32 := Scalar.addi v26581_r0 c0_i32_8099_r0
  v26582_r0
def k0_off26 (k0_t5 : Fin k0_t5_loop.trips) (c0_i32_8096_r0 : BitVec 32) (c0_i32_8099_r0 : BitVec 32) : Fin 2 → Nat :=
  let c0_i32_8101_r0 : BitVec 32 := 0#32
  let c4_i32_8095_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26578_r0 : BitVec 32 := Scalar.muli c4_i32_8095_r0 arg14_r0
  let v26579_r0 : BitVec 32 := Scalar.addi v26578_r0 c0_i32_8096_r0
  let c2_i32_8097_r0 : BitVec 32 := 2#32
  let v26580_r0 : BitVec 32 := Scalar.muli v26579_r0 c2_i32_8097_r0
  let c128_i32_8098_r0 : BitVec 32 := 128#32
  let v26581_r0 : BitVec 32 := Scalar.muli v26580_r0 c128_i32_8098_r0
  let v26582_r0 : BitVec 32 := Scalar.addi v26581_r0 c0_i32_8099_r0
  let v26583_r0 : BitVec 32 := v26582_r0
  ![0, v26583_r0.toNat]
def k0_off27 (k0_t5 : Fin k0_t5_loop.trips) (c0_i32_8096_r0 : BitVec 32) : Fin 4 → Nat :=
  let c4_i32_8095_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26578_r0 : BitVec 32 := Scalar.muli c4_i32_8095_r0 arg14_r0
  let v26579_r0 : BitVec 32 := Scalar.addi v26578_r0 c0_i32_8096_r0
  let c0_i32_8100_r0 : BitVec 32 := 0#32
  let c0_i32_8102_r0 : BitVec 32 := 0#32
  let c0_i32_8103_r0 : BitVec 32 := 0#32
  ![v26579_r0.toNat, 0, 0, 0]
def k0_mult2 (k0_t5 : Fin k0_t5_loop.trips) : BitVec 32 :=
  let c4_i32_8104_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26587_r0 : BitVec 32 := Scalar.muli c4_i32_8104_r0 arg14_r0
  let c0_i32_8105_r0 : BitVec 32 := 0#32
  let v26588_r0 : BitVec 32 := Scalar.addi v26587_r0 c0_i32_8105_r0
  let c2_i32_8106_r0 : BitVec 32 := 2#32
  let v26589_r0 : BitVec 32 := Scalar.muli v26588_r0 c2_i32_8106_r0
  let c128_i32_8107_r0 : BitVec 32 := 128#32
  let v26590_r0 : BitVec 32 := Scalar.muli v26589_r0 c128_i32_8107_r0
  let c128_i32_8108_r0 : BitVec 32 := 128#32
  let v26591_r0 : BitVec 32 := Scalar.addi v26590_r0 c128_i32_8108_r0
  v26591_r0
def k0_off28 (k0_t5 : Fin k0_t5_loop.trips) (c0_i32_8105_r0 : BitVec 32) : Fin 4 → Nat :=
  let c4_i32_8104_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26587_r0 : BitVec 32 := Scalar.muli c4_i32_8104_r0 arg14_r0
  let v26588_r0 : BitVec 32 := Scalar.addi v26587_r0 c0_i32_8105_r0
  let c1_i32_8109_r0 : BitVec 32 := 1#32
  let c0_i32_8111_r0 : BitVec 32 := 0#32
  let c0_i32_8112_r0 : BitVec 32 := 0#32
  ![v26588_r0.toNat, 1, 0, 0]
def k0_mult3 (k0_t5 : Fin k0_t5_loop.trips) : BitVec 32 :=
  let c4_i32_8113_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26596_r0 : BitVec 32 := Scalar.muli c4_i32_8113_r0 arg14_r0
  let c1_i32_8114_r0 : BitVec 32 := 1#32
  let v26597_r0 : BitVec 32 := Scalar.addi v26596_r0 c1_i32_8114_r0
  let c2_i32_8115_r0 : BitVec 32 := 2#32
  let v26598_r0 : BitVec 32 := Scalar.muli v26597_r0 c2_i32_8115_r0
  let c128_i32_8116_r0 : BitVec 32 := 128#32
  let v26599_r0 : BitVec 32 := Scalar.muli v26598_r0 c128_i32_8116_r0
  let c0_i32_8117_r0 : BitVec 32 := 0#32
  let v26600_r0 : BitVec 32 := Scalar.addi v26599_r0 c0_i32_8117_r0
  v26600_r0
def k0_mult4 (k0_t5 : Fin k0_t5_loop.trips) : BitVec 32 :=
  let c4_i32_8122_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26605_r0 : BitVec 32 := Scalar.muli c4_i32_8122_r0 arg14_r0
  let c1_i32_8123_r0 : BitVec 32 := 1#32
  let v26606_r0 : BitVec 32 := Scalar.addi v26605_r0 c1_i32_8123_r0
  let c2_i32_8124_r0 : BitVec 32 := 2#32
  let v26607_r0 : BitVec 32 := Scalar.muli v26606_r0 c2_i32_8124_r0
  let c128_i32_8125_r0 : BitVec 32 := 128#32
  let v26608_r0 : BitVec 32 := Scalar.muli v26607_r0 c128_i32_8125_r0
  let c128_i32_8126_r0 : BitVec 32 := 128#32
  let v26609_r0 : BitVec 32 := Scalar.addi v26608_r0 c128_i32_8126_r0
  v26609_r0
def k0_mult5 (k0_t5 : Fin k0_t5_loop.trips) : BitVec 32 :=
  let c4_i32_8131_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26614_r0 : BitVec 32 := Scalar.muli c4_i32_8131_r0 arg14_r0
  let c2_i32_8132_r0 : BitVec 32 := 2#32
  let v26615_r0 : BitVec 32 := Scalar.addi v26614_r0 c2_i32_8132_r0
  let c2_i32_8133_r0 : BitVec 32 := 2#32
  let v26616_r0 : BitVec 32 := Scalar.muli v26615_r0 c2_i32_8133_r0
  let c128_i32_8134_r0 : BitVec 32 := 128#32
  let v26617_r0 : BitVec 32 := Scalar.muli v26616_r0 c128_i32_8134_r0
  let c0_i32_8135_r0 : BitVec 32 := 0#32
  let v26618_r0 : BitVec 32 := Scalar.addi v26617_r0 c0_i32_8135_r0
  v26618_r0
def k0_mult6 (k0_t5 : Fin k0_t5_loop.trips) : BitVec 32 :=
  let c4_i32_8140_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26623_r0 : BitVec 32 := Scalar.muli c4_i32_8140_r0 arg14_r0
  let c2_i32_8141_r0 : BitVec 32 := 2#32
  let v26624_r0 : BitVec 32 := Scalar.addi v26623_r0 c2_i32_8141_r0
  let c2_i32_8142_r0 : BitVec 32 := 2#32
  let v26625_r0 : BitVec 32 := Scalar.muli v26624_r0 c2_i32_8142_r0
  let c128_i32_8143_r0 : BitVec 32 := 128#32
  let v26626_r0 : BitVec 32 := Scalar.muli v26625_r0 c128_i32_8143_r0
  let c128_i32_8144_r0 : BitVec 32 := 128#32
  let v26627_r0 : BitVec 32 := Scalar.addi v26626_r0 c128_i32_8144_r0
  v26627_r0
def k0_mult7 (k0_t5 : Fin k0_t5_loop.trips) : BitVec 32 :=
  let c4_i32_8149_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26632_r0 : BitVec 32 := Scalar.muli c4_i32_8149_r0 arg14_r0
  let c3_i32_8150_r0 : BitVec 32 := 3#32
  let v26633_r0 : BitVec 32 := Scalar.addi v26632_r0 c3_i32_8150_r0
  let c2_i32_8151_r0 : BitVec 32 := 2#32
  let v26634_r0 : BitVec 32 := Scalar.muli v26633_r0 c2_i32_8151_r0
  let c128_i32_8152_r0 : BitVec 32 := 128#32
  let v26635_r0 : BitVec 32 := Scalar.muli v26634_r0 c128_i32_8152_r0
  let c0_i32_8153_r0 : BitVec 32 := 0#32
  let v26636_r0 : BitVec 32 := Scalar.addi v26635_r0 c0_i32_8153_r0
  v26636_r0
def k0_mult8 (k0_t5 : Fin k0_t5_loop.trips) : BitVec 32 :=
  let c4_i32_8158_r0 : BitVec 32 := 4#32
  let c0_i32_4020_r0 : BitVec 32 := 0#32
  let c1_i32_4022_r0 : BitVec 32 := 1#32
  let arg14_r0 : BitVec 32 := Scf.iv c0_i32_4020_r0 c1_i32_4022_r0 k0_t5
  let v26641_r0 : BitVec 32 := Scalar.muli c4_i32_8158_r0 arg14_r0
  let c3_i32_8159_r0 : BitVec 32 := 3#32
  let v26642_r0 : BitVec 32 := Scalar.addi v26641_r0 c3_i32_8159_r0
  let c2_i32_8160_r0 : BitVec 32 := 2#32
  let v26643_r0 : BitVec 32 := Scalar.muli v26642_r0 c2_i32_8160_r0
  let c128_i32_8161_r0 : BitVec 32 := 128#32
  let v26644_r0 : BitVec 32 := Scalar.muli v26643_r0 c128_i32_8161_r0
  let c128_i32_8162_r0 : BitVec 32 := 128#32
  let v26645_r0 : BitVec 32 := Scalar.addi v26644_r0 c128_i32_8162_r0
  v26645_r0
def k0_mult9 : BitVec 32 :=
  let c10240_i32_r0 : BitVec 32 := 10240#32
  c10240_i32_r0
def k0_mult10 : BitVec 32 :=
  let c10368_i32_r0 : BitVec 32 := 10368#32
  c10368_i32_r0
def k0_mult11 : BitVec 32 :=
  let c10496_i32_r0 : BitVec 32 := 10496#32
  c10496_i32_r0
def k0_mult12 : BitVec 32 :=
  let c10624_i32_r0 : BitVec 32 := 10624#32
  c10624_i32_r0
def k0_mult13 : BitVec 32 :=
  let c10752_i32_r0 : BitVec 32 := 10752#32
  c10752_i32_r0
def k0_mult14 : BitVec 32 :=
  let c10880_i32_r0 : BitVec 32 := 10880#32
  c10880_i32_r0
@[reducible] def k0_t6_loop : Scf.Loop 32 :=
  let c0_i32_5810_r0 : BitVec 32 := 0#32
  let c43_i32_5811_r0 : BitVec 32 := 43#32
  let v17763_r0 : BitVec 32 := Scalar.addi c0_i32_5810_r0 c43_i32_5811_r0
  let c1_i32_5812_r0 : BitVec 32 := 1#32
  ⟨c0_i32_5810_r0, v17763_r0, c1_i32_5812_r0⟩
def k0_mult15 (k0_t6 : Fin k0_t6_loop.trips) : BitVec 32 :=
  let c0_i32_5810_r0 : BitVec 32 := 0#32
  let c1_i32_5812_r0 : BitVec 32 := 1#32
  let arg14_r0 : BitVec 32 := Scf.iv c0_i32_5810_r0 c1_i32_5812_r0 k0_t6
  let c2_i32_5814_r0 : BitVec 32 := 2#32
  let v17764_r0 : BitVec 32 := Scalar.muli arg14_r0 c2_i32_5814_r0
  let c128_i32_5815_r0 : BitVec 32 := 128#32
  let v17765_r0 : BitVec 32 := Scalar.muli v17764_r0 c128_i32_5815_r0
  let c0_i32_5816_r0 : BitVec 32 := 0#32
  let v17766_r0 : BitVec 32 := Scalar.addi v17765_r0 c0_i32_5816_r0
  v17766_r0
def k0_off29 (k0_t6 : Fin k0_t6_loop.trips) (c0_i32_5816_r0 : BitVec 32) : Fin 2 → Nat :=
  let c0_i32_5818_r0 : BitVec 32 := 0#32
  let c0_i32_5810_r0 : BitVec 32 := 0#32
  let c1_i32_5812_r0 : BitVec 32 := 1#32
  let arg14_r0 : BitVec 32 := Scf.iv c0_i32_5810_r0 c1_i32_5812_r0 k0_t6
  let c2_i32_5814_r0 : BitVec 32 := 2#32
  let v17764_r0 : BitVec 32 := Scalar.muli arg14_r0 c2_i32_5814_r0
  let c128_i32_5815_r0 : BitVec 32 := 128#32
  let v17765_r0 : BitVec 32 := Scalar.muli v17764_r0 c128_i32_5815_r0
  let v17766_r0 : BitVec 32 := Scalar.addi v17765_r0 c0_i32_5816_r0
  let v17767_r0 : BitVec 32 := v17766_r0
  ![0, v17767_r0.toNat]
def k0_off30 (k0_t6 : Fin k0_t6_loop.trips) : Fin 4 → Nat :=
  let c0_i32_5810_r0 : BitVec 32 := 0#32
  let c1_i32_5812_r0 : BitVec 32 := 1#32
  let arg14_r0 : BitVec 32 := Scf.iv c0_i32_5810_r0 c1_i32_5812_r0 k0_t6
  let c0_i32_5817_r0 : BitVec 32 := 0#32
  let c0_i32_5819_r0 : BitVec 32 := 0#32
  let c0_i32_5820_r0 : BitVec 32 := 0#32
  ![arg14_r0.toNat, 0, 0, 0]
def k0_mult16 (k0_t6 : Fin k0_t6_loop.trips) : BitVec 32 :=
  let c0_i32_5810_r0 : BitVec 32 := 0#32
  let c1_i32_5812_r0 : BitVec 32 := 1#32
  let arg14_r0 : BitVec 32 := Scf.iv c0_i32_5810_r0 c1_i32_5812_r0 k0_t6
  let c2_i32_5821_r0 : BitVec 32 := 2#32
  let v17771_r0 : BitVec 32 := Scalar.muli arg14_r0 c2_i32_5821_r0
  let c128_i32_5822_r0 : BitVec 32 := 128#32
  let v17772_r0 : BitVec 32 := Scalar.muli v17771_r0 c128_i32_5822_r0
  let c128_i32_5823_r0 : BitVec 32 := 128#32
  let v17773_r0 : BitVec 32 := Scalar.addi v17772_r0 c128_i32_5823_r0
  v17773_r0
def k0_off31 (k0_t6 : Fin k0_t6_loop.trips) : Fin 4 → Nat :=
  let c0_i32_5810_r0 : BitVec 32 := 0#32
  let c1_i32_5812_r0 : BitVec 32 := 1#32
  let arg14_r0 : BitVec 32 := Scf.iv c0_i32_5810_r0 c1_i32_5812_r0 k0_t6
  let c1_i32_5824_r0 : BitVec 32 := 1#32
  let c0_i32_5826_r0 : BitVec 32 := 0#32
  let c0_i32_5827_r0 : BitVec 32 := 0#32
  ![arg14_r0.toNat, 1, 0, 0]
-- ==== KernelIdeal.lean ====
abbrev S2048x2x128 : Shape := ⟨3, ![2048, 2, 128]⟩
abbrev S2048x1x128 : Shape := ⟨3, ![2048, 1, 128]⟩
abbrev S128x2x128 : Shape := ⟨3, ![128, 2, 128]⟩
abbrev S128x1x128 : Shape := ⟨3, ![128, 1, 128]⟩
abbrev S32x2x128 : Shape := ⟨3, ![32, 2, 128]⟩
abbrev S32x1x128 : Shape := ⟨3, ![32, 1, 128]⟩
  | .local _ .vmem, ⟨3, _⟩ => ⟨S2048x2x128, .bf16⟩
variable {F : FTy → Type} [FloatOps F]
-- ==== ReferenceIdeal.lean ====
abbrev S1x128x4096 : Shape := ⟨3, ![1, 128, 4096]⟩
abbrev S22544384 : Shape := ⟨1, ![22544384]⟩
abbrev S22016 : Shape := ⟨1, ![22016]⟩
abbrev S_ : Shape := ⟨0, ![]⟩
abbrev S22016x1024 : Shape := ⟨2, ![22016, 1024]⟩
abbrev S22016x1 : Shape := ⟨2, ![22016, 1]⟩
abbrev S4096x5504 : Shape := ⟨2, ![4096, 5504]⟩
abbrev S1x128x5504 : Shape := ⟨3, ![1, 128, 5504]⟩
abbrev S1x128x5504x1 : Shape := ⟨4, ![1, 128, 5504, 1]⟩
abbrev S1x128x5504x2 : Shape := ⟨4, ![1, 128, 5504, 2]⟩
abbrev S1x128x11008 : Shape := ⟨3, ![1, 128, 11008]⟩

abbrev nBuf : Space → Nat
  | .hbm => 46
  | .vmem => 0
  | .smem => 0
  | _ => 0

abbrev bufTy : (tb : Table) → Fin (tcTables nBuf tb) → BufTy
  | .hbm, ⟨0, _⟩ => ⟨S1x128x4096, .bf16⟩
  | .hbm, ⟨1, _⟩ => ⟨S22544384, .i8⟩
  | .hbm, ⟨2, _⟩ => ⟨S22016, .f32⟩
  | .hbm, ⟨3, _⟩ => ⟨S22544384, .i32⟩
  | .hbm, ⟨4, _⟩ => ⟨S22016, .bf16⟩
  | .hbm, ⟨5, _⟩ => ⟨S_, .i32⟩
  | .hbm, ⟨6, _⟩ => ⟨S22544384, .i32⟩
  | .hbm, ⟨7, _⟩ => ⟨S22544384, .i32⟩
  | .hbm, ⟨8, _⟩ => ⟨S_, .i32⟩
  | .hbm, ⟨9, _⟩ => ⟨S22544384, .i32⟩
  | .hbm, ⟨10, _⟩ => ⟨S22544384, .i1⟩
  | .hbm, ⟨11, _⟩ => ⟨S22544384, .i32⟩
  | .hbm, ⟨12, _⟩ => ⟨S_, .i32⟩
  | .hbm, ⟨13, _⟩ => ⟨S22544384, .i32⟩
  | .hbm, ⟨14, _⟩ => ⟨S22544384, .i32⟩
  | .hbm, ⟨15, _⟩ => ⟨S22544384, .i32⟩
  | .hbm, ⟨16, _⟩ => ⟨S22544384, .bf16⟩
  | .hbm, ⟨17, _⟩ => ⟨S22016x1024, .bf16⟩
  | .hbm, ⟨18, _⟩ => ⟨S22016x1, .bf16⟩
  | .hbm, ⟨19, _⟩ => ⟨S22016x1024, .bf16⟩
  | .hbm, ⟨20, _⟩ => ⟨S22016x1024, .bf16⟩
  | .hbm, ⟨21, _⟩ => ⟨S4096x5504, .bf16⟩
  | .hbm, ⟨22, _⟩ => ⟨S_, .i32⟩
  | .hbm, ⟨23, _⟩ => ⟨S22544384, .i32⟩
  | .hbm, ⟨24, _⟩ => ⟨S22544384, .i32⟩
  | .hbm, ⟨25, _⟩ => ⟨S_, .i32⟩
  | .hbm, ⟨26, _⟩ => ⟨S22544384, .i32⟩
  | .hbm, ⟨27, _⟩ => ⟨S22544384, .i1⟩
  | .hbm, ⟨28, _⟩ => ⟨S22544384, .i32⟩
  | .hbm, ⟨29, _⟩ => ⟨S_, .i32⟩
  | .hbm, ⟨30, _⟩ => ⟨S22544384, .i32⟩
  | .hbm, ⟨31, _⟩ => ⟨S22544384, .i32⟩
  | .hbm, ⟨32, _⟩ => ⟨S22544384, .i32⟩
  | .hbm, ⟨33, _⟩ => ⟨S22544384, .bf16⟩
  | .hbm, ⟨34, _⟩ => ⟨S22016x1024, .bf16⟩
  | .hbm, ⟨35, _⟩ => ⟨S22016x1, .bf16⟩
  | .hbm, ⟨36, _⟩ => ⟨S22016x1024, .bf16⟩
  | .hbm, ⟨37, _⟩ => ⟨S22016x1024, .bf16⟩
  | .hbm, ⟨38, _⟩ => ⟨S4096x5504, .bf16⟩
  | .hbm, ⟨39, _⟩ => ⟨S1x128x5504, .f32⟩
  | .hbm, ⟨40, _⟩ => ⟨S1x128x5504, .f32⟩
  | .hbm, ⟨41, _⟩ => ⟨S1x128x5504x1, .f32⟩
  | .hbm, ⟨42, _⟩ => ⟨S1x128x5504x1, .f32⟩
  | .hbm, ⟨43, _⟩ => ⟨S1x128x5504x2, .f32⟩
  | .hbm, ⟨44, _⟩ => ⟨S1x128x11008, .f32⟩
  | .hbm, ⟨45, _⟩ => ⟨S1x128x11008, .bf16⟩
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Proof.Str.Struct.lean ====
/-
  The kernel's phases as a program over named parts: the words one weight tile is cut from, the tile, the passes of a pair
  of chunks, and what becomes of a finished accumulator.
-/
module

public import proofs.«01_k».proof.Proof.Gen.KernelIdeal

@[expose] public section

noncomputable section

namespace Cert.Proof.Str

open Cert.KernelIdeal Cert.KernelIdeal.Gen
open Idealize.ShloMosaic Idealize.ShloMosaic.TcCoe Idealize.SL.Sem

variable {nD : ℕ} {τ : Topo} {sig : RefSig} {Λ : Labels} {F : FTy → Type} [FloatOps F]

/-- A TensorCore's programs. -/
abbrev P (nD : ℕ) (τ : Topo) (sig : RefSig) (F : FTy → Type) [FloatOps F] (Λ : Labels) : Type → Type 1 := Prog (TpuEff nD τ sig (Elt F) Λ .tc)

/-- Of two rows of words, byte by byte the first where `m` holds and the second elsewhere, -/
def sel8 (m : IVec S32x128 1) (a b : IVec S8x128 32) : IVec S8x128 32 :=
  bitcast S8x128 32 (select m (bitcast S32x128 8 a bitcasts_S8x128_w32_S32x128_w8) (bitcast S32x128 8 b bitcasts_S8x128_w32_S32x128_w8))
    bitcasts_S32x128_w8_S8x128_w32

/-- and the same by half words. -/
def sel16 (m : IVec S16x128 1) (a b : IVec S8x128 32) : IVec S8x128 32 :=
  bitcast S8x128 32 (select m (bitcast S16x128 16 a bitcasts_S8x128_w32_S16x128_w16) (bitcast S16x128 16 b bitcasts_S8x128_w32_S16x128_w16))
    bitcasts_S16x128_w16_S8x128_w32

/-- The eight nibbles of every word as signed numbers, one row each, the lowest first. -/
def nib (w : IVec S8x128 32) : FVec F S64x128 .bf16 :=
  sitofp .bf16 (shapeCast S64x128
    (shrsi (shli (broadcastTo S8x8x128 (shapeCast S8x1x128 (shapeCast S8x1x128 w shapeCasts_S8x128_S8x1x128) shapeCasts_S8x1x128_S8x1x128)
          broadcasts_S8x1x128_S8x8x128)
        (subi (broadcast S8x8x128 28#32) (muli (broadcast S8x8x128 4#32) (iota .tc S8x8x128 32 [1] iota_S8x8x128_d1_w32))))
      (broadcast S8x8x128 28#32)) shapeCasts_S8x8x128_S64x128)

/-- The nibbles the two words exchange, -/
def swapped (a b : IVec S8x128 32) : IVec S8x128 32 :=
  andi (xori (shrui a (broadcast S8x128 4#32)) b) (broadcast S8x128 252645135#32)
/-- the odd nibbles of both words, -/
def oddWord (a b : IVec S8x128 32) : IVec S8x128 32 := xori (swapped a b) b
/-- and the even ones. -/
def evenWord (a b : IVec S8x128 32) : IVec S8x128 32 := xori (shli (swapped a b) (broadcast S8x128 4#32)) a

/-- Along the lanes the entries `idx` names, a negative one counted from the end. -/
def wrapped64 (idx : IVec S64x128 32) : IVec S64x128 32 :=
  shapeCast S64x128 (shapeCast S64x128x1
    (select (cmpi .slt idx (broadcast S64x128 0#32)) (addi idx (broadcast S64x128 128#32)) idx)
    shapeCasts_S64x128_S64x128x1) shapeCasts_S64x128x1_S64x128

/-- The scales of 64 rows of one chunk, along the lanes `idx`. -/
def scale (idx : IVec S64x128 32) (z : FVec F S64x128 .bf16) : FVec F S64x128 .bf16 :=
  truncf .bf16 (dynamicGather 1 (extf .f32 z bitsLt_bf16_f32) (wrapped64 idx)) bitsLt_bf16_f32

/-- Two rows of words: what the 64 rows of even and of odd columns are cut from. -/
abbrev Pair : Type := IVec S8x128 32 × IVec S8x128 32

/-- A weight tile: 256 rows of 128 even and 128 odd columns. -/
def tile (w0 w1 w2 w3 : Pair) (s0 s1 s2 s3 : FVec F S64x128 .bf16) : FVec F S256x256 .bf16 :=
  concatenate S256x256 1
    [⟨S256x128, concatenate S256x128 0
        [⟨S64x128, mulf (nib (evenWord w0.1 w0.2)) s0⟩, ⟨S64x128, mulf (nib (evenWord w1.1 w1.2)) s1⟩,
         ⟨S64x128, mulf (nib (evenWord w2.1 w2.2)) s2⟩, ⟨S64x128, mulf (nib (evenWord w3.1 w3.2)) s3⟩]
        concatenates_S64x128_S64x128_S64x128_S64x128_S256x128_d0⟩,
     ⟨S256x128, concatenate S256x128 0
        [⟨S64x128, mulf (nib (oddWord w0.1 w0.2)) s0⟩, ⟨S64x128, mulf (nib (oddWord w1.1 w1.2)) s1⟩,
         ⟨S64x128, mulf (nib (oddWord w2.1 w2.2)) s2⟩, ⟨S64x128, mulf (nib (oddWord w3.1 w3.2)) s3⟩]
        concatenates_S64x128_S64x128_S64x128_S64x128_S256x128_d0⟩] concatenates_S256x128_S256x128_S256x256_d1

/-- Where byte `b` of chunk residue `v` starts among the word rows of a group. -/
def wo (v b : ℕ) : ℕ := if v < b then 43 + 11 * v - 11 * b else 11 * v - 11 * b

/-- What a phase reads its words by: the place of word row `n` of the group the trip is at. -/
structure At where
  off : ℕ → Fin 2 → ℕ
  top : ℕ
  inb : ∀ n, n ≤ top → ∀ a, S8x128.size a = 0 ∨ off n a + (![86, 1] : Fin 2 → ℕ) a * (S8x128.size a - 1) < S44032x128.size a

/-- The buffer of the scales: how the rows of one pass are read from it and how rows are put into it. -/
structure ZBuf (sig : RefSig) (F : FTy → Type) [FloatOps F] where
  shape : Shape
  elt : EltTy
  m : Memref sig .tc .vmem shape elt
  rd : ∀ i, i < 64 → LoadRect shape
  rdOk : ∀ i h, m.view.LoadsAt (rd i h)
  dec : ∀ i h, ((rd i h).shape.Idx → Elt F elt) → FVec F S64x128 .bf16
  wr : Fin 16 → Rect shape
  wrLd : ∀ i, m.view.LoadsAt (wr i).toLoadRect
  wrSt : ∀ i, (m.access (wr i)).Stores Finset.univ
  pack : ∀ i, FVec F S128x128 .f32 → FVec F S128x128 .f32 → ((wr i).shape.Idx → Elt F elt)

/-- The buffers the phases use: words, scales, permuted rows, running sums, results. -/
structure Bufs (sig : RefSig) (F : FTy → Type) [FloatOps F] where
  w : Memref sig .tc .vmem S44032x128 .i32
  z : ZBuf sig F
  x : Memref sig .tc .vmem S4x128x4096 .bf16
  acc : Memref sig .tc .vmem S43x2x128x128 .f32
  out : Memref sig .tc .vmem S43x2x128x128 .bf16
  xin : Memref sig .tc .vmem S128x4096 .bf16
  sin : Memref sig .tc .vmem S512x256 .bf16

/-- The masks of the two selections. -/
structure Masks where
  m8 : IVec S32x128 1
  m16 : IVec S16x128 1

variable (B : Bufs sig F) (M : Masks)

variable {α : Type}

/-- One strided load of eight word rows, then `k`. -/
def ldW (a : At) (n : ℕ) (h : n ≤ a.top) (k : Vec F S8x128 .i32 → P nD τ sig F Λ α) : P nD τ sig F Λ α :=
  .op (.load B.w (⟨a.off n, S8x128.size, ![86, 1], a.inb n h⟩ : LoadRect S44032x128) (View.loadsAt_vmem h_S8x128)) k

/-- The furthest word row of a group that residue `v` (and, if `both`, `v + 2`) reads. -/
def reach (v : ℕ) (both : Bool) : ℕ := bif both then 32 + v else 32

theorem wo_le (v b : ℕ) (both : Bool) (hv : v < 2) (hb : b < 4) : wo v b ≤ reach v both := by
  unfold wo reach; cases both <;> split <;> simp only [cond_true, cond_false] <;> omega
theorem wo_le' (v b : ℕ) (both : Bool) (hv : v < 2) (hb : b < 2) (h : both = true) : wo (v + 2) b ≤ reach v both := by
  subst h; unfold wo reach; split <;> simp only [cond_true] <;> omega

/-- The words of one row of a group, for the chunk residue `v`, -/
def words1 (a : At) (v : ℕ) (hv : v < 2) (n : ℕ) (h : n + reach v false ≤ a.top) (k : IVec S8x128 32 → P nD τ sig F Λ α) : P nD τ sig F Λ α :=
  ldW B a (n + wo v 0) (by have := wo_le v 0 false hv (by decide); omega) fun c0 =>
  ldW B a (n + wo v 1) (by have := wo_le v 1 false hv (by decide); omega) fun c1 =>
  ldW B a (n + wo v 2) (by have := wo_le v 2 false hv (by decide); omega) fun c2 =>
  ldW B a (n + wo v 3) (by have := wo_le v 3 false hv (by decide); omega) fun c3 =>
  k (sel16 M.m16 (sel8 M.m8 c0 c1) (sel8 M.m8 c2 c3))

/-- and for `v` and `v + 2` at once. -/
def words2 (a : At) (v : ℕ) (hv : v < 2) (n : ℕ) (h : n + reach v true ≤ a.top) (k : IVec S8x128 32 → IVec S8x128 32 → P nD τ sig F Λ α) : P nD τ sig F Λ α :=
  ldW B a (n + wo v 0) (by have := wo_le v 0 true hv (by decide); omega) fun c0 =>
  ldW B a (n + wo v 1) (by have := wo_le v 1 true hv (by decide); omega) fun c1 =>
  ldW B a (n + wo v 2) (by have := wo_le v 2 true hv (by decide); omega) fun c2 =>
  ldW B a (n + wo v 3) (by have := wo_le v 3 true hv (by decide); omega) fun c3 =>
  ldW B a (n + wo (v + 2) 0) (by have := wo_le' v 0 true hv (by decide) rfl; omega) fun d0 =>
  ldW B a (n + wo (v + 2) 1) (by have := wo_le' v 1 true hv (by decide) rfl; omega) fun d1 =>
  k (sel16 M.m16 (sel8 M.m8 c0 c1) (sel8 M.m8 c2 c3)) (sel16 M.m16 (sel8 M.m8 d0 d1) (sel8 M.m8 c0 c1))

/-- The scales of 64 rows, then `k`. -/
def ldZ (r : ℕ) (h : r < 64) (k : FVec F S64x128 .bf16 → P nD τ sig F Λ α) : P nD τ sig F Λ α :=
  .op (.load B.z.m (B.z.rd r h) (B.z.rdOk r h)) fun z => k (B.z.dec r h z)

/-- The rows of one pass, permuted as chunk residue `v` asks, then `k`. -/
def ldX (v : ℕ) (hv : v < 4) (kt : ℕ) (hk : kt < 16) (k : Vec F S1x128x256 .bf16 → P nD τ sig F Λ α) : P nD τ sig F Λ α :=
  .op (.load B.x (Rect.unit (s := S4x128x4096) ![v, 0, 256 * kt] S1x128x256.size
    (by intro a; fin_cases a <;> simp [S4x128x4096, S1x128x256] <;> omega)).toLoadRect (View.loadsAt_vmem h_S1x128x256)) k

/-- One pass of unit `q`: the tile is pushed, the rows are multiplied onto the accumulator at `A`. -/
def pass (q r : Fin 2) (A : ℕ) (hA : Mxu.Fits A 128) (v : ℕ) (hv : v < 4) (kt : ℕ) (hk : kt < 16) (idx : IVec S64x128 32)
    (w0 w1 w2 w3 : Pair) (s : Mxu F) (k : Mxu F → P nD τ sig F Λ α) : P nD τ sig F Λ α :=
  ldZ B (4 * kt) (by omega) fun z0 =>
  ldZ B (4 * kt + 1) (by omega) fun z1 =>
  ldZ B (4 * kt + 2) (by omega) fun z2 =>
  ldZ B (4 * kt + 3) (by omega) fun z3 =>
  .op (.assume (s.PushOk q r false)) fun _ =>
  ldX B v hv kt hk fun x =>
  k ((s.pushed q r false (tile w0 w1 w2 w3 (scale idx z0) (scale idx z1) (scale idx z2) (scale idx z3))).accLhs q r A
    (shapeCast S128x256 x shapeCasts_S1x128x256_S128x256) hA)

/-- The pass of chunk residue `v` over the rows 256·kt … 256·kt + 255, -/
def passes1 (a : At) (idx : ℕ → IVec S64x128 32) (r : Fin 2) (A : ℕ) (hA : Mxu.Fits A 128) (v : ℕ) (hv : v < 2)
    (ht : 43387 + reach v false ≤ a.top) (kt : ℕ) (hk : kt < 16) (s : Mxu F) (k : Mxu F → P nD τ sig F Λ α) : P nD τ sig F Λ α :=
  words1 B M a v hv (2752 * kt) (by omega) fun p0 =>
  words1 B M a v hv (2752 * kt + 43) (by omega) fun q0 =>
  words1 B M a v hv (2752 * kt + 688) (by omega) fun p1 =>
  words1 B M a v hv (2752 * kt + 731) (by omega) fun q1 =>
  words1 B M a v hv (2752 * kt + 1376) (by omega) fun p2 =>
  words1 B M a v hv (2752 * kt + 1419) (by omega) fun q2 =>
  words1 B M a v hv (2752 * kt + 2064) (by omega) fun p3 =>
  words1 B M a v hv (2752 * kt + 2107) (by omega) fun q3 =>
  pass B 0 r A hA v (by omega) kt hk (idx v) (p0, q0) (p1, q1) (p2, q2) (p3, q3) s k

/-- and the passes of `v` (unit 0) and `v + 2` (unit 1). -/
def passes2 (a : At) (idx : ℕ → IVec S64x128 32) (r : Fin 2) (A : ℕ) (hA : Mxu.Fits A 128) (v : ℕ) (hv : v < 2)
    (ht : 43387 + reach v true ≤ a.top) (kt : ℕ) (hk : kt < 16) (s : Mxu F) (k : Mxu F → P nD τ sig F Λ α) : P nD τ sig F Λ α :=
  words2 B M a v hv (2752 * kt) (by omega) fun p0 p0' =>
  words2 B M a v hv (2752 * kt + 43) (by omega) fun q0 q0' =>
  words2 B M a v hv (2752 * kt + 688) (by omega) fun p1 p1' =>
  words2 B M a v hv (2752 * kt + 731) (by omega) fun q1 q1' =>
  words2 B M a v hv (2752 * kt + 1376) (by omega) fun p2 p2' =>
  words2 B M a v hv (2752 * kt + 1419) (by omega) fun q2 q2' =>
  words2 B M a v hv (2752 * kt + 2064) (by omega) fun p3 p3' =>
  words2 B M a v hv (2752 * kt + 2107) (by omega) fun q3 q3' =>
  pass B 0 r A hA v (by omega) kt hk (idx v) (p0, q0) (p1, q1) (p2, q2) (p3, q3) s fun s =>
  pass B 1 r A hA (v + 2) (by omega) kt hk (idx (v + 2)) (p0', q0') (p1', q1') (p2', q2') (p3', q3') s k

/-- `n` such passes from `kt` on, the staging registers in turn. -/
def allPasses1 (a : At) (idx : ℕ → IVec S64x128 32) (A : ℕ) (hA : Mxu.Fits A 128) (v : ℕ) (hv : v < 2)
    (ht : 43387 + reach v false ≤ a.top) (k : Mxu F → P nD τ sig F Λ α) : (n : ℕ) → (r r' : Fin 2) → (kt : ℕ) → kt + n ≤ 16 → Mxu F → P nD τ sig F Λ α
  | 0, _, _, _, _, s => k s
  | n + 1, r, r', kt, hk, s =>
    passes1 B M a idx r A hA v hv ht kt (by omega) s fun s => allPasses1 a idx A hA v hv ht k n r' r (kt + 1) (by omega) s

def allPasses2 (a : At) (idx : ℕ → IVec S64x128 32) (A : ℕ) (hA : Mxu.Fits A 128) (v : ℕ) (hv : v < 2)
    (ht : 43387 + reach v true ≤ a.top) (k : Mxu F → P nD τ sig F Λ α) : (n : ℕ) → (r r' : Fin 2) → (kt : ℕ) → kt + n ≤ 16 → Mxu F → P nD τ sig F Λ α
  | 0, _, _, _, _, s => k s
  | n + 1, r, r', kt, hk, s =>
    passes2 B M a idx r A hA v hv ht kt (by omega) s fun s => allPasses2 a idx A hA v hv ht k n r' r (kt + 1) (by omega) s

/-- Where the running sums of a chunk lie. -/
structure AccAt where
  off : Fin 4 → ℕ
  inb : ∀ a, off a + S1x1x128x128.size a ≤ S43x2x128x128.size a

def ldA (o : AccAt) (k : Vec F S1x1x128x128 .f32 → P nD τ sig F Λ α) : P nD τ sig F Λ α :=
  .op (.load B.acc (Rect.unit (s := S43x2x128x128) o.off S1x1x128x128.size o.inb).toLoadRect (View.loadsAt_vmem h_S1x1x128x128)) k

def stA (o : AccAt) (v : FVec F S128x128 .f32) (k : P nD τ sig F Λ α) : P nD τ sig F Λ α :=
  .op (.store B.acc (Rect.unit (s := S43x2x128x128) o.off S1x1x128x128.size o.inb)
    (shapeCast S1x1x128x128 v shapeCasts_S128x128_S1x1x128x128) Finset.univ (View.stores_vmem_bits_univ h_S1x1x128x128 rfl) (.inl rfl)) fun _ => k

def evenHalf (v : FVec F S128x256 .f32) : FVec F S128x128 .f32 := extractStridedSlice S128x128 ![0, 0] v slices_S128x256_o0_0_S128x128
def oddHalf (v : FVec F S128x256 .f32) : FVec F S128x128 .f32 := extractStridedSlice S128x128 ![0, 128] v slices_S128x256_o0_128_S128x128

/-- The first phase: the popped sums become the running sums, -/
def finishFirst (o : Fin 4 → Fin 2 → AccAt) (v : Fin 4) (q : Fin 2) (A : ℕ) (hA : Mxu.Fits A 128) (s : Mxu F)
    (k : Mxu F → P nD τ sig F Λ α) : P nD τ sig F Λ α :=
  ldA B (o v 0) fun _ => stA B (o v 0) (evenHalf (s.read q A hA)) <|
  ldA B (o v 1) fun _ => stA B (o v 1) (oddHalf (s.read q A hA)) <|
  k (s.pop q A 128 hA)

def sumOf (a : Vec F S1x1x128x128 .f32) : FVec F S128x128 .f32 := shapeCast S128x128 a shapeCasts_S1x1x128x128_S128x128

/-- a later one: they are added to them, -/
def finishMid (o : Fin 4 → Fin 2 → AccAt) (v : Fin 4) (q : Fin 2) (A : ℕ) (hA : Mxu.Fits A 128) (s : Mxu F)
    (k : Mxu F → P nD τ sig F Λ α) : P nD τ sig F Λ α :=
  ldA B (o v 0) fun a => ldA B (o v 1) fun b =>
  ldA B (o v 0) fun _ => stA B (o v 0) (addf (evenHalf (s.read q A hA)) (sumOf a)) <|
  ldA B (o v 1) fun _ => stA B (o v 1) (addf (oddHalf (s.read q A hA)) (sumOf b)) <|
  k (s.pop q A 128 hA)

/-- Where a chunk's results lie. -/
structure OutAt (m : Memref sig .tc .vmem S43x2x128x128 .bf16) where
  off : Fin 4 → ℕ
  inb : ∀ a, off a + S1x1x128x128.size a ≤ S43x2x128x128.size a
  st : (m.access (Rect.unit (s := S43x2x128x128) off S1x1x128x128.size inb)).Stores Finset.univ

def ldO (o : OutAt B.out) (k : Vec F S1x1x128x128 .bf16 → P nD τ sig F Λ α) : P nD τ sig F Λ α :=
  .op (.load B.out (Rect.unit (s := S43x2x128x128) o.off S1x1x128x128.size o.inb).toLoadRect (View.loadsAt_vmem h_S1x1x128x128)) k

def stO (o : OutAt B.out) (v : FVec F S128x128 .bf16) (k : P nD τ sig F Λ α) : P nD τ sig F Λ α :=
  .op (.store B.out (Rect.unit (s := S43x2x128x128) o.off S1x1x128x128.size o.inb)
    (shapeCast S1x1x128x128 v shapeCasts_S128x128_S1x1x128x128) Finset.univ o.st (.inl rfl)) fun _ => k

/-- The number of each lane. -/
def lane : IVec S128x128 32 := iota .tc S128x128 32 [1] iota_S128x128_d1_w32

/-- Along the lanes the entries `idx` names, a negative one counted from the end. -/
def wrapped128 (idx : IVec S128x128 32) : IVec S128x128 32 :=
  shapeCast S128x128 (shapeCast S128x128x1
    (select (cmpi .slt idx (broadcast S128x128 0#32)) (addi idx (broadcast S128x128 128#32)) idx)
    shapeCasts_S128x128_S128x128x1) shapeCasts_S128x128x1_S128x128

/-- Half `h` of a chunk's results: even and odd columns in turn. -/
def woven (h : BitVec 32) (e o : FVec F S128x128 .f32) : FVec F S128x128 .bf16 :=
  truncf .bf16 (select (cmpi .eq (andi lane (broadcast S128x128 1#32)) (broadcast S128x128 0#32))
    (dynamicGather 1 e (wrapped128 (addi (shrsi lane (broadcast S128x128 1#32)) (broadcast S128x128 h))))
    (dynamicGather 1 o (wrapped128 (addi (shrsi lane (broadcast S128x128 1#32)) (broadcast S128x128 h))))) bitsLt_bf16_f32

/-- and the last: with them they make the results. -/
def finishLast (o : Fin 4 → Fin 2 → AccAt) (p : Fin 4 → Fin 2 → OutAt B.out) (v : Fin 4) (q : Fin 2) (A : ℕ)
    (hA : Mxu.Fits A 128) (s : Mxu F) (k : Mxu F → P nD τ sig F Λ α) : P nD τ sig F Λ α :=
  ldA B (o v 0) fun a => ldA B (o v 1) fun b =>
  ldO B (p v 0) fun _ => stO B (p v 0) (woven 0#32 (addf (evenHalf (s.read q A hA)) (sumOf a)) (addf (oddHalf (s.read q A hA)) (sumOf b))) <|
  ldO B (p v 1) fun _ => stO B (p v 1) (woven 64#32 (addf (evenHalf (s.read q A hA)) (sumOf a)) (addf (oddHalf (s.read q A hA)) (sumOf b))) <|
  k (s.pop q A 128 hA)

theorem fits0 : Mxu.Fits 0 128 := by decide
theorem fits32 : Mxu.Fits 32 128 := by decide

/-- One set of four chunks in one phase, -/
def set4 (a : At) (ht : 43420 ≤ a.top) (e : ℕ → BitVec 32)
    (fin : Fin 4 → Fin 2 → (A : ℕ) → Mxu.Fits A 128 → Mxu F → (Mxu F → P nD τ sig F Λ α) → P nD τ sig F Λ α)
    (n kt : ℕ) (hk : kt + n ≤ 16) (s : Mxu F) (k : Mxu F → P nD τ sig F Λ α) : P nD τ sig F Λ α :=
  allPasses2 B M a (fun v => broadcast S64x128 (e v)) 0 fits0 0 (by decide) (Nat.le_trans (by decide) ht)
    (fun s => allPasses2 B M a (fun v => broadcast S64x128 (e v)) 32 fits32 1 (by decide) ht
      (fun s => fin 0 0 0 fits0 s fun s => fin 2 1 0 fits0 s fun s => fin 1 0 32 fits32 s fun s => fin 3 1 32 fits32 s k)
      n 0 1 kt hk s)
    n 0 1 kt hk s

/-- and the last set, of three. -/
def set3 (a : At) (ht : 43419 ≤ a.top) (e : ℕ → BitVec 32)
    (fin : Fin 4 → Fin 2 → (A : ℕ) → Mxu.Fits A 128 → Mxu F → (Mxu F → P nD τ sig F Λ α) → P nD τ sig F Λ α)
    (n kt : ℕ) (hk : kt + n ≤ 16) (s : Mxu F) (k : Mxu F → P nD τ sig F Λ α) : P nD τ sig F Λ α :=
  allPasses2 B M a (fun v => broadcast S64x128 (e v)) 0 fits0 0 (by decide) ht
    (fun s => allPasses1 B M a (fun v => broadcast S64x128 (e v)) 32 fits32 1 (by decide) ht
      (fun s => fin 0 0 0 fits0 s fun s => fin 2 1 0 fits0 s fun s => fin 1 0 32 fits32 s k)
      n 0 1 kt hk s)
    n 0 1 kt hk s

/-! ## Before the phases -/

def ldS (i : Fin 4) (k : Vec F S128x256 .bf16 → P nD τ sig F Λ α) : P nD τ sig F Λ α :=
  .op (.load B.sin (Rect.unit (s := S512x256) ![128 * i.val, 0] S128x256.size
    (by intro a; have := i.isLt; fin_cases a <;> simp [S512x256, S128x256] <;> omega)).toLoadRect (View.loadsAt_vmem h_S128x256)) k

def popZ (i : Fin 16) (q : Fin 2) (A : ℕ) (hA : Mxu.Fits A 128) (s : Mxu F) (k : Mxu F → P nD τ sig F Λ α) : P nD τ sig F Λ α :=
  .op (.load B.z.m (B.z.wr i).toLoadRect (B.z.wrLd i)) fun _ =>
  .op (.store B.z.m (B.z.wr i) (B.z.pack i (evenHalf (s.read q A hA)) (oddHalf (s.read q A hA))) Finset.univ (B.z.wrSt i) (.inl rfl)) fun _ =>
  k (s.pop q A 128 hA)

/-- The scales of one residue: a product with a matrix of zeros and ones places them. -/
def scalesOf (i0 i1 i2 i3 : Fin 16) (e : FVec F S256x256 .bf16) (s : Mxu F) (k : Mxu F → P nD τ sig F Λ α) : P nD τ sig F Λ α :=
  .op (.assume (s.PushOk 0 0 false)) fun _ =>
  ldS B 0 fun x0 => ldS B 1 fun x1 =>
  .op (.assume (((((s.pushed 0 0 false e).accLhs 0 0 0 x0 fits0)).gmr 0).isSome = true)) fun h1 =>
  .op (.assume ((((s.pushed 0 0 false e).accLhs 0 0 0 x0 fits0).accBy 0
      ((((s.pushed 0 0 false e).accLhs 0 0 0 x0 fits0).gmr 0).get h1.down) 32 x1 fits32).PushOk 1 0 false)) fun _ =>
  ldS B 2 fun x2 => ldS B 3 fun x3 =>
  let t := (((s.pushed 0 0 false e).accLhs 0 0 0 x0 fits0).accBy 0
      ((((s.pushed 0 0 false e).accLhs 0 0 0 x0 fits0).gmr 0).get h1.down) 32 x1 fits32)
  .op (.assume ((((t.pushed 1 0 false e).accLhs 1 0 0 x2 fits0).gmr 1).isSome = true)) fun h2 =>
  let u := ((t.pushed 1 0 false e).accLhs 1 0 0 x2 fits0).accBy 1 ((((t.pushed 1 0 false e).accLhs 1 0 0 x2 fits0).gmr 1).get h2.down) 32 x3 fits32
  popZ B i0 0 0 fits0 u fun u => popZ B i1 0 32 fits32 u fun u => popZ B i2 1 0 fits0 u fun u => popZ B i3 1 32 fits32 u k

/-- All the scales. -/
def scales (e0 e1 e2 e3 : FVec F S256x256 .bf16) (s : Mxu F) (k : Mxu F → P nD τ sig F Λ α) : P nD τ sig F Λ α :=
  scalesOf B 0 1 2 3 e0 s fun s => scalesOf B 4 5 6 7 e1 s fun s => scalesOf B 8 9 10 11 e2 s fun s => scalesOf B 12 13 14 15 e3 s k

/-- The order of a group of eight rows for chunk residue `v`. -/
def permOf (v : BitVec 32) : IVec S128x128 32 :=
  addi (addi (andi lane (broadcast S128x128 (-8#32))) (muli (broadcast S128x128 4#32) (andi lane (broadcast S128x128 1#32))))
    (andi (subi (broadcast S128x128 v) (shrsi (andi lane (broadcast S128x128 7#32)) (broadcast S128x128 1#32))) (broadcast S128x128 3#32))

/-- Rows with their lanes in the order `p`. -/
def permuted (p : IVec S128x128 32) (x : Vec F S128x128 .bf16) : FVec F S128x128 .bf16 :=
  truncf .bf16 (dynamicGather 1 (extf .f32 x bitsLt_bf16_f32) (wrapped128 p)) bitsLt_bf16_f32

/-- Where the permuted rows lie. -/
abbrev xpRect (v : ℕ) (hv : v < 4) (t : ℕ) (ht : t < 32) : Rect S4x128x4096 :=
  Rect.unit (s := S4x128x4096) ![v, 0, 128 * t] S1x128x128.size (by intro a; fin_cases a <;> simp [S4x128x4096, S1x128x128] <;> omega)

/-- The columns from tile `t` on permuted, for one residue. -/
def permTiles (v : ℕ) (hv : v < 4) (st : ∀ t ht, (B.x.access (xpRect v hv t ht)).Stores Finset.univ) (k : P nD τ sig F Λ α) :
    (n t : ℕ) → t + n ≤ 32 → P nD τ sig F Λ α
  | 0, _, _ => k
  | n + 1, t, h =>
    .op (.load B.xin (Rect.unit (s := S128x4096) ![0, 128 * t] S128x128.size
      (by intro a; fin_cases a <;> simp [S128x4096, S128x128] <;> omega)).toLoadRect (View.loadsAt_vmem h_S128x128)) fun x =>
    .op (.load B.x (xpRect v hv t (by omega)).toLoadRect (View.loadsAt_vmem h_S1x128x128)) fun _ =>
    .op (.store B.x (xpRect v hv t (by omega)) (shapeCast S1x128x128 (permuted (permOf (BitVec.ofNat 32 v)) x) shapeCasts_S128x128_S1x128x128)
      Finset.univ (st t (by omega)) (.inl rfl)) fun _ =>
    permTiles v hv st k n (t + 1) (by omega)

/-- All the rows permuted, for the four residues. -/
def perms (st : ∀ v hv t ht, (B.x.access (xpRect v hv t ht)).Stores Finset.univ) (k : P nD τ sig F Λ α) : P nD τ sig F Λ α :=
  permTiles B 0 (by decide) (st 0 _)
    (permTiles B 1 (by decide) (st 1 _) (permTiles B 2 (by decide) (st 2 _) (permTiles B 3 (by decide) (st 3 _) k 32 0 (by decide)) 32 0 (by decide)) 32 0 (by decide))
    32 0 (by decide)

/-- A transfer started. -/
def start {s : Shape} {e : EltTy} {sp sp' : Space} (src : Memref sig .tc sp s e) (dst : Memref sig .tc sp' s e) (sem : DmaSem sig)
    (h1 : src.view.WordExact) (h2 : dst.view.WordExact)
    (h3 : (DmaTarget.here dst : DmaTarget nD τ sig .tc sp' s e).Typed sp (.dma sem)) (k : P nD τ sig F Λ α) : P nD τ sig F Λ α :=
  .op (.enqueueDma src (.here dst) (.dma sem) h1 h2 h3) fun _ => k

end Cert.Proof.Str
end
-- ==== Proof.Str.Places.lean ====
/-
  Where the sets of chunks lie: the places of a loop's trip, as the kernel computes them, and those of the last set.
-/
module

public import proofs.«01_k».proof.Proof.Str.Struct
public import Idealize.ShloMosaic.Lib.WordArith.Masks

@[expose] public section

noncomputable section

namespace Cert.Proof.Str

open Cert.KernelIdeal Cert.KernelIdeal.Gen
open Idealize.ShloMosaic Idealize.ShloMosaic.TcCoe Idealize.SL.Sem

variable {nD : ℕ} {τ : Topo} {sig : RefSig} {Λ : Labels} {F : FTy → Type} [FloatOps F]

/-- The loop variable at trip `g`. -/
abbrev iv (g : ℕ) : BitVec 32 := Scf.iv 0#32 1#32 g

theorem iv_toNat (g : ℕ) (hg : g < 43) : (iv g).toNat = g := WordArith.toNat_iv_zero_one _ (by omega)

theorem addi_toNat (n g : ℕ) (hg : g < 43) (hn : n ≤ 43420) : (Scalar.addi (BitVec.ofNat 32 n) (iv g)).toNat = n + g := by
  show (BitVec.ofNat 32 n + iv g).toNat = _
  rw [BitVec.toNat_add, iv_toNat g hg, BitVec.toNat_ofNat]
  omega

/-- The places of trip `g`. -/
def atG (g : ℕ) (hg : g < 10) : At where
  off n := ![(Scalar.addi (BitVec.ofNat 32 n) (iv g)).toNat, 0]
  top := 43420
  inb n hn a := by
    rw [addi_toNat n g (by omega) hn]
    right
    fin_cases a <;> simp [S8x128, S44032x128] <;> omega

/-- The chunk of residue `v` of trip `g`, as the running sums' places compute it. -/
def chunkW (g : ℕ) (v : Fin 4) : BitVec 32 :=
  (![Scalar.addi (Scalar.muli 4#32 (iv g)) 0#32, Scalar.addi (Scalar.muli 4#32 (iv g)) 1#32,
     Scalar.addi (Scalar.addi (Scalar.muli 4#32 (iv g)) 0#32) 2#32,
     Scalar.addi (Scalar.addi (Scalar.muli 4#32 (iv g)) 1#32) 2#32] : Fin 4 → BitVec 32) v

theorem muli_toNat (g : ℕ) (hg : g < 10) : (Scalar.muli 4#32 (iv g)).toNat = 4 * g := by
  show (4#32 * iv g).toNat = _
  rw [BitVec.toNat_mul, iv_toNat g (by omega)]
  simp; omega

theorem chunkW_toNat (g : ℕ) (hg : g < 10) (v : Fin 4) : (chunkW g v).toNat = 4 * g + v.val := by
  have h := muli_toNat g hg
  have e : ∀ a b : BitVec 32, (Scalar.addi a b).toNat = (a.toNat + b.toNat) % 2 ^ 32 := fun a b => BitVec.toNat_add a b
  fin_cases v <;> simp [chunkW, e, h] <;> omega

theorem accOff_inb (c h : ℕ) (hc : c < 43) (hh : h < 2) (a : Fin 4) :
    (![c, h, 0, 0] : Fin 4 → ℕ) a + S1x1x128x128.size a ≤ S43x2x128x128.size a := by
  fin_cases a <;> simp [S1x1x128x128, S43x2x128x128] <;> omega

def accG (g : ℕ) (hg : g < 10) (v : Fin 4) (h : Fin 2) : AccAt where
  off := ![(chunkW g v).toNat, h.val, 0, 0]
  inb := accOff_inb _ _ (by rw [chunkW_toNat g hg]; omega) h.isLt

/-- The chunk of residue `v` of trip `g`, as the results' places compute it. -/
def chunkV (g : ℕ) (v : Fin 4) : BitVec 32 := Scalar.addi (Scalar.muli 4#32 (iv g)) (BitVec.ofNat 32 v.val)

theorem chunkV_toNat (g : ℕ) (hg : g < 10) (v : Fin 4) : (chunkV g v).toNat = 4 * g + v.val := by
  show (Scalar.muli 4#32 (iv g) + BitVec.ofNat 32 v.val).toNat = _
  rw [BitVec.toNat_add, muli_toNat g hg, BitVec.toNat_ofNat]
  omega

/-- The first column of half `h` of that chunk's results. -/
def colV (g : ℕ) (v : Fin 4) (h : Fin 2) : BitVec 32 :=
  Scalar.addi (Scalar.muli (Scalar.muli (chunkV g v) 2#32) 128#32) (BitVec.ofNat 32 (128 * h.val))

theorem colV_toNat (g : ℕ) (hg : g < 10) (v : Fin 4) (h : Fin 2) : (colV g v h).toNat = 256 * (4 * g + v.val) + 128 * h.val := by
  show (chunkV g v * 2#32 * 128#32 + BitVec.ofNat 32 (128 * h.val)).toNat = _
  rw [BitVec.toNat_add, BitVec.toNat_mul, BitVec.toNat_mul, chunkV_toNat g hg, BitVec.toNat_ofNat]
  simp; omega

theorem colOff_inb (c : ℕ) (hc : c + 128 ≤ 11008) (a : Fin 2) : (![0, c] : Fin 2 → ℕ) a + S128x128.size a ≤ S128x11008.size a := by
  fin_cases a <;> simp [S128x128, S128x11008] <;> omega

/-- Half a chunk's results in their buffer, -/
def outSlice (m : Memref sig .tc .vmem S43x2x128x128 .bf16) (off : Fin 4 → ℕ)
    (inb : ∀ a, off a + S1x1x128x128.size a ≤ S43x2x128x128.size a) : Memref sig .tc .vmem S128x128 .bf16 :=
  (m.slice (Rect.unit (s := S43x2x128x128) off S1x1x128x128.size inb) (fun _ => rfl)).squeeze S128x128 squeezes_S1x1x128x128_S128x128

/-- and in the result. -/
def colSlice (o : Memref sig .tc .hbm S128x11008 .bf16) (off : Fin 2 → ℕ)
    (inb : ∀ a, off a + S128x128.size a ≤ S128x11008.size a) : Memref sig .tc .hbm S128x128 .bf16 :=
  o.slice (Rect.unit (s := S128x11008) off S128x128.size inb) (fun _ => rfl)

/-- The result's buffers: every half chunk is stored and sent whole. -/
structure Outs (sig : RefSig) (m : Memref sig .tc .vmem S43x2x128x128 .bf16) where
  o : Memref sig .tc .hbm S128x11008 .bf16
  sem : DmaSem sig
  st : ∀ (off : Fin 4 → ℕ) inb (c h : ℕ), off = ![c, h, 0, 0] → (m.access (Rect.unit (s := S43x2x128x128) off S1x1x128x128.size inb)).Stores Finset.univ
  ws : ∀ (off : Fin 4 → ℕ) inb (c h : ℕ), off = ![c, h, 0, 0] → (outSlice m off inb).view.WordExact
  wd : ∀ (off : Fin 2 → ℕ) inb (c : ℕ), off = ![0, 128 * c] → (colSlice o off inb).view.WordExact

variable (B : Bufs sig F) (M : Masks) (O : Outs sig B.out)

def outG (g : ℕ) (hg : g < 10) (v : Fin 4) (h : Fin 2) : OutAt B.out where
  off := ![(chunkW g v).toNat, h.val, 0, 0]
  inb := accOff_inb _ _ (by rw [chunkW_toNat g hg]; omega) h.isLt
  st := O.st _ _ _ _ rfl

variable {α : Type}

/-- One half chunk of results sent. -/
def send (g : ℕ) (hg : g < 10) (v : Fin 4) (h : Fin 2) (k : P nD τ sig F Λ α) : P nD τ sig F Λ α :=
  start (outSlice B.out ![(chunkV g v).toNat, h.val, 0, 0] (accOff_inb _ _ (by rw [chunkV_toNat g hg]; omega) h.isLt))
    (colSlice O.o ![0, (colV g v h).toNat] (colOff_inb _ (by rw [colV_toNat g hg]; omega))) O.sem
    (O.ws _ _ _ _ rfl) (O.wd _ _ (2 * (4 * g + v.val) + h.val) (by rw [colV_toNat g hg]; congr 2; omega)) ⟨Or.inl rfl, trivial⟩ k

/-- A trip of the loop of the first phase, -/
def bodyFirst (g : ℕ) (hg : g < 10) (s : Mxu F) (k : Mxu F → P nD τ sig F Λ α) : P nD τ sig F Λ α :=
  set4 B M (atG g hg) (Nat.le_refl _) (fun v => Scalar.addi (BitVec.ofNat 32 (11 * v)) (iv g)) (finishFirst B (accG g hg)) 1 0 (by decide) s k

/-- of a later one, -/
def bodyMid (n kt : ℕ) (hk : kt + n ≤ 16) (g : ℕ) (hg : g < 10) (s : Mxu F) (k : Mxu F → P nD τ sig F Λ α) : P nD τ sig F Λ α :=
  set4 B M (atG g hg) (Nat.le_refl _) (fun v => Scalar.addi (BitVec.ofNat 32 (11 * v)) (iv g)) (finishMid B (accG g hg)) n kt hk s k

/-- and of the last. -/
def bodyLast (g : ℕ) (hg : g < 10) (s : Mxu F) (k : Mxu F → P nD τ sig F Λ α) : P nD τ sig F Λ α :=
  set4 B M (atG g hg) (Nat.le_refl _) (fun v => Scalar.addi (BitVec.ofNat 32 (11 * v)) (iv g)) (finishLast B (accG g hg) (outG B O g hg))
    6 10 (by decide) s fun s =>
  send B O g hg 0 0 <| send B O g hg 0 1 <| send B O g hg 1 0 <| send B O g hg 1 1 <|
  send B O g hg 2 0 <| send B O g hg 2 1 <| send B O g hg 3 0 <| send B O g hg 3 1 <| k s

/-! ## The last set -/

def atT : At where
  off n := ![n + 10, 0]
  top := 43419
  inb n hn a := by right; fin_cases a <;> simp [S8x128, S44032x128] <;> omega

def idxT (v : ℕ) : BitVec 32 := BitVec.ofNat 32 (11 * v + 10)

def accT (v : Fin 4) (h : Fin 2) : AccAt where
  off := ![40 + v.val % 3, h.val, 0, 0]
  inb := accOff_inb _ _ (by omega) h.isLt

def outT (v : Fin 4) (h : Fin 2) : OutAt B.out where
  off := ![40 + v.val % 3, h.val, 0, 0]
  inb := accOff_inb _ _ (by omega) h.isLt
  st := O.st _ _ _ _ rfl

def sendT (v : Fin 3) (h : Fin 2) (k : P nD τ sig F Λ α) : P nD τ sig F Λ α :=
  start (outSlice B.out ![40 + v.val, h.val, 0, 0] (accOff_inb _ _ (by omega) h.isLt))
    (colSlice O.o ![0, 10240 + 256 * v.val + 128 * h.val] (colOff_inb _ (by omega))) O.sem
    (O.ws _ _ _ _ rfl) (O.wd _ _ (80 + 2 * v.val + h.val) (by congr 2; omega)) ⟨Or.inl rfl, trivial⟩ k

def tailFirst (s : Mxu F) (k : Mxu F → P nD τ sig F Λ α) : P nD τ sig F Λ α :=
  set3 B M atT (Nat.le_refl _) idxT (finishFirst B accT) 1 0 (by decide) s k

def tailMid (n kt : ℕ) (hk : kt + n ≤ 16) (s : Mxu F) (k : Mxu F → P nD τ sig F Λ α) : P nD τ sig F Λ α :=
  set3 B M atT (Nat.le_refl _) idxT (finishMid B accT) n kt hk s k

def tailLast (s : Mxu F) (k : Mxu F → P nD τ sig F Λ α) : P nD τ sig F Λ α :=
  set3 B M atT (Nat.le_refl _) idxT (finishLast B accT (outT B O)) 6 10 (by decide) s fun s =>
  sendT B O 0 0 <| sendT B O 0 1 <| sendT B O 1 0 <| sendT B O 1 1 <| sendT B O 2 0 <| sendT B O 2 1 <| k s

end Cert.Proof.Str
end
-- ==== Proof.Str.Evid.lean ====
/-
  The masks, and the evidence that half chunks are stored and sent whole.
-/
module

public import proofs.«01_k».proof.Proof.Str.Places

@[expose] public section

noncomputable section

namespace Cert.Proof.Str

open Cert.KernelIdeal Cert.KernelIdeal.Gen
open Idealize.ShloMosaic Idealize.ShloMosaic.TcCoe Idealize.SL.Sem

/-- Every second byte, from the first on. -/
def mask8 : IVec S32x128 1 := cmpi .ne (bitcast S32x128 8 (broadcast S8x128 16711935#32) bitcasts_S8x128_w32_S32x128_w8) (broadcast S32x128 0#8)
/-- Every second half word, from the first on. -/
def mask16 : IVec S16x128 1 := cmpi .ne (bitcast S16x128 16 (broadcast S8x128 65535#32) bitcasts_S8x128_w32_S16x128_w16) (broadcast S16x128 0#16)

def masks : Masks := ⟨mask8, mask16⟩

theorem packed_all : ∀ (c : Fin 43) (h : Fin 2), (Rect.unit (s := S43x2x128x128) ![c.val, h.val, 0, 0] S1x1x128x128.size
    (accOff_inb c.val h.val c.isLt h.isLt)).PackedRows (EltTy.packing .bf16) := by decide +kernel

theorem words_all : ∀ (c : Fin 43) (h : Fin 2), (Rect.unit (s := S43x2x128x128) ![c.val, h.val, 0, 0] S1x1x128x128.size
    (accOff_inb c.val h.val c.isLt h.isLt)).WholeWords (EltTy.packing .bf16) := by decide +kernel

theorem col_words_all : ∀ c : Fin 86, (Rect.unit (s := S128x11008) ![0, 128 * c.val] S128x128.size
    (colOff_inb (128 * c.val) (by omega))).WholeWords (EltTy.packing .bf16) := by decide +kernel

variable {sig : RefSig}

theorem chunk_lt (c h : ℕ) (inb : ∀ a, (![c, h, 0, 0] : Fin 4 → ℕ) a + S1x1x128x128.size a ≤ S43x2x128x128.size a) : c < 43 ∧ h < 2 := by
  have h0 := inb 0; have h1 := inb 1
  simp [S1x1x128x128, S43x2x128x128] at h0 h1
  omega

theorem col_lt (c : ℕ) (inb : ∀ a, (![0, 128 * c] : Fin 2 → ℕ) a + S128x128.size a ≤ S128x11008.size a) : c < 86 := by
  have h1 := inb 1
  simp [S128x128, S128x11008] at h1
  omega

/-- The result's buffers of whole memrefs. -/
def outs (m : Memref sig .tc .vmem S43x2x128x128 .bf16) (hm : m.IsWhole) (o : Memref sig .tc .hbm S128x11008 .bf16) (ho : o.IsWhole)
    (sem : DmaSem sig) : Outs sig m where
  o := o
  sem := sem
  st off inb c h e := by
    subst e
    obtain ⟨hc, hh⟩ := chunk_lt c h inb
    exact View.stores_vmem h_S1x1x128x128 (hm.storeExact_slice rfl _ (packed_all ⟨c, hc⟩ ⟨h, hh⟩)) (fun _ => rfl)
  ws off inb c h e := by
    subst e
    obtain ⟨hc, hh⟩ := chunk_lt c h inb
    exact (hm.wordExact_slice rfl _ (words_all ⟨c, hc⟩ ⟨h, hh⟩)).reshape _ _
  wd off inb c e := by
    subst e
    exact ho.wordExact_slice rfl _ (col_words_all ⟨c, col_lt c inb⟩)

theorem xp_packed : ∀ (v : Fin 4) (t : Fin 32), (xpRect v.val v.isLt t.val t.isLt).PackedRows (EltTy.packing .bf16) := by decide +kernel

theorem xp_st (x : Memref sig .tc .vmem S4x128x4096 .bf16) (hx : x.IsWhole) (v : ℕ) (hv : v < 4) (t : ℕ) (ht : t < 32) :
    (x.access (xpRect v hv t ht)).Stores Finset.univ :=
  View.stores_vmem h_S1x128x128 (hx.storeExact_slice rfl _ (xp_packed ⟨v, hv⟩ ⟨t, ht⟩)) (fun _ => rfl)

end Cert.Proof.Str
end
-- ==== Proof.KI.Bufs.lean ====
/-
  The ideal kernel's buffers.
-/
module

public import proofs.«01_k».proof.Proof.Str.Evid

@[expose] public section

noncomputable section

namespace Cert.Proof.KI

open Cert.KernelIdeal Cert.KernelIdeal.Gen Cert.Proof.Str
open Idealize.ShloMosaic Idealize.ShloMosaic.TcCoe Idealize.SL.Sem

variable {F : FTy → Type} [FloatOps F]

theorem zrd_inb (i : ℕ) (h : i < 64) (a : Fin 3) : (![32 * i, 0, 0] : Fin 3 → ℕ) a + S32x2x128.size a ≤ S2048x2x128.size a := by
  fin_cases a <;> simp [S2048x2x128, S32x2x128] <;> omega

theorem zwr_inb (i : Fin 16) (a : Fin 3) : S128x2x128.size a = 0 ∨
    (![512 * (i.val % 4) + i.val / 4, 0, 0] : Fin 3 → ℕ) a + (![4, 1, 1] : Fin 3 → ℕ) a * (S128x2x128.size a - 1) < S2048x2x128.size a := by
  right; fin_cases a <;> simp [S2048x2x128, S128x2x128] <;> omega

/-- The buffer of the scales: pairs of rows. -/
def zbuf (m : Memref sig .tc .vmem S2048x2x128 .bf16) (hm : m.IsWhole) : ZBuf sig F where
  shape := S2048x2x128
  elt := .bf16
  m := m
  rd i h := (Rect.unit (s := S2048x2x128) ![32 * i, 0, 0] S32x2x128.size (zrd_inb i h)).toLoadRect
  rdOk i h := View.loadsAt_vmem h_S32x2x128
  dec i h z := interleaveRows S64x128
      (shapeCast S32x128 (rowsOfParity 0 S32x1x128 z bitcasts_S32x2x128_w16_S32x1x128_w32) shapeCasts_S32x1x128_S32x128)
      (shapeCast S32x128 (rowsOfParity 1 S32x1x128 z bitcasts_S32x2x128_w16_S32x1x128_w32) shapeCasts_S32x1x128_S32x128)
      bitcasts_S64x128_w16_S32x128_w32
  wr i := ⟨(⟨![512 * (i.val % 4) + i.val / 4, 0, 0], S128x2x128.size, ![4, 1, 1], zwr_inb i⟩ : LoadRect S2048x2x128), spos_4_1_1⟩
  wrLd i := View.loadsAt_vmem h_S128x2x128
  wrSt i := View.stores_vmem h_S128x2x128 ((hm.pairWhole rank2_S2048x2x128).storeExact_slice rfl _
    (Rect.WholeRows.intro rank2_S2048x2x128 rfl rfl rfl) pairs_S2048x2x128_bf16) (fun _ => rfl)
  pack i lo hi := interleaveRows S128x2x128 (shapeCast S128x1x128 (truncf .bf16 lo bitsLt_bf16_f32) shapeCasts_S128x128_S128x1x128)
    (shapeCast S128x1x128 (truncf .bf16 hi bitsLt_bf16_f32) shapeCasts_S128x128_S128x1x128) bitcasts_S128x2x128_w16_S128x1x128_w32

end Cert.Proof.KI
end
-- ==== Proof.Str.Main.lean ====
/-
  The kernel as a whole over named parts: the transfers in, the scales, the rows, the five phases and the results' transfers.
-/
module

public import proofs.«01_k».proof.Proof.Str.Evid

@[expose] public section

noncomputable section

namespace Cert.Proof.Str

open Cert.KernelIdeal Cert.KernelIdeal.Gen
open Idealize.ShloMosaic Idealize.ShloMosaic.TcCoe Idealize.SL.Sem

variable {nD : ℕ} {τ : Topo} {sig : RefSig} {Λ : Labels} {F : FTy → Type} [FloatOps F]

/-! ## The matrices that place the scales -/

/-- A quotient rounded down, as the kernel computes it, -/
def floorDiv (x : IVec S256x256 32) (d : BitVec 32) : IVec S256x256 32 :=
  select (andi (cmpi .ne (subi (extui 32 (cmpi .sgt x (broadcast S256x256 0#32)) natLt_1_32) (extui 32 (cmpi .slt x (broadcast S256x256 0#32)) natLt_1_32))
        (broadcast S256x256 (Scalar.subi (Scalar.extui (Scalar.cmpi .sgt d 0#32)) (Scalar.extui (Scalar.cmpi .slt d 0#32)))))
      (cmpi .ne (remsi x (broadcast S256x256 d)) (broadcast S256x256 0#32)))
    (subi (divsi x (broadcast S256x256 d)) (broadcast S256x256 1#32)) (divsi x (broadcast S256x256 d))

/-- its divisor, -/
def divisor (d : BitVec 32) : BitVec 32 := Scalar.select (Scalar.cmpi .eq d 0#32) 1#32 d

/-- and the remainder. -/
def floorMod (x : IVec S256x256 32) (d : BitVec 32) : IVec S256x256 32 :=
  select (andi (xori (cmpi .slt (remsi x (broadcast S256x256 (divisor d))) (broadcast S256x256 0#32))
        (broadcastTo S256x256 (broadcast S256x256 (Scalar.cmpi .slt (divisor d) 0#32)) broadcasts_S256x256_S256x256))
      (cmpi .ne (remsi x (broadcast S256x256 (divisor d))) (broadcast S256x256 0#32)))
    (addi (remsi x (broadcast S256x256 (divisor d))) (broadcast S256x256 (divisor d))) (remsi x (broadcast S256x256 (divisor d)))

def laneE : IVec S256x256 32 := iota .tc S256x256 32 [1] iota_S256x256_d1_w32
def rowE : IVec S256x256 32 := iota .tc S256x256 32 [0] iota_S256x256_d0_w32
def groupE : IVec S256x256 32 := floorDiv (floorMod laneE 128#32) 11#32
def withinE : IVec S256x256 32 := floorMod (floorMod laneE 128#32) 11#32

/-- The row that column takes, for residue `b`. -/
def placeE (b : BitVec 32) : IVec S256x256 32 :=
  floorDiv (addi (muli (broadcast S256x256 43#32) (floorDiv laneE 128#32))
    (addi (addi (muli (broadcast S256x256 11#32) (subi groupE (broadcast S256x256 b)))
      (select (cmpi .slt groupE (broadcast S256x256 b)) (broadcast S256x256 43#32) (broadcast S256x256 0#32))) withinE)) 2#32

/-- One at that row, zero elsewhere. -/
def placing (b : BitVec 32) : FVec F S256x256 .bf16 :=
  truncf .bf16 (sitofp .f32 (extui 32 (cmpi .eq rowE (placeE b)) natLt_1_32)) bitsLt_bf16_f32

/-! ## The transfers in -/

/-- The first word row of each transfer, -/
def wlo : Fin 5 → ℕ := ![0, 2752, 8256, 16512, 27520]
/-- and how many it brings. -/
def wlen : Fin 5 → ℕ := ![2752, 5504, 8256, 11008, 16512]

theorem w_inb (i : Fin 5) (a : Fin 2) : (![wlo i, 0] : Fin 2 → ℕ) a + (![wlen i, 128] : Fin 2 → ℕ) a ≤ S44032x128.size a := by
  fin_cases i <;> fin_cases a <;> simp [wlo, wlen, S44032x128]

abbrev wRect (i : Fin 5) : Rect S44032x128 := Rect.unit (s := S44032x128) ![wlo i, 0] ![wlen i, 128] (w_inb i)

/-- The word rows one transfer brings. -/
def wSlice {sp : Space} (m : Memref sig .tc sp S44032x128 .i32) (i : Fin 5) : Memref sig .tc sp (wRect i).shape .i32 :=
  m.slice (wRect i) (fun _ => rfl)

/-- What the kernel is handed, and what its transfers in go by. -/
structure Ins (sig : RefSig) {F : FTy → Type} [FloatOps F] (B : Bufs sig F) where
  x : Memref sig .tc .hbm S128x4096 .bf16
  w : Memref sig .tc .hbm S44032x128 .i32
  s : Memref sig .tc .hbm S512x256 .bf16
  ss : DmaSem sig
  xs : DmaSem sig
  ws : Fin 5 → DmaSem sig
  hx : x.view.WordExact
  hx' : B.xin.view.WordExact
  hs : s.view.WordExact
  hs' : B.sin.view.WordExact
  st : ∀ v hv t ht, (B.x.access (xpRect v hv t ht)).Stores Finset.univ

variable (B : Bufs sig F) (M : Masks) (I : Ins sig B) (O : Outs sig B.out)

variable {α : Type}

/-- A transfer waited for. -/
def wait {s : Shape} {e : EltTy} {sp sp' : Space} (src : Memref sig .tc sp s e) (dst : Memref sig .tc sp' s e) (sem : DmaSem sig)
    (h1 : src.view.WordExact) (h2 : dst.view.WordExact) (k : P nD τ sig F Λ α) : P nD τ sig F Λ α :=
  .op (.waitDma2 sem src dst h1 h2) fun _ => k

def startW (i : Fin 5) (k : P nD τ sig F Λ α) : P nD τ sig F Λ α :=
  start (wSlice I.w i) (wSlice B.w i) (I.ws i) (View.wordExact_bits rfl) (View.wordExact_bits rfl) ⟨Or.inl rfl, trivial⟩ k

def waitW (i : Fin 5) (k : P nD τ sig F Λ α) : P nD τ sig F Λ α :=
  wait (wSlice I.w i) (wSlice B.w i) (I.ws i) (View.wordExact_bits rfl) (View.wordExact_bits rfl) k

/-- The first column of half `h` of chunk `g`, as the last loop computes it. -/
def colW (g : ℕ) (h : Fin 2) : BitVec 32 := Scalar.addi (Scalar.muli (Scalar.muli (iv g) 2#32) 128#32) (BitVec.ofNat 32 (128 * h.val))

theorem colW_toNat (g : ℕ) (hg : g < 43) (h : Fin 2) : (colW g h).toNat = 128 * (2 * g + h.val) := by
  show (iv g * 2#32 * 128#32 + BitVec.ofNat 32 (128 * h.val)).toNat = _
  rw [BitVec.toNat_add, BitVec.toNat_mul, BitVec.toNat_mul, iv_toNat g hg, BitVec.toNat_ofNat]
  simp; omega

/-- One half chunk of results waited for. -/
def waitO (g : ℕ) (hg : g < 43) (h : Fin 2) (k : P nD τ sig F Λ α) : P nD τ sig F Λ α :=
  wait (outSlice B.out ![(iv g).toNat, h.val, 0, 0] (accOff_inb _ _ (by rw [iv_toNat g hg]; exact hg) h.isLt))
    (colSlice O.o ![0, (colW g h).toNat] (colOff_inb _ (by rw [colW_toNat g hg]; omega))) O.sem
    (O.ws _ _ _ _ rfl) (O.wd _ _ (2 * g + h.val) (by rw [colW_toNat g hg])) k

theorem lt1 (k : Fin k0_t1_loop.trips) : k.val < 10 := k.isLt
theorem lt2 (k : Fin k0_t2_loop.trips) : k.val < 10 := k.isLt
theorem lt3 (k : Fin k0_t3_loop.trips) : k.val < 10 := k.isLt
theorem lt4 (k : Fin k0_t4_loop.trips) : k.val < 10 := k.isLt
theorem lt5 (k : Fin k0_t5_loop.trips) : k.val < 10 := k.isLt
theorem lt6 (k : Fin k0_t6_loop.trips) : k.val < 43 := k.isLt

/-- The last loop and the end. -/
def finale (s : Mxu F) : P nD τ sig F Λ PUnit :=
  (Scf.Loop.for k0_t6_loop k0_t6_ok (⟨⟩ : PUnit) fun k _ => waitO B O k.val (lt6 k) 0 (waitO B O k.val (lt6 k) 1 (.ret ⟨⟩))) >>= fun _ =>
  .op (.assume s.Drained) fun _ => .ret ⟨⟩

def phase5 (s : Mxu F) : P nD τ sig F Λ PUnit :=
  waitW B I 4 <| (Scf.Loop.for k0_t5_loop k0_t5_ok s fun k s => bodyLast B M O k.val (lt5 k) s .ret) >>= fun s =>
  tailLast B M O s fun s => finale B O s

def phase4 (s : Mxu F) : P nD τ sig F Λ PUnit :=
  waitW B I 3 <| (Scf.Loop.for k0_t4_loop k0_t4_ok s fun k s => bodyMid B M 4 6 (by decide) k.val (lt4 k) s .ret) >>= fun s =>
  tailMid B M 4 6 (by decide) s fun s => phase5 B M I O s

def phase3 (s : Mxu F) : P nD τ sig F Λ PUnit :=
  waitW B I 2 <| (Scf.Loop.for k0_t3_loop k0_t3_ok s fun k s => bodyMid B M 3 3 (by decide) k.val (lt3 k) s .ret) >>= fun s =>
  tailMid B M 3 3 (by decide) s fun s => phase4 B M I O s

def phase2 (s : Mxu F) : P nD τ sig F Λ PUnit :=
  waitW B I 1 <| (Scf.Loop.for k0_t2_loop k0_t2_ok s fun k s => bodyMid B M 2 1 (by decide) k.val (lt2 k) s .ret) >>= fun s =>
  tailMid B M 2 1 (by decide) s fun s => phase3 B M I O s

def phase1 (s : Mxu F) : P nD τ sig F Λ PUnit :=
  waitW B I 0 <| (Scf.Loop.for k0_t1_loop k0_t1_ok s fun k s => bodyFirst B M k.val (lt1 k) s .ret) >>= fun s =>
  tailFirst B M s fun s => phase2 B M I O s

/-- The kernel. -/
def whole : P nD τ sig F Λ PUnit :=
  start I.s B.sin I.ss I.hs I.hs' ⟨Or.inl rfl, trivial⟩ <|
  start I.x B.xin I.xs I.hx I.hx' ⟨Or.inl rfl, trivial⟩ <|
  startW B I 0 <| startW B I 1 <| startW B I 2 <| startW B I 3 <| startW B I 4 <|
  wait I.s B.sin I.ss I.hs I.hs' <|
  scales B (placing 0#32) (placing 1#32) (placing 2#32) (placing 3#32) Mxu.init fun s =>
  wait I.x B.xin I.xs I.hx I.hx' <|
  perms B I.st <|
  phase1 B M I O s

end Cert.Proof.Str
end
-- ==== Proof.KI.Root.lean ====
/-
  The kernel as it prints is the kernel over named parts.
-/
module

public import proofs.«01_k».proof.Proof.KI.Bufs
public import proofs.«01_k».proof.Proof.Str.Main
public import Idealize.ShloMosaic.Lib.Tactic

@[expose] public section

noncomputable section

namespace Cert.Proof.KI

open Cert.KernelIdeal Cert.KernelIdeal.Gen Cert.Proof.Str
open Idealize.ShloMosaic Idealize.ShloMosaic.TcCoe Idealize.SL.Sem

variable {F : FTy → Type} [FloatOps F]

/-- The buffers, -/
def bufs (arg4 : Memref sig .tc .vmem S128x4096 .bf16) (arg5 : Memref sig .tc .vmem S44032x128 .i32) (arg6 : Memref sig .tc .vmem S512x256 .bf16)
    (arg7 : Memref sig .tc .vmem S2048x2x128 .bf16) (harg7 : arg7.IsWhole)
    (arg8 : Memref sig .tc .vmem S4x128x4096 .bf16) (arg9 : Memref sig .tc .vmem S43x2x128x128 .f32)
    (arg10 : Memref sig .tc .vmem S43x2x128x128 .bf16) : Bufs sig F :=
  ⟨arg5, zbuf arg7 harg7, arg8, arg9, arg10, arg4, arg6⟩

/-- and what the transfers in go by. -/
def ins (B : Bufs sig F) (arg0 : Memref sig .tc .hbm S128x4096 .bf16) (harg0 : arg0.IsWhole) (arg1 : Memref sig .tc .hbm S44032x128 .i32)
    (arg2 : Memref sig .tc .hbm S512x256 .bf16) (harg2 : arg2.IsWhole) (h4 : B.xin.IsWhole) (h6 : B.sin.IsWhole) (h8 : B.x.IsWhole)
    (arg11 : DmaSems sig S2) (arg12 : DmaSems sig S5) : Ins sig B where
  x := arg0
  w := arg1
  s := arg2
  ss := ((arg11.slice (Rect.unit (s := S2) ![0] S1.size inb_S2_S1_0)).squeeze S_ squeezes_S1_S_).sem
  xs := ((arg11.slice (Rect.unit (s := S2) ![1] S1.size inb_S2_S1_1)).squeeze S_ squeezes_S1_S_).sem
  ws := ![((arg12.slice (Rect.unit (s := S5) ![0] S1.size inb_S5_S1_0)).squeeze S_ squeezes_S1_S_).sem,
    ((arg12.slice (Rect.unit (s := S5) ![1] S1.size inb_S5_S1_1)).squeeze S_ squeezes_S1_S_).sem,
    ((arg12.slice (Rect.unit (s := S5) ![2] S1.size inb_S5_S1_2)).squeeze S_ squeezes_S1_S_).sem,
    ((arg12.slice (Rect.unit (s := S5) ![3] S1.size inb_S5_S1_3)).squeeze S_ squeezes_S1_S_).sem,
    ((arg12.slice (Rect.unit (s := S5) ![4] S1.size inb_S5_S1_4)).squeeze S_ squeezes_S1_S_).sem]
  hx := harg0.wordExact
  hx' := h4.wordExact
  hs := harg2.wordExact
  hs' := h6.wordExact
  st v hv t ht := xp_st B.x h8 v hv t ht

set_option maxRecDepth 100000 in
theorem root (arg0 : Memref sig .tc .hbm S128x4096 .bf16) (harg0 : arg0.IsWhole) (arg1 : Memref sig .tc .hbm S44032x128 .i32) (harg1 : arg1.IsWhole) (arg2 : Memref sig .tc .hbm S512x256 .bf16) (harg2 : arg2.IsWhole) (arg3 : Memref sig .tc .hbm S128x11008 .bf16) (harg3 : arg3.IsWhole) (arg4 : Memref sig .tc .vmem S128x4096 .bf16) (harg4 : arg4.IsWhole) (arg5 : Memref sig .tc .vmem S44032x128 .i32) (harg5 : arg5.IsWhole) (arg6 : Memref sig .tc .vmem S512x256 .bf16) (harg6 : arg6.IsWhole) (arg7 : Memref sig .tc .vmem S2048x2x128 .bf16) (harg7 : arg7.IsWhole) (arg8 : Memref sig .tc .vmem S4x128x4096 .bf16) (harg8 : arg8.IsWhole) (arg9 : Memref sig .tc .vmem S43x2x128x128 .f32) (harg9 : arg9.IsWhole) (arg10 : Memref sig .tc .vmem S43x2x128x128 .bf16) (harg10 : arg10.IsWhole) (arg11 : DmaSems sig S2) (arg12 : DmaSems sig S5) (arg13 : DmaSems sig S_) :
    cc0_int4_linear (F := F) arg0 harg0 arg1 harg1 arg2 harg2 arg3 harg3 arg4 harg4 arg5 harg5 arg6 harg6 arg7 harg7 arg8 harg8 arg9 harg9 arg10 harg10 arg11 arg12 arg13
      = whole (bufs arg4 arg5 arg6 arg7 harg7 arg8 arg9 arg10) masks
          (ins (bufs arg4 arg5 arg6 arg7 harg7 arg8 arg9 arg10) arg0 harg0 arg1 arg2 harg2 harg4 harg6 harg8 arg11 arg12)
          (outs arg10 harg10 arg3 harg3 arg13.sem) := by
  simp only [cc0_int4_linear, k0_part949, k0_part950, k0_part951, k0_part952, k0_part588, k0_part611, k0_part656, k0_part723, k0_part812,
    Prog.bind_assoc]
  sl_kernel_rfl

end Cert.Proof.KI
end
-- ==== Proof.Str.State.lean ====
/-
  The matrix units between the passes: registers empty, each of the four accumulators empty or holding a known value.
-/
module

public import proofs.«01_k».proof.Proof.Str.Places
public import Idealize.ShloMosaic.Lib.Mxu.Lemmas

@[expose] public section

noncomputable section

namespace Cert.Proof.Str

open Cert.KernelIdeal Cert.KernelIdeal.Gen
open Idealize.ShloMosaic Idealize.ShloMosaic.TcCoe Idealize.SL.Sem

variable {F : FTy → Type} [FloatOps F]

theorem fits (a : Fin 2) : Mxu.Fits (32 * a.val) 128 := by fin_cases a <;> decide

/-- The values of the four accumulators. -/
abbrev Accs (F : FTy → Type) [FloatOps F] : Type := Fin 2 → Fin 2 → Option (FVec F S128x256 .f32)

def Accs.none : Accs F := fun _ _ => Option.none

def Accs.set (u : Accs F) (q a : Fin 2) (o : Option (FVec F S128x256 .f32)) : Accs F :=
  fun q' a' => if q' = q ∧ a' = a then o else u q' a'

structure St (s : Mxu F) (u : Accs F) : Prop where
  reg : ∀ q r, s.reg q r = none
  live : ∀ q a (R : Fin 128), s.live q (Mxu.row (fits a) R) = (u q a).isSome
  rest : ∀ q (R : Fin 1024), 256 ≤ R.val → s.live q R = false
  read : ∀ q a v, u q a = some v → s.read q (32 * a.val) (fits a) = v

theorem St.init : St (Mxu.init : Mxu F) Accs.none :=
  ⟨fun q r => Mxu.reg_init q r, fun q a R => rfl, fun q R _ => rfl, fun q a v h => by cases h⟩

/-- The product of 128 rows with a tile. -/
def prod (x : FVec F S128x256 .bf16) (t : FVec F S256x256 .bf16) : FVec F S128x256 .f32 :=
  FloatOps.mxuPass (DotDims.plain 128 256 256) x t

/-- What an accumulator holds after a product. -/
def comb (o : Option (FVec F S128x256 .f32)) (p : FVec F S128x256 .f32) : FVec F S128x256 .f32 :=
  match o with
  | .none => p
  | .some e => addf e p

/-- Whether row `R` is among those of accumulator `a`. -/
theorem row_in (a a' : Fin 2) (R : Fin 128) :
    (4 * (32 * a.val) ≤ (Mxu.row (fits a') R).val ∧ (Mxu.row (fits a') R).val < 4 * (32 * a.val) + 128) ↔ a' = a := by
  have := R.isLt; have := a.isLt; have := a'.isLt
  simp only [Mxu.row, Fin.ext_iff]
  omega

theorem acc_apart {q q' a a' : Fin 2} (h : ¬ (q' = q ∧ a' = a)) :
    q' ≠ q ∨ 4 * (32 * a'.val) + 128 ≤ 4 * (32 * a.val) ∨ 4 * (32 * a.val) + 128 ≤ 4 * (32 * a'.val) := by
  by_cases hq : q' = q
  · right
    have : a' ≠ a := fun e => h ⟨hq, e⟩
    have := a.isLt; have := a'.isLt
    simp only [ne_eq, Fin.ext_iff] at *
    omega
  · exact Or.inl hq

theorem St.by {s : Mxu F} {u : Accs F} (h : St s u) (q a : Fin 2) (t : Mxu.Staged F) (x : FVec F S128x256 .bf16) :
    St (s.accBy q t (32 * a.val) (M := 128) x (fits a)) (u.set q a (some (comb (u q a) (t.pass (M := 128) x)))) where
  reg q' r' := h.reg q' r'
  live q' a' R := by
    rw [Mxu.live_accBy, h.live]
    unfold Accs.set
    by_cases hq : q' = q
    · by_cases ha : a' = a
      · rw [if_pos ⟨hq, (row_in a a' R).2 ha⟩, if_pos ⟨hq, ha⟩]; rfl
      · rw [if_neg (fun e => ha ((row_in a a' R).1 e.2)), if_neg (fun e => ha e.2)]
    · rw [if_neg (fun e => hq e.1), if_neg (fun e => hq e.1)]
  rest q' R hR := by
    rw [Mxu.live_accBy, if_neg, h.rest q' R hR]
    have := a.isLt
    omega
  read q' a' v hv := by
    unfold Accs.set at hv
    by_cases hqa : q' = q ∧ a' = a
    · rw [if_pos hqa] at hv
      obtain ⟨rfl, rfl⟩ := hqa
      cases hu : u q' a' with
      | none =>
        rw [hu] at hv
        rw [Mxu.read_accBy_of_not_live _ _ _ _ _ _ (fun R => by rw [h.live, hu]; rfl)]
        exact Option.some.inj hv
      | some e =>
        rw [hu] at hv
        rw [Mxu.read_accBy_of_live _ _ _ _ _ _ (fun R => by rw [h.live, hu]; rfl), h.read q' a' e hu]
        exact Option.some.inj hv
    · rw [if_neg hqa] at hv
      rw [Mxu.read_accBy_ne _ _ _ _ _ _ _ _ _ (acc_apart hqa)]
      exact h.read q' a' v hv

theorem pass_eq (t : FVec F S256x256 .bf16) (x : FVec F S128x256 .bf16) :
    Mxu.Staged.pass (M := 128) (⟨.bf16, false, t⟩ : Mxu.Staged F) x = prod x t := rfl

theorem St.step {s : Mxu F} {u : Accs F} (h : St s u) (q r a : Fin 2) (t : FVec F S256x256 .bf16) (x : FVec F S128x256 .bf16) :
    St ((s.pushed q r false t).accLhs q r (32 * a.val) (M := 128) x (fits a)) (u.set q a (some (comb (u q a) (prod x t)))) := by
  have hr : (s.pushed q r false t).reg q r = some ⟨.bf16, false, t⟩ := Mxu.reg_pushed_of_none s q r false t (h.reg q r)
  have hs : (s.pushed q r false t).staged q r = ⟨.bf16, false, t⟩ := by unfold Mxu.staged; rw [hr]; rfl
  have hp : ∀ q a, (s.pushed q r false t).read q (32 * a.val) (M := 128) (fits a) = s.read q (32 * a.val) (fits a) := fun _ _ => by
    rw [Mxu.read_pushed]
  have key := St.by h q a ⟨.bf16, false, t⟩ x
  rw [pass_eq] at key
  refine ⟨fun q' r' => ?_, fun q' a' R => ?_, fun q' R hR => ?_, fun q' a' v hv => ?_⟩
  · by_cases hqr : q' = q ∧ r' = r
    · obtain ⟨rfl, rfl⟩ := hqr; exact Mxu.reg_accLhs _ _ _ _ _ _
    · rw [Mxu.reg_accLhs_ne _ _ _ _ _ _ _ _ hqr, Mxu.reg_pushed_ne _ _ _ _ _ _ _ hqr]; exact h.reg q' r'
  · rw [Mxu.live_accLhs, Mxu.live_pushed, ← Mxu.live_accBy s q _ ⟨.bf16, false, t⟩ x (fits a)]; exact key.live q' a' R
  · rw [Mxu.live_accLhs, Mxu.live_pushed, ← Mxu.live_accBy s q _ ⟨.bf16, false, t⟩ x (fits a)]; exact key.rest q' R hR
  · rw [← key.read q' a' v hv, Mxu.read_accLhs_eq_accBy, hs]
    by_cases hqa : q' = q ∧ a' = a
    · obtain ⟨rfl, rfl⟩ := hqa
      rw [Mxu.read_accBy, Mxu.read_accBy, Mxu.live_pushed, Mxu.read_pushed]
    · rw [Mxu.read_accBy_ne _ _ _ _ _ _ _ _ _ (acc_apart hqa), Mxu.read_accBy_ne _ _ _ _ _ _ _ _ _ (acc_apart hqa), Mxu.read_pushed]

theorem St.pop {s : Mxu F} {u : Accs F} (h : St s u) (q a : Fin 2) :
    St (s.pop q (32 * a.val) 128 (fits a)) (u.set q a Option.none) where
  reg q' r' := h.reg q' r'
  live q' a' R := by
    rw [Mxu.live_pop, h.live]
    unfold Accs.set
    by_cases hq : q' = q
    · by_cases ha : a' = a
      · rw [if_pos ⟨hq, (row_in a a' R).2 ha⟩, if_pos ⟨hq, ha⟩]; rfl
      · rw [if_neg (fun e => ha ((row_in a a' R).1 e.2)), if_neg (fun e => ha e.2)]
    · rw [if_neg (fun e => hq e.1), if_neg (fun e => hq e.1)]
  rest q' R hR := by
    rw [Mxu.live_pop, if_neg, h.rest q' R hR]
    have := a.isLt
    omega
  read q' a' v hv := by
    unfold Accs.set at hv
    by_cases hqa : q' = q ∧ a' = a
    · rw [if_pos hqa] at hv; cases hv
    · rw [if_neg hqa] at hv
      rw [Mxu.read_pop_ne _ _ _ _ _ _ _ (acc_apart hqa)]
      exact h.read q' a' v hv

theorem St.drained {s : Mxu F} (h : St s Accs.none) : s.Drained := by
  refine ⟨fun q r => by rw [h.reg]; rfl, fun q R => ?_⟩
  by_cases hR : 256 ≤ R.val
  · exact h.rest q R hR
  · have e : R = Mxu.row (fits ⟨R.val / 128, by omega⟩) ⟨R.val % 128, by omega⟩ := by
      apply Fin.ext; simp only [Mxu.row]; omega
    rw [e, h.live]; rfl

end Cert.Proof.Str
end
-- ==== Proof.Str.Ok.lean ====
/-
  What a set of chunks does in one phase, over any notion `Ok σ p` — "the program `p` is safe from the state `σ`" — that
  is closed under the reads, the assumptions and the stores: the accumulators it leaves empty, and the state it leaves.
-/
module

public import proofs.«01_k».proof.Proof.Str.State

@[expose] public section

noncomputable section

namespace Cert.Proof.Str

open Cert.KernelIdeal Cert.KernelIdeal.Gen
open Idealize.ShloMosaic Idealize.ShloMosaic.TcCoe Idealize.SL.Sem

variable {nD : ℕ} {τ : Topo} {sig : RefSig} {Λ : Labels} {F : FTy → Type} [FloatOps F] {α : Type}
variable (B : Bufs sig F) (M : Masks)

/-- A notion of safety is closed under the reads of words (rows `lo` to `hi`), scales and permuted rows, and under assumptions that hold. -/
structure Reads (Ok : P nD τ sig F Λ α → Prop) (a : At) (lo hi : ℕ) (wv : ℕ → Vec F S8x128 .i32) (zv : ℕ → FVec F S64x128 .bf16)
    (xv : ℕ → ℕ → Vec F S1x128x256 .bf16) : Prop where
  w : ∀ n h k, lo ≤ n → n + (43420 - a.top) + 611 < hi → Ok (k (wv n)) → Ok (ldW B a n h k)
  z : ∀ r h k, Ok (k (zv r)) → Ok (ldZ B r h k)
  x : ∀ v hv kt hk k, Ok (k (xv v kt)) → Ok (ldX B v hv kt hk k)
  assume : ∀ (p : Prop) [d : Decidable p] (h : p) (k : _ → P nD τ sig F Λ α), Ok (k ⟨h⟩) → Ok (.op (.assume p d) k)

variable {B M}

section Passes

variable (M) (wv : ℕ → Vec F S8x128 .i32) (zv : ℕ → FVec F S64x128 .bf16) (xv : ℕ → ℕ → Vec F S1x128x256 .bf16) (idx : ℕ → IVec S64x128 32)

/-- The words residue `v` selects of the rows from `n` on. -/
def wsel (v n : ℕ) : IVec S8x128 32 :=
  sel16 M.m16 (sel8 M.m8 (wv (n + wo v 0)) (wv (n + wo v 1))) (sel8 M.m8 (wv (n + wo v 2)) (wv (n + wo v 3)))

def wpair (v n : ℕ) : Pair := (wsel M wv v n, wsel M wv v (n + 43))

/-- The weight tile of residue `v`, rows 256·kt … 256·kt + 255. -/
def tileOf (v kt : ℕ) : FVec F S256x256 .bf16 :=
  tile (wpair M wv v (2752 * kt)) (wpair M wv v (2752 * kt + 688)) (wpair M wv v (2752 * kt + 1376)) (wpair M wv v (2752 * kt + 2064))
    (scale (idx v) (zv (4 * kt))) (scale (idx v) (zv (4 * kt + 1))) (scale (idx v) (zv (4 * kt + 2))) (scale (idx v) (zv (4 * kt + 3)))

def prodOf (v kt : ℕ) : FVec F S128x256 .f32 :=
  prod (shapeCast S128x256 (xv v kt) shapeCasts_S1x128x256_S128x256) (tileOf M wv zv idx v kt)

/-- `n` products from `kt` on added in turn. -/
def accum : ℕ → (kt v : ℕ) → Option (FVec F S128x256 .f32) → Option (FVec F S128x256 .f32)
  | 0, _, _, o => o
  | n + 1, kt, v, o => accum n (kt + 1) v (some (comb o (prodOf M wv zv xv idx v kt)))

/-- The same of a sum begun. -/
def accumS : ℕ → (kt v : ℕ) → FVec F S128x256 .f32 → FVec F S128x256 .f32
  | 0, _, _, o => o
  | n + 1, kt, v, o => accumS n (kt + 1) v (addf o (prodOf M wv zv xv idx v kt))

/-- The partial sum of a phase of `n` products from `kt` on. -/
def total (n kt v : ℕ) : FVec F S128x256 .f32 := accumS M wv zv xv idx (n - 1) (kt + 1) v (prodOf M wv zv xv idx v kt)

theorem accum_some (n kt v : ℕ) (o : FVec F S128x256 .f32) : accum M wv zv xv idx n kt v (some o) = some (accumS M wv zv xv idx n kt v o) := by
  induction n generalizing kt o with
  | zero => rfl
  | succ n ih => exact ih _ _

theorem accum_none (n kt v : ℕ) (h : 0 < n) : accum M wv zv xv idx n kt v Option.none = some (total M wv zv xv idx n kt v) := by
  obtain ⟨n, rfl⟩ : ∃ m, n = m + 1 := ⟨n - 1, by omega⟩
  exact accum_some M wv zv xv idx n (kt + 1) v _

end Passes

variable {Ok : P nD τ sig F Λ α → Prop} {a : At} {lo hi : ℕ} {wv : ℕ → Vec F S8x128 .i32} {zv : ℕ → FVec F S64x128 .bf16}
  {xv : ℕ → ℕ → Vec F S1x128x256 .bf16}

theorem wo_shift (v : ℕ) (hv : v < 2) : wo (v + 2) 2 = wo v 0 ∧ wo (v + 2) 3 = wo v 1 := by
  constructor <;> unfold wo <;> split <;> split <;> omega

theorem words1_ok (R : Reads B Ok a lo hi wv zv xv) {v : ℕ} {hv : v < 2} {n : ℕ} {h} {k} (h1 : lo ≤ n)
    (h2 : n + 33 + (43420 - a.top) + 610 < hi) (hk : Ok (k (wsel M wv v n))) : Ok (words1 B M a v hv n h k) := by
  have b : ∀ b, b < 4 → wo v b ≤ 32 := fun b hb => wo_le v b false hv hb
  have b0 := b 0 (by decide); have b1 := b 1 (by decide); have b2 := b 2 (by decide); have b3 := b 3 (by decide)
  exact R.w _ _ _ (by omega) (by omega) <| R.w _ _ _ (by omega) (by omega) <| R.w _ _ _ (by omega) (by omega) <|
    R.w _ _ _ (by omega) (by omega) hk

theorem words2_ok (R : Reads B Ok a lo hi wv zv xv) {v : ℕ} {hv : v < 2} {n : ℕ} {h} {k} (h1 : lo ≤ n)
    (h2 : n + 32 + v + (43420 - a.top) + 611 < hi) (hk : Ok (k (wsel M wv v n) (wsel M wv (v + 2) n))) : Ok (words2 B M a v hv n h k) := by
  have r : reach v true ≤ 32 + v := by unfold reach; simp only [cond_true]; omega
  have b : ∀ b, b < 4 → wo v b ≤ 32 + v := fun b hb => (wo_le v b true hv hb).trans r
  have b0 := b 0 (by decide); have b1 := b 1 (by decide); have b2 := b 2 (by decide); have b3 := b 3 (by decide)
  have d0 := (wo_le' v 0 true hv (by decide) rfl).trans r; have d1 := (wo_le' v 1 true hv (by decide) rfl).trans r
  have e : wsel M wv (v + 2) n = sel16 M.m16 (sel8 M.m8 (wv (n + wo (v + 2) 0)) (wv (n + wo (v + 2) 1))) (sel8 M.m8 (wv (n + wo v 0)) (wv (n + wo v 1))) := by
    unfold wsel; rw [(wo_shift v hv).1, (wo_shift v hv).2]
  rw [e] at hk
  exact R.w _ _ _ (by omega) (by omega) <| R.w _ _ _ (by omega) (by omega) <| R.w _ _ _ (by omega) (by omega) <|
    R.w _ _ _ (by omega) (by omega) <| R.w _ _ _ (by omega) (by omega) <| R.w _ _ _ (by omega) (by omega) hk

theorem pass_ok (R : Reads B Ok a lo hi wv zv xv) {q r : Fin 2} {A : ℕ} {hA : Mxu.Fits A 128} {v : ℕ} {hv : v < 4} {kt : ℕ} {hkt : kt < 16}
    {ix : IVec S64x128 32} {w0 w1 w2 w3 : Pair} {s : Mxu F} {k} {u : Accs F} (hs : St s u) (b : Fin 2) (hb : A = 32 * b.val)
    (hk : ∀ s', St s' (u.set q b (some (comb (u q b) (prod (shapeCast S128x256 (xv v kt) shapeCasts_S1x128x256_S128x256)
      (tile w0 w1 w2 w3 (scale ix (zv (4 * kt))) (scale ix (zv (4 * kt + 1))) (scale ix (zv (4 * kt + 2))) (scale ix (zv (4 * kt + 3)))))))) → Ok (k s')) :
    Ok (pass B q r A hA v hv kt hkt ix w0 w1 w2 w3 s k) := by
  subst hb
  exact R.z _ _ _ <| R.z _ _ _ <| R.z _ _ _ <| R.z _ _ _ <|
    R.assume _ (Mxu.pushOk_of_none s q r false (hs.reg q r)) _ <| R.x _ _ _ _ _ <| hk _ (hs.step q r b _ _)

theorem passes1_ok (R : Reads B Ok a lo hi wv zv xv) {idx : ℕ → IVec S64x128 32} {r : Fin 2} {A : ℕ} {hA : Mxu.Fits A 128} {v : ℕ} {hv : v < 2}
    {ht} {kt : ℕ} {hkt : kt < 16} {s : Mxu F} {k} {u : Accs F} (hs : St s u) (b : Fin 2) (hb : A = 32 * b.val)
    (h1 : lo ≤ 2752 * kt) (h2 : 2752 * (kt + 1) ≤ hi) (h3 : 43419 ≤ a.top)
    (hk : ∀ s', St s' (u.set 0 b (some (comb (u 0 b) (prodOf M wv zv xv idx v kt)))) → Ok (k s')) :
    Ok (passes1 B M a idx r A hA v hv ht kt hkt s k) :=
  words1_ok R (by omega) (by omega) <| words1_ok R (by omega) (by omega) <| words1_ok R (by omega) (by omega) <|
  words1_ok R (by omega) (by omega) <| words1_ok R (by omega) (by omega) <| words1_ok R (by omega) (by omega) <|
  words1_ok R (by omega) (by omega) <| words1_ok R (by omega) (by omega) <| pass_ok R hs b hb hk

theorem passes2_ok (R : Reads B Ok a lo hi wv zv xv) {idx : ℕ → IVec S64x128 32} {r : Fin 2} {A : ℕ} {hA : Mxu.Fits A 128} {v : ℕ} {hv : v < 2}
    {ht} {kt : ℕ} {hkt : kt < 16} {s : Mxu F} {k} {u : Accs F} (hs : St s u) (b : Fin 2) (hb : A = 32 * b.val)
    (h1 : lo ≤ 2752 * kt) (h2 : 2752 * (kt + 1) ≤ hi) (h3 : v + 43419 ≤ a.top)
    (hk : ∀ s', St s' ((u.set 0 b (some (comb (u 0 b) (prodOf M wv zv xv idx v kt)))).set 1 b
      (some (comb (u 1 b) (prodOf M wv zv xv idx (v + 2) kt)))) → Ok (k s')) :
    Ok (passes2 B M a idx r A hA v hv ht kt hkt s k) := by
  refine words2_ok R (by omega) (by omega) <| words2_ok R (by omega) (by omega) <| words2_ok R (by omega) (by omega) <|
    words2_ok R (by omega) (by omega) <| words2_ok R (by omega) (by omega) <| words2_ok R (by omega) (by omega) <|
    words2_ok R (by omega) (by omega) <| words2_ok R (by omega) (by omega) <| pass_ok R hs b hb fun s' hs' => ?_
  refine pass_ok R hs' b hb fun s'' hs'' => hk s'' ?_
  have e : ∀ o, (u.set 0 b o) 1 b = u 1 b := fun o => by
    unfold Accs.set; rw [if_neg (fun h => absurd h.1 (by decide))]
  rw [e] at hs''
  exact hs''

theorem St.congr {s : Mxu F} {u u' : Accs F} (h : St s u) (e : ∀ q a, u q a = u' q a) : St s u' := by
  have : u = u' := funext fun q => funext fun a => e q a
  exact this ▸ h

theorem allPasses1_ok (R : Reads B Ok a lo hi wv zv xv) {idx : ℕ → IVec S64x128 32} {A : ℕ} {hA : Mxu.Fits A 128} {v : ℕ} {hv : v < 2}
    {ht} {k} (b : Fin 2) (hb : A = 32 * b.val) (h3 : 43419 ≤ a.top) :
    ∀ (n : ℕ) (r r' : Fin 2) (kt : ℕ) (hkt : kt + n ≤ 16) (s : Mxu F) (u : Accs F), lo ≤ 2752 * kt → 2752 * (kt + n) ≤ hi → St s u →
    (∀ s', St s' (u.set 0 b (accum M wv zv xv idx n kt v (u 0 b))) → Ok (k s')) →
    Ok (allPasses1 B M a idx A hA v hv ht k n r r' kt hkt s)
  | 0, r, r', kt, hkt, s, u, h1, h2, hs, hk => hk s (hs.congr fun q c => by
      unfold Accs.set accum; split <;> rename_i h <;> [rw [h.1, h.2]; rfl])
  | n + 1, r, r', kt, hkt, s, u, h1, h2, hs, hk =>
    passes1_ok R hs b hb h1 (by omega) h3 fun s' hs' =>
      allPasses1_ok R b hb h3 n r' r (kt + 1) (by omega) s' _ (by omega) (by omega) hs' fun s'' hs'' => hk s'' (hs''.congr fun q c => by
        simp only [Accs.set, and_self, if_true, accum]; split <;> rfl)

theorem allPasses2_ok (R : Reads B Ok a lo hi wv zv xv) {idx : ℕ → IVec S64x128 32} {A : ℕ} {hA : Mxu.Fits A 128} {v : ℕ} {hv : v < 2}
    {ht} {k} (b : Fin 2) (hb : A = 32 * b.val) (h3 : v + 43419 ≤ a.top) :
    ∀ (n : ℕ) (r r' : Fin 2) (kt : ℕ) (hkt : kt + n ≤ 16) (s : Mxu F) (u : Accs F), lo ≤ 2752 * kt → 2752 * (kt + n) ≤ hi → St s u →
    (∀ s', St s' ((u.set 0 b (accum M wv zv xv idx n kt v (u 0 b))).set 1 b (accum M wv zv xv idx n kt (v + 2) (u 1 b))) → Ok (k s')) →
    Ok (allPasses2 B M a idx A hA v hv ht k n r r' kt hkt s)
  | 0, r, r', kt, hkt, s, u, h1, h2, hs, hk => hk s (hs.congr fun q c => by
      unfold Accs.set accum
      split <;> rename_i h
      · rw [h.1, h.2]
      · split <;> rename_i h <;> [rw [h.1, h.2]; rfl])
  | n + 1, r, r', kt, hkt, s, u, h1, h2, hs, hk =>
    passes2_ok R hs b hb h1 (by omega) h3 fun s' hs' =>
      allPasses2_ok R b hb h3 n r' r (kt + 1) (by omega) s' _ (by omega) (by omega) hs' fun s'' hs'' => hk s'' (hs''.congr fun q c => by
        have h01 : ¬ ((0 : Fin 2) = 1) := by decide
        simp only [Accs.set, and_self, if_true, accum, h01, false_and, if_false]
        split
        · rfl
        · split <;> rfl)

/-! ## A set of chunks -/

section Sets

variable {σ : Type} {Okσ : σ → P nD τ sig F Λ α → Prop} {idx : ℕ → BitVec 32}
variable {fin : Fin 4 → Fin 2 → (A : ℕ) → Mxu.Fits A 128 → Mxu F → (Mxu F → P nD τ sig F Λ α) → P nD τ sig F Λ α}
variable {step : σ → Fin 4 → FVec F S128x256 .f32 → σ}

/-- Popping an accumulator of residue `v` takes the state `st` to `step st v`. -/
abbrev Fin1 (Okσ : σ → P nD τ sig F Λ α → Prop)
    (fin : Fin 4 → Fin 2 → (A : ℕ) → Mxu.Fits A 128 → Mxu F → (Mxu F → P nD τ sig F Λ α) → P nD τ sig F Λ α)
    (step : σ → Fin 4 → FVec F S128x256 .f32 → σ) : Prop :=
  ∀ (st : σ) (v : Fin 4) (q : Fin 2) (A : ℕ) (hA : Mxu.Fits A 128) (s : Mxu F) (k : Mxu F → P nD τ sig F Λ α),
    Okσ (step st v (s.read q A hA)) (k (s.pop q A 128 hA)) → Okσ st (fin v q A hA s k)

theorem fin_ok (hf : Fin1 Okσ fin step) {st : σ} {v : Fin 4} {q : Fin 2} {A : ℕ} {hA : Mxu.Fits A 128} {s : Mxu F} {k} {u : Accs F}
    (hs : St s u) (b : Fin 2) (hb : A = 32 * b.val) {e : FVec F S128x256 .f32} (he : u q b = some e)
    (hk : ∀ s', St s' (u.set q b Option.none) → Okσ (step st v e) (k s')) : Okσ st (fin v q A hA s k) := by
  subst hb
  refine hf _ _ _ _ _ _ _ ?_
  have e' : s.read q (32 * b.val) hA = e := hs.read q b e he
  rw [e']
  exact hk _ (hs.pop q b)

/-- The sum of residue `v`. -/
abbrev tot (M : Masks) (wv : ℕ → Vec F S8x128 .i32) (zv : ℕ → FVec F S64x128 .bf16) (xv : ℕ → ℕ → Vec F S1x128x256 .bf16)
    (e : ℕ → BitVec 32) (n kt v : ℕ) : FVec F S128x256 .f32 := total M wv zv xv (fun v => broadcast S64x128 (e v)) n kt v

theorem set4_ok (R : ∀ st, Reads B (Okσ st) a lo hi wv zv xv) (hf : Fin1 Okσ fin step) {ht} {n kt : ℕ} {hk : kt + n ≤ 16} {s : Mxu F} {k}
    {st : σ} (hn : 0 < n) (h1 : lo ≤ 2752 * kt) (h2 : 2752 * (kt + n) ≤ hi) (hs : St s Accs.none)
    (hok : ∀ s', St s' Accs.none → Okσ (step (step (step (step st 0 (tot M wv zv xv idx n kt 0)) 2 (tot M wv zv xv idx n kt 2))
      1 (tot M wv zv xv idx n kt 1)) 3 (tot M wv zv xv idx n kt 3)) (k s')) :
    Okσ st (set4 B M a ht idx fin n kt hk s k) := by
  refine allPasses2_ok (R st) 0 rfl (by omega) n 0 1 kt hk s _ h1 h2 hs fun s hs => ?_
  refine allPasses2_ok (R st) 1 rfl (by omega) n 0 1 kt hk s _ h1 h2 hs fun s hs => ?_
  refine fin_ok hf hs 0 rfl (accum_none M wv zv xv _ n kt 0 hn) fun s hs => ?_
  refine fin_ok hf hs 0 rfl (accum_none M wv zv xv _ n kt 2 hn) fun s hs => ?_
  refine fin_ok hf hs 1 rfl (accum_none M wv zv xv _ n kt 1 hn) fun s hs => ?_
  refine fin_ok hf hs 1 rfl (accum_none M wv zv xv _ n kt 3 hn) fun s hs => ?_
  refine hok s (hs.congr fun q b => ?_)
  fin_cases q <;> fin_cases b <;> rfl

theorem set3_ok (R : ∀ st, Reads B (Okσ st) a lo hi wv zv xv) (hf : Fin1 Okσ fin step) {ht} {n kt : ℕ} {hk : kt + n ≤ 16} {s : Mxu F} {k}
    {st : σ} (hn : 0 < n) (h1 : lo ≤ 2752 * kt) (h2 : 2752 * (kt + n) ≤ hi) (hs : St s Accs.none)
    (hok : ∀ s', St s' Accs.none → Okσ (step (step (step st 0 (tot M wv zv xv idx n kt 0)) 2 (tot M wv zv xv idx n kt 2))
      1 (tot M wv zv xv idx n kt 1)) (k s')) :
    Okσ st (set3 B M a ht idx fin n kt hk s k) := by
  refine allPasses2_ok (R st) 0 rfl (by omega) n 0 1 kt hk s _ h1 h2 hs fun s hs => ?_
  refine allPasses1_ok (R st) 1 rfl (by omega) n 0 1 kt hk s _ h1 h2 hs fun s hs => ?_
  refine fin_ok hf hs 0 rfl (accum_none M wv zv xv _ n kt 0 hn) fun s hs => ?_
  refine fin_ok hf hs 0 rfl (accum_none M wv zv xv _ n kt 2 hn) fun s hs => ?_
  refine fin_ok hf hs 1 rfl (accum_none M wv zv xv _ n kt 1 hn) fun s hs => ?_
  refine hok s (hs.congr fun q b => ?_)
  fin_cases q <;> fin_cases b <;> rfl

end Sets

/-! ## What becomes of a popped accumulator -/

section Finish

variable {σ : Type} {Okσ : σ → P nD τ sig F Λ α → Prop} (B)
variable (rdA : σ → AccAt → Vec F S1x1x128x128 .f32) (wrA : σ → AccAt → FVec F S128x128 .f32 → σ) (wrO : σ → OutAt B.out → FVec F S128x128 .bf16 → σ)

/-- A notion of safety is closed under loads and stores of the running sums. -/
structure Sums (Okσ : σ → P nD τ sig F Λ α → Prop) : Prop where
  ld : ∀ st o k, Okσ st (k (rdA st o)) → Okσ st (ldA B o k)
  sto : ∀ st o v k, Okσ (wrA st o v) k → Okσ st (stA B o v k)

def stepFirst (o : Fin 4 → Fin 2 → AccAt) (st : σ) (v : Fin 4) (e : FVec F S128x256 .f32) : σ :=
  wrA (wrA st (o v 0) (evenHalf e)) (o v 1) (oddHalf e)

def stepMid (o : Fin 4 → Fin 2 → AccAt) (st : σ) (v : Fin 4) (e : FVec F S128x256 .f32) : σ :=
  wrA (wrA st (o v 0) (addf (evenHalf e) (sumOf (rdA st (o v 0))))) (o v 1) (addf (oddHalf e) (sumOf (rdA st (o v 1))))

def stepLast (o : Fin 4 → Fin 2 → AccAt) (p : Fin 4 → Fin 2 → OutAt B.out) (st : σ) (v : Fin 4) (e : FVec F S128x256 .f32) : σ :=
  wrO (wrO st (p v 0) (woven 0#32 (addf (evenHalf e) (sumOf (rdA st (o v 0)))) (addf (oddHalf e) (sumOf (rdA st (o v 1))))))
    (p v 1) (woven 64#32 (addf (evenHalf e) (sumOf (rdA st (o v 0)))) (addf (oddHalf e) (sumOf (rdA st (o v 1)))))

variable {rdA wrA wrO}

theorem finishFirst_ok (S : Sums B rdA wrA Okσ) (o : Fin 4 → Fin 2 → AccAt) : Fin1 Okσ (finishFirst B o) (stepFirst wrA o) :=
  fun st v q A hA s k hk => S.ld _ _ _ <| S.sto _ _ _ _ <| S.ld _ _ _ <| S.sto _ _ _ _ hk

theorem finishMid_ok (S : Sums B rdA wrA Okσ) (o : Fin 4 → Fin 2 → AccAt) : Fin1 Okσ (finishMid B o) (stepMid rdA wrA o) :=
  fun st v q A hA s k hk => S.ld _ _ _ <| S.ld _ _ _ <| S.ld _ _ _ <| S.sto _ _ _ _ <| S.ld _ _ _ <| S.sto _ _ _ _ hk

theorem finishLast_ok (S : Sums B rdA wrA Okσ) (o : Fin 4 → Fin 2 → AccAt) (p : Fin 4 → Fin 2 → OutAt B.out)
    (T : ∀ v h, (∀ st k, (∀ r, Okσ st (k r)) → Okσ st (ldO B (p v h) k)) ∧ ∀ st w k, Okσ (wrO st (p v h) w) k → Okσ st (stO B (p v h) w k)) :
    Fin1 Okσ (finishLast B o p) (stepLast B rdA wrO o p) :=
  fun st v q A hA s k hk => S.ld _ _ _ <| S.ld _ _ _ <| (T v 0).1 _ _ fun _ => (T v 0).2 _ _ _ <| (T v 1).1 _ _ fun _ => (T v 1).2 _ _ _ hk

end Finish

end Cert.Proof.Str
end
-- ==== Proof.Str.Mem.lean ====
/-
  The buffers in the separation logic: what is held of them, and the kernel's reads and writes on what is held.
-/
module

public import proofs.«01_k».proof.Proof.Str.Main
public import proofs.«01_k».proof.Proof.Str.Ok
public import Idealize.ShloMosaic.Lib.Batch
public import Idealize.ShloMosaic.Lib.Writes
public import Idealize.ShloMosaic.Lib.Tactic
public import Idealize.ShloMosaic.Lib.Pipeline.FrameBody

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable (B : Bufs sig F) (M : Masks)

/-- The running sums' and the results' buffers. -/
structure Mem where
  a : B.acc.view.ty.Contents (Elt F)
  o : B.out.view.ty.Contents (Elt F)

variable {B}

def rdA (m : Mem B) (o : AccAt) : Vec F S1x1x128x128 .f32 :=
  B.acc.view.readAt (Elt F) (Rect.unit (s := S43x2x128x128) o.off S1x1x128x128.size o.inb).toLoadRect m.a

def wrA (m : Mem B) (o : AccAt) (v : FVec F S128x128 .f32) : Mem B where
  a := (B.acc.access (Rect.unit (s := S43x2x128x128) o.off S1x1x128x128.size o.inb)).write (Elt F) m.a
    (shapeCast S1x1x128x128 v shapeCasts_S128x128_S1x1x128x128) Finset.univ
  o := m.o

def wrO (m : Mem B) (o : OutAt B.out) (v : FVec F S128x128 .bf16) : Mem B where
  a := m.a
  o := (B.out.access (Rect.unit (s := S43x2x128x128) o.off S1x1x128x128.size o.inb)).write (Elt F) m.o
    (shapeCast S1x1x128x128 v shapeCasts_S128x128_S1x1x128x128) Finset.univ

/-- The words read at a place. -/
def rdW (fw : B.w.view.ty.Contents (Elt F)) (a : At) (n : ℕ) : Vec F S8x128 .i32 :=
  if h : n ≤ a.top then B.w.view.readAt (Elt F) (⟨a.off n, S8x128.size, ![86, 1], a.inb n h⟩ : LoadRect S44032x128) fw else fun _ => 0#32

def rdZ (fz : B.z.m.view.ty.Contents (Elt F)) (r : ℕ) : FVec F S64x128 .bf16 :=
  if h : r < 64 then B.z.dec r h (B.z.m.view.readAt (Elt F) (B.z.rd r h) fz) else B.z.dec 0 (by decide) (B.z.m.view.readAt (Elt F) (B.z.rd 0 (by decide)) fz)

theorem rdX_inb (v : ℕ) (hv : v < 4) (kt : ℕ) (hk : kt < 16) (a : Fin 3) : (![v, 0, 256 * kt] : Fin 3 → ℕ) a + S1x128x256.size a ≤ S4x128x4096.size a := by
  fin_cases a <;> simp [S4x128x4096, S1x128x256] <;> omega

def rdX (fx : B.x.view.ty.Contents (Elt F)) (v kt : ℕ) : Vec F S1x128x256 .bf16 :=
  if h : v < 4 ∧ kt < 16 then
    B.x.view.readAt (Elt F) (Rect.unit (s := S4x128x4096) ![v, 0, 256 * kt] S1x128x256.size (rdX_inb v h.1 kt h.2)).toLoadRect fx
  else B.x.view.readAt (Elt F) (Rect.unit (s := S4x128x4096) ![0, 0, 256 * 0] S1x128x256.size (rdX_inb 0 (by decide) 0 (by decide))).toLoadRect fx

/-- The words' rows from `lo` to `hi`. -/
def rowsW (B : Bufs sig F) (lo hi : ℕ) : Finset B.w.view.ty.Idx := B.w.view.setOn (Finset.univ.filter fun i : S44032x128.Idx => lo ≤ (i 0).val ∧ (i 0).val < hi)

variable (defs : Defs nD τ sig (Elt F) Λ) (𝒱 : Variants) (c : Dev nD) (bd : Option 𝒱.V) {α : Type}
  (Q : α → sProp (MT nD τ sig Unit (Elt F) ℕ (Pipeline.UD sig nD τ) ℕ))

/-- What is held of the words, the scales, the rows, the running sums and the results. -/
def held (lo hi : ℕ) (T : Finset B.out.view.ty.Idx) (fw : B.w.view.ty.Contents (Elt F)) (fz : B.z.m.view.ty.Contents (Elt F))
    (fx : B.x.view.ty.Contents (Elt F)) (m : Mem B) : sProp 𝕄 :=
  iprop((B.w.view.loc (c : Thread nD τ) ↦[rowsW B lo hi]{fullShare} fw)
    ∗ (B.z.m.view.loc (c : Thread nD τ) ↦[B.z.m.view.set]{fullShare} fz)
    ∗ (B.x.view.loc (c : Thread nD τ) ↦[B.x.view.set]{fullShare} fx)
    ∗ (B.acc.view.loc (c : Thread nD τ) ↦[B.acc.view.set]{fullShare} m.a)
    ∗ (B.out.view.loc (c : Thread nD τ) ↦[T]{fullShare} m.o))

/-- The program is safe holding `H`. -/
def Run (H : sProp 𝕄) (p : P nD τ sig F Λ α) : Prop := H ⊢ wp frame (wpE defs 𝒱 (c : Thread nD τ) bd) Set.univ p Q

/-- The program is safe holding that and `R`. -/
def Safe (lo hi : ℕ) (T : Finset B.out.view.ty.Idx) (fw : B.w.view.ty.Contents (Elt F)) (fz : B.z.m.view.ty.Contents (Elt F))
    (fx : B.x.view.ty.Contents (Elt F)) (R : sProp 𝕄) (m : Mem B) (p : P nD τ sig F Λ α) : Prop :=
  Run defs 𝒱 c bd Q iprop(held (τ := τ) c lo hi T fw fz fx m ∗ R) p

variable {lo hi : ℕ} {T : Finset B.out.view.ty.Idx} {fw : B.w.view.ty.Contents (Elt F)} {fz : B.z.m.view.ty.Contents (Elt F)}
  {fx : B.x.view.ty.Contents (Elt F)} {R : sProp (MT nD τ sig Unit (Elt F) ℕ (Pipeline.UD sig nD τ) ℕ)}

/-- A place's word rows lie a few rows past the one they are named by. -/
def At.Near (a : At) : Prop := ∀ n, n ≤ a.top → n ≤ a.off n 0 ∧ a.off n 0 ≤ n + 9 + (43420 - a.top)

theorem atG_near (g : ℕ) (hg : g < 10) : (atG g hg).Near := fun n hn => by
  have : (atG g hg).off n 0 = n + g := addi_toNat n g (by omega) hn
  rw [this]; omega

theorem atT_near : atT.Near := fun n hn => by
  have : atT.off n 0 = n + 10 := rfl
  have e : atT.top = 43419 := rfl
  rw [this, e]; omega

theorem reads {a : At} (ha : a.Near) (m : Mem B) :
    Reads B (Safe defs 𝒱 c bd Q lo hi T fw fz fx R m) a lo hi (rdW fw a) (rdZ fz) (rdX fx) where
  w n h k h1 h2 hk := by
    have hS : B.w.view.setOn (⟨a.off n, S8x128.size, ![86, 1], a.inb n h⟩ : LoadRect S44032x128).set ⊆ rowsW B lo hi := by
      refine Finset.map_subset_map.2 fun i hi' => ?_
      obtain ⟨j, hj, e⟩ := (LoadRect.mem_set _).1 hi' 0
      have := ha n h
      have hj' : j < 8 := hj
      have e' : (i 0).val = a.off n 0 + 86 * j := by rw [e]; rfl
      simp only [Finset.mem_filter, Finset.mem_univ, true_and]
      omega
    rw [show rdW fw a n = _ from dif_pos h] at hk
    unfold Safe Run held at hk ⊢
    iintro ⟨⟨H1, H2⟩, H3⟩
    iapply (wp_load 𝒱 (c : Thread nD τ) bd Set.univ hS) $$ H1
    iintro H1
    iapply hk
    isplitr [H3]; isplitl [H1]; iexact H1; iexact H2; iexact H3
  z r h k hk := by
    rw [show rdZ fz r = _ from dif_pos h] at hk
    unfold Safe Run held at hk ⊢
    iintro ⟨⟨H1, H2, H3⟩, H4⟩
    iapply (wp_load 𝒱 (c : Thread nD τ) bd Set.univ (View.setOn_subset_set _ _)) $$ H2
    iintro H2
    iapply hk
    isplitr [H4]; isplitl [H1]; iexact H1; isplitl [H2]; iexact H2; iexact H3; iexact H4
  x v hv kt hkt k hk := by
    rw [show rdX fx v kt = _ from dif_pos ⟨hv, hkt⟩] at hk
    unfold Safe Run held at hk ⊢
    iintro ⟨⟨H1, H2, H3, H4⟩, H5⟩
    iapply (wp_load 𝒱 (c : Thread nD τ) bd Set.univ (View.setOn_subset_set _ _)) $$ H3
    iintro H3
    iapply hk
    isplitr [H5]; isplitl [H1]; iexact H1; isplitl [H2]; iexact H2; isplitl [H3]; iexact H3; iexact H4; iexact H5
  assume p d h k hk := by
    unfold Safe Run at hk ⊢
    exact hk.trans (wp_assume 𝒱 (c : Thread nD τ) bd Set.univ h)

/-- A whole store, the buffer held as the memref names it. -/
theorem store_at {s : Shape} {e : EltTy} {m : Memref sig .tc .vmem s e} {r : Rect s} {w : r.shape.Idx → Elt F e} {hx : (m.access r).Stores Finset.univ}
    {hm : Finset.univ = Finset.univ ∨ ∀ a, r.stride a = 1} {k : PUnit → P nD τ sig F Λ α} {S : Finset m.view.ty.Idx}
    {f : m.view.ty.Contents (Elt F)} (hS : (m.access r).set ⊆ S) :
    (m.view.loc (c : Thread nD τ) ↦[S]{fullShare} f : sProp 𝕄)
      ⊢ iprop(((m.view.loc (c : Thread nD τ) ↦[S]{fullShare} ((m.access r).write (Elt F) f w Finset.univ))
          -∗ wp frame (wpE defs 𝒱 (c : Thread nD τ) bd) Set.univ (k ⟨⟩) Q)
        -∗ wp frame (wpE defs 𝒱 (c : Thread nD τ) bd) Set.univ (.op (.store m r w Finset.univ hx hm) k) Q) :=
  wp_store 𝒱 (c : Thread nD τ) bd Set.univ (m := m) (r := r) hS

theorem sums : Sums B rdA wrA (Safe defs 𝒱 c bd Q lo hi T fw fz fx R) where
  ld m o k hk := by
    unfold Safe Run held at hk ⊢
    iintro ⟨⟨H1, H2, H3, H4, H5⟩, H6⟩
    iapply (wp_load 𝒱 (c : Thread nD τ) bd Set.univ (View.setOn_subset_set _ _)) $$ H4
    iintro H4
    iapply hk
    isplitr [H6]; isplitl [H1]; iexact H1; isplitl [H2]; iexact H2; isplitl [H3]; iexact H3; isplitl [H4]; iexact H4; iexact H5; iexact H6
  sto m o v k hk := by
    unfold Safe Run held at hk ⊢
    dsimp only [wrA] at hk
    unfold stA
    iintro ⟨⟨H1, H2, H3, H4, H5⟩, H6⟩
    iapply (store_at defs 𝒱 c bd Q (m := B.acc) (View.set_slice_subset _ _)) $$ H4
    iintro H4
    iapply hk
    isplitr [H6]; isplitl [H1]; iexact H1; isplitl [H2]; iexact H2; isplitl [H3]; iexact H3; isplitl [H4]; iexact H4; iexact H5; iexact H6

theorem results (o : OutAt B.out) (hT : (B.out.access (Rect.unit (s := S43x2x128x128) o.off S1x1x128x128.size o.inb)).set ⊆ T) :
    (∀ m k, (∀ r, Safe defs 𝒱 c bd Q lo hi T fw fz fx R m (k r)) → Safe defs 𝒱 c bd Q lo hi T fw fz fx R m (ldO B o k))
    ∧ ∀ m v k, Safe defs 𝒱 c bd Q lo hi T fw fz fx R (wrO m o v) k → Safe defs 𝒱 c bd Q lo hi T fw fz fx R m (stO B o v k) := by
  constructor
  · intro m k hk
    unfold Safe Run held at hk ⊢
    iintro ⟨⟨H1, H2, H3, H4, H5⟩, H6⟩
    iapply (wp_load 𝒱 (c : Thread nD τ) bd Set.univ (S := T) (by
      refine Finset.Subset.trans (Finset.Subset.trans ?_ (Finset.Subset.refl _)) hT
      rw [show (B.out.access (Rect.unit (s := S43x2x128x128) o.off S1x1x128x128.size o.inb)).set = _ from View.set_slice _ _]
      exact Finset.Subset.refl _)) $$ H5
    iintro H5
    iapply hk
    isplitr [H6]; isplitl [H1]; iexact H1; isplitl [H2]; iexact H2; isplitl [H3]; iexact H3; isplitl [H4]; iexact H4; iexact H5; iexact H6
  · intro m v k hk
    unfold Safe Run held at hk ⊢
    dsimp only [wrO] at hk
    unfold stO
    iintro ⟨⟨H1, H2, H3, H4, H5⟩, H6⟩
    iapply (store_at defs 𝒱 c bd Q (m := B.out) hT) $$ H5
    iintro H5
    iapply hk
    isplitr [H6]; isplitl [H1]; iexact H1; isplitl [H2]; iexact H2; isplitl [H3]; iexact H3; isplitl [H4]; iexact H4; iexact H5; iexact H6

end Cert.Proof.Str
end
-- ==== Proof.Str.Phase.lean ====
/-
  The phases in the separation logic: a trip of each loop, the last set of each phase, and a phase as a whole.
-/
module

public import proofs.«01_k».proof.Proof.Str.Mem

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {B : Bufs sig F} (M : Masks) (I : Ins sig B) (O : Outs sig B.out)

/-- Four chunks in the order their sums are popped, -/
def seq4 (step : Mem B → Fin 4 → FVec F S128x256 .f32 → Mem B) (m : Mem B) (t : ℕ → FVec F S128x256 .f32) : Mem B :=
  step (step (step (step m 0 (t 0)) 2 (t 2)) 1 (t 1)) 3 (t 3)

/-- and three. -/
def seq3 (step : Mem B → Fin 4 → FVec F S128x256 .f32 → Mem B) (m : Mem B) (t : ℕ → FVec F S128x256 .f32) : Mem B :=
  step (step (step m 0 (t 0)) 2 (t 2)) 1 (t 1)

def idxG (g v : ℕ) : BitVec 32 := Scalar.addi (BitVec.ofNat 32 (11 * v)) (iv g)

section Steps

variable (fw : B.w.view.ty.Contents (Elt F)) (fz : B.z.m.view.ty.Contents (Elt F)) (fx : B.x.view.ty.Contents (Elt F))

/-- The sums of one trip, -/
def totG (n kt g : ℕ) (hg : g < 10) : ℕ → FVec F S128x256 .f32 := tot M (rdW fw (atG g hg)) (rdZ fz) (rdX fx) (idxG g) n kt
/-- and of the last set. -/
def totT (n kt : ℕ) : ℕ → FVec F S128x256 .f32 := tot M (rdW fw atT) (rdZ fz) (rdX fx) idxT n kt

def tripFirst (g : ℕ) (hg : g < 10) (m : Mem B) : Mem B := seq4 (stepFirst wrA (accG g hg)) m (totG M fw fz fx 1 0 g hg)
def tripMid (n kt g : ℕ) (hg : g < 10) (m : Mem B) : Mem B := seq4 (stepMid rdA wrA (accG g hg)) m (totG M fw fz fx n kt g hg)
def tripLast (g : ℕ) (hg : g < 10) (m : Mem B) : Mem B :=
  seq4 (stepLast B rdA wrO (accG g hg) (outG B O g hg)) m (totG M fw fz fx 6 10 g hg)
def endFirst (m : Mem B) : Mem B := seq3 (stepFirst wrA accT) m (totT M fw fz fx 1 0)
def endMid (n kt : ℕ) (m : Mem B) : Mem B := seq3 (stepMid rdA wrA accT) m (totT M fw fz fx n kt)
def endLast (m : Mem B) : Mem B := seq3 (stepLast B rdA wrO accT (outT B O)) m (totT M fw fz fx 6 10)

end Steps

/-- A step made `n` times. -/
def iter (f : (g : ℕ) → g < 10 → Mem B → Mem B) (m : Mem B) : ℕ → Mem B
  | 0 => m
  | g + 1 => if h : g < 10 then f g h (iter f m g) else iter f m g

theorem iter_succ (f : (g : ℕ) → g < 10 → Mem B → Mem B) (m : Mem B) (g : ℕ) (h : g < 10) : iter f m (g + 1) = f g h (iter f m g) := dif_pos h

variable (defs : Defs nD τ sig (Elt F) Λ) (𝒱 : Variants) (c : Dev nD) (bd : Option 𝒱.V) {α : Type}
  (Q : α → sProp (MT nD τ sig Unit (Elt F) ℕ (Pipeline.UD sig nD τ) ℕ))
variable {lo hi : ℕ} {T : Finset B.out.view.ty.Idx} {fw : B.w.view.ty.Contents (Elt F)} {fz : B.z.m.view.ty.Contents (Elt F)}
  {fx : B.x.view.ty.Contents (Elt F)} {R : sProp (MT nD τ sig Unit (Elt F) ℕ (Pipeline.UD sig nD τ) ℕ)}

theorem bodyFirst_ok {g : ℕ} {hg : g < 10} {s : Mxu F} {k} {m : Mem B} (h1 : lo ≤ 0) (h2 : 2752 ≤ hi) (hs : St s Accs.none)
    (hk : ∀ s', St s' Accs.none → Safe defs 𝒱 c bd Q lo hi T fw fz fx R (tripFirst M fw fz fx g hg m) (k s')) :
    Safe defs 𝒱 c bd Q lo hi T fw fz fx R m (bodyFirst B M g hg s k) :=
  set4_ok (fun m => reads defs 𝒱 c bd Q (atG_near g hg) m) (finishFirst_ok B (sums defs 𝒱 c bd Q) (accG g hg)) (by decide) (by omega) (by omega) hs hk

theorem bodyMid_ok {n kt : ℕ} {hkt : kt + n ≤ 16} {g : ℕ} {hg : g < 10} {s : Mxu F} {k} {m : Mem B} (hn : 0 < n) (h1 : lo ≤ 2752 * kt) (h2 : 2752 * (kt + n) ≤ hi)
    (hs : St s Accs.none)
    (hk : ∀ s', St s' Accs.none → Safe defs 𝒱 c bd Q lo hi T fw fz fx R (tripMid M fw fz fx n kt g hg m) (k s')) :
    Safe defs 𝒱 c bd Q lo hi T fw fz fx R m (bodyMid B M n kt hkt g hg s k) :=
  set4_ok (fun m => reads defs 𝒱 c bd Q (atG_near g hg) m) (finishMid_ok B (sums defs 𝒱 c bd Q) (accG g hg)) hn h1 h2 hs hk

theorem tailFirst_ok {s : Mxu F} {k} {m : Mem B} (h1 : lo ≤ 0) (h2 : 2752 ≤ hi) (hs : St s Accs.none)
    (hk : ∀ s', St s' Accs.none → Safe defs 𝒱 c bd Q lo hi T fw fz fx R (endFirst M fw fz fx m) (k s')) :
    Safe defs 𝒱 c bd Q lo hi T fw fz fx R m (tailFirst B M s k) :=
  set3_ok (fun m => reads defs 𝒱 c bd Q atT_near m) (finishFirst_ok B (sums defs 𝒱 c bd Q) accT) (by decide) (by omega) (by omega) hs hk

theorem tailMid_ok {n kt : ℕ} {hkt : kt + n ≤ 16} {s : Mxu F} {k} {m : Mem B} (hn : 0 < n) (h1 : lo ≤ 2752 * kt) (h2 : 2752 * (kt + n) ≤ hi)
    (hs : St s Accs.none)
    (hk : ∀ s', St s' Accs.none → Safe defs 𝒱 c bd Q lo hi T fw fz fx R (endMid M fw fz fx n kt m) (k s')) :
    Safe defs 𝒱 c bd Q lo hi T fw fz fx R m (tailMid B M n kt hkt s k) :=
  set3_ok (fun m => reads defs 𝒱 c bd Q atT_near m) (finishMid_ok B (sums defs 𝒱 c bd Q) accT) hn h1 h2 hs hk

/-! ## The results' blocks -/

/-- The half chunk an index of the results' buffer lies in. -/
def half (i : S43x2x128x128.Idx) : ℕ := 2 * (i 0).val + (i 1).val

/-- The half chunks from the `j`-th on, -/
def outFrom (B : Bufs sig F) (j : ℕ) : Finset B.out.view.ty.Idx := B.out.view.setOn (Finset.univ.filter fun i => j ≤ half i)
/-- the `j`-th, -/
def outBlk (B : Bufs sig F) (j : ℕ) : Finset B.out.view.ty.Idx := B.out.view.setOn (Finset.univ.filter fun i => half i = j)

variable {O}
/-- and the same of the result's columns. -/
def colFrom (O : Outs sig B.out) (j : ℕ) : Finset O.o.view.ty.Idx := O.o.view.setOn (Finset.univ.filter fun i : S128x11008.Idx => 128 * j ≤ (i 1).val)
def colBlk (O : Outs sig B.out) (j : ℕ) : Finset O.o.view.ty.Idx :=
  O.o.view.setOn (Finset.univ.filter fun i : S128x11008.Idx => 128 * j ≤ (i 1).val ∧ (i 1).val < 128 * (j + 1))
variable (O)

theorem half_rect (off : Fin 4 → ℕ) (inb) (c h : ℕ) (e : off = ![c, h, 0, 0]) (hh : h < 2) :
    (Rect.unit (s := S43x2x128x128) off S1x1x128x128.size inb).set = Finset.univ.filter fun i => half i = 2 * c + h := by
  subst e
  refine Finset.ext fun i => (Rect.mem_set_unit).trans (Iff.trans ?_ (Finset.mem_filter.trans (and_iff_right (Finset.mem_univ _))).symm)
  unfold half
  constructor
  · intro h'
    have a0 := h' 0; have a1 := h' 1
    simp [S1x1x128x128] at a0 a1
    omega
  · intro h' a
    have b0 := (i 0).isLt; have b1 := (i 1).isLt; have b2 := (i 2).isLt; have b3 := (i 3).isLt
    simp [S43x2x128x128] at b0 b1 b2 b3
    fin_cases a <;> simp [S1x1x128x128] <;> omega

theorem col_rect (off : Fin 2 → ℕ) (inb) (j : ℕ) (e : off = ![0, 128 * j]) :
    (Rect.unit (s := S128x11008) off S128x128.size inb).set
      = Finset.univ.filter fun i : S128x11008.Idx => 128 * j ≤ (i 1).val ∧ (i 1).val < 128 * (j + 1) := by
  subst e
  refine Finset.ext fun i => (Rect.mem_set_unit).trans (Iff.trans ?_ (Finset.mem_filter.trans (and_iff_right (Finset.mem_univ _))).symm)
  constructor
  · intro h'
    have a1 := h' 1
    simp [S128x128] at a1
    omega
  · intro h' a
    have b0 := (i 0).isLt; have b1 := (i 1).isLt
    simp [S128x11008] at b0 b1
    fin_cases a <;> simp [S128x128] <;> omega

theorem acc_set (m : Memref sig .tc .vmem S43x2x128x128 .bf16) (off : Fin 4 → ℕ) (inb) (c h : ℕ) (e : off = ![c, h, 0, 0]) (hh : h < 2) :
    (m.access (Rect.unit (s := S43x2x128x128) off S1x1x128x128.size inb)).set = m.view.setOn (Finset.univ.filter fun i => half i = 2 * c + h) :=
  (View.set_slice _ _).trans (congrArg m.view.setOn (half_rect off inb c h e hh))

theorem outSlice_set (off : Fin 4 → ℕ) (inb) (c h : ℕ) (e : off = ![c, h, 0, 0]) (hh : h < 2) :
    (outSlice B.out off inb).view.set = outBlk B (2 * c + h) := by
  unfold outSlice outBlk
  exact (View.set_reshape _ _).trans (acc_set B.out off inb c h e hh)

theorem colSlice_set (off : Fin 2 → ℕ) (inb) (j : ℕ) (e : off = ![0, 128 * j]) : (colSlice O.o off inb).view.set = colBlk O j := by
  unfold colSlice colBlk
  exact (View.set_slice _ _).trans (congrArg O.o.view.setOn (col_rect off inb j e))

theorem outFrom_split (j : ℕ) : outFrom B j = outBlk B j ∪ outFrom B (j + 1) ∧ Disjoint (outBlk B j) (outFrom B (j + 1)) := by
  constructor
  · unfold outFrom outBlk View.setOn
    rw [← Finset.map_union]
    congr 1
    ext i
    simp only [Finset.mem_union, Finset.mem_filter, Finset.mem_univ, true_and]
    omega
  · unfold outFrom outBlk View.setOn
    rw [Finset.disjoint_map, Finset.disjoint_filter]
    intro i _ h; omega

theorem colFrom_split (j : ℕ) : colFrom O j = colBlk O j ∪ colFrom O (j + 1) ∧ Disjoint (colBlk O j) (colFrom O (j + 1)) := by
  constructor
  · unfold colFrom colBlk View.setOn
    refine Eq.trans (congrArg (Finset.map _) ?_) (Finset.map_union _ _)
    refine Finset.ext fun i => ?_
    rw [Finset.mem_union, Finset.mem_filter, Finset.mem_filter, Finset.mem_filter]
    generalize (i 1).val = n
    have := Finset.mem_univ i
    constructor
    · intro h
      by_cases h' : n < 128 * (j + 1)
      · exact Or.inl ⟨this, h.2, h'⟩
      · exact Or.inr ⟨this, by omega⟩
    · intro h
      exact ⟨this, by omega⟩
  · unfold colFrom colBlk View.setOn
    rw [Finset.disjoint_map, Finset.disjoint_filter]
    intro i _ h; omega

theorem col_inb (j : Fin 86) : ∀ a : Fin 2, (![0, 128 * j.val] : Fin 2 → ℕ) a + S128x128.size a ≤ S128x11008.size a :=
  colOff_inb _ (by omega)

theorem half_inb (j : ℕ) (hj : j < 86) (a : Fin 4) : (![j / 2, j % 2, 0, 0] : Fin 4 → ℕ) a + S1x1x128x128.size a ≤ S43x2x128x128.size a :=
  accOff_inb _ _ (by omega) (by omega) a

/-- What the `j`-th transfer of results writes, out of a buffer at `f`. -/
def sent (O : Outs sig B.out) (fo : O.o.view.ty.Contents (Elt F)) (f : B.out.view.ty.Contents (Elt F)) (j : Fin 86) : O.o.view.ty.Contents (Elt F) :=
  (colSlice O.o ![0, 128 * j.val] (col_inb j)).view.write (Elt F) fo
    ((outSlice B.out ![j.val / 2, j.val % 2, 0, 0] (half_inb j.val j.isLt)).view.read (Elt F) f) Finset.univ

/-- What it delivers. -/
def deliv (fo : O.o.view.ty.Contents (Elt F)) (val : ℕ → B.out.view.ty.Contents (Elt F)) (j : Fin 86) : sProp 𝕄 :=
  iprop((O.o.view.loc (c : Thread nD τ) ↦[colBlk O j.val]{fullShare} sent O fo (val j.val) j)
    ∗ (B.out.view.loc (c : Thread nD τ) ↦[outBlk B j.val]{fullShare} val j.val))

instance deliv_storable (fo : O.o.view.ty.Contents (Elt F)) (val : ℕ → B.out.view.ty.Contents (Elt F)) (j : Fin 86) :
    Storable (upEmb : UEmb _ 𝕄) (deliv (τ := τ) O c fo val j) := by
  unfold deliv; infer_instance

abbrev outN (O : Outs sig B.out) : ℕ := (colSlice O.o ![0, 0] (colOff_inb 0 (by decide))).view.dmaCredit

/-- The transfers of results, `j` of them issued. -/
def batch (fo : O.o.view.ty.Contents (Elt F)) (val : ℕ → B.out.view.ty.Contents (Elt F)) (j u : ℕ) : sProp 𝕄 :=
  Transfers.Batch (countersEmb (U := Pipeline.UD sig nD τ)) (c : Thread nD τ) (.dma O.sem) () (outN O) (deliv (τ := τ) O c fo val) j u

/-- With the columns not yet written. -/
def sending (fo : O.o.view.ty.Contents (Elt F)) (val : ℕ → B.out.view.ty.Contents (Elt F)) (j : ℕ) : sProp 𝕄 :=
  iprop(batch (τ := τ) O c fo val j 0 ∗ (O.o.view.loc (c : Thread nD τ) ↦[colFrom O j]{fullShare} fo))

theorem start_out {fo : O.o.view.ty.Contents (Elt F)} {val : ℕ → B.out.view.ty.Contents (Elt F)} (j : ℕ) (hj : j < 86)
    (off : Fin 4 → ℕ) (inb) (off' : Fin 2 → ℕ) (inb') (e : off = ![j / 2, j % 2, 0, 0]) (e' : off' = ![0, 128 * j])
    {h1} {h2} {h3} {k : P nD τ sig F Λ α} {m : Mem B} (hm : val j = m.o)
    (hk : Safe defs 𝒱 c bd Q lo hi (outFrom B (j + 1)) fw fz fx iprop(sending (τ := τ) O c fo val (j + 1) ∗ R) m k) :
    Safe defs 𝒱 c bd Q lo hi (outFrom B j) fw fz fx iprop(sending (τ := τ) O c fo val j ∗ R) m
      (start (outSlice B.out off inb) (colSlice O.o off' inb') O.sem h1 h2 h3 k) := by
  subst e e'
  unfold Safe Run held sending batch start at *
  have ho : (B.out.view.loc (c : Thread nD τ) ↦[outFrom B j]{fullShare} m.o : sProp 𝕄)
      ⊢ iprop(((outSlice B.out ![j / 2, j % 2, 0, 0] inb).view.loc (c : Thread nD τ) ↦[(outSlice B.out ![j / 2, j % 2, 0, 0] inb).view.set]{fullShare} m.o)
        ∗ (B.out.view.loc (c : Thread nD τ) ↦[outFrom B (j + 1)]{fullShare} m.o)) := by
    rw [outSlice_set _ inb (j / 2) (j % 2) rfl (by omega), show 2 * (j / 2) + j % 2 = j from by omega, (outFrom_split j).1]
    exact (pointsTo_union (outFrom_split j).2).1
  have hc : (O.o.view.loc (c : Thread nD τ) ↦[colFrom O j]{fullShare} fo : sProp 𝕄)
      ⊢ iprop(((colSlice O.o ![0, 128 * j] inb').view.loc (c : Thread nD τ) ↦[colBlk O j]{fullShare} fo)
        ∗ (O.o.view.loc (c : Thread nD τ) ↦[colFrom O (j + 1)]{fullShare} fo)) := by
    rw [(colFrom_split O j).1]
    exact (pointsTo_union (colFrom_split O j).2).1
  iintro ⟨⟨H1, H2, H3, H4, H5⟩, ⟨HB, HC⟩, HR⟩
  ihave H5' := ho $$ H5
  icases H5' with ⟨Hs, H5⟩
  ihave HC' := hc $$ HC
  icases HC' with ⟨Hd, HC⟩
  iapply (Transfers.wp_dmaBatch (countersEmb (U := Pipeline.UD sig nD τ)) 𝒱 (c : Thread nD τ) bd (src := outSlice B.out ![j / 2, j % 2, 0, 0] inb)
    (dst := colSlice O.o ![0, 128 * j] inb') (Sd := colBlk O j) (fs := m.o) (fd := fo) (D := deliv (τ := τ) O c fo val) (u := 0) () (outN O) rfl
    (colSlice_set O _ inb' j rfl).subset hj (Nat.zero_le _) (by
      unfold deliv sent
      rw [outSlice_set _ inb (j / 2) (j % 2) rfl (by omega), show 2 * (j / 2) + j % 2 = j from by omega, hm]
      exact .rfl)) $$ [Hs Hd HB]
  · isplitl [Hs]; iexact Hs
    isplitl [Hd]; iexact Hd
    iexact HB
  iintro HB
  iapply hk
  isplitr [HB HC HR]
  · isplitl [H1]; iexact H1
    isplitl [H2]; iexact H2
    isplitl [H3]; iexact H3
    isplitl [H4]; iexact H4
    iexact H5
  isplitr [HR]
  · isplitl [HB]; iexact HB
    iexact HC
  iexact HR

end Cert.Proof.Str
end
-- ==== Proof.Str.Stage.lean ====
/-
  The last phase, the loops, the wait before a phase, and the five phases one after another.
-/
module

public import proofs.«01_k».proof.Proof.Str.Phase

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {B : Bufs sig F} (M : Masks) (I : Ins sig B) (O : Outs sig B.out)

variable (defs : Defs nD τ sig (Elt F) Λ) (𝒱 : Variants) (c : Dev nD) (bd : Option 𝒱.V) {α : Type}
  (Q : α → sProp (MT nD τ sig Unit (Elt F) ℕ (Pipeline.UD sig nD τ) ℕ))
variable {lo hi : ℕ} {T : Finset B.out.view.ty.Idx} {fw : B.w.view.ty.Contents (Elt F)} {fz : B.z.m.view.ty.Contents (Elt F)}
  {fx : B.x.view.ty.Contents (Elt F)} {R : sProp (MT nD τ sig Unit (Elt F) ℕ (Pipeline.UD sig nD τ) ℕ)}

variable {fo : O.o.view.ty.Contents (Elt F)} {val : ℕ → B.out.view.ty.Contents (Elt F)}

theorem out_sub (off : Fin 4 → ℕ) (inb) (j c h : ℕ) (e : off = ![c, h, 0, 0]) (hh : h < 2) (hj : j ≤ 2 * c) :
    (B.out.access (Rect.unit (s := S43x2x128x128) off S1x1x128x128.size inb)).set ⊆ outFrom B j := by
  rw [acc_set B.out off inb c h e hh]
  refine Finset.map_subset_map.2 fun i hi => Finset.mem_filter.2 ⟨Finset.mem_univ _, ?_⟩
  have := (Finset.mem_filter.1 hi).2
  omega

/-- A trip of the last phase's loop stores four chunks and sends them. -/
theorem bodyLast_ok {g : ℕ} {hg : g < 10} {s : Mxu F} {k} {m : Mem B} (h1 : lo ≤ 27520) (h2 : 44032 ≤ hi) (hs : St s Accs.none)
    (hv : ∀ j, 8 * g ≤ j → j < 8 * g + 8 → val j = (tripLast M O fw fz fx g hg m).o)
    (hk : ∀ s', St s' Accs.none → Safe defs 𝒱 c bd Q lo hi (outFrom B (8 * (g + 1))) fw fz fx
      iprop(sending (τ := τ) O c fo val (8 * (g + 1)) ∗ R) (tripLast M O fw fz fx g hg m) (k s')) :
    Safe defs 𝒱 c bd Q lo hi (outFrom B (8 * g)) fw fz fx iprop(sending (τ := τ) O c fo val (8 * g) ∗ R) m (bodyLast B M O g hg s k) := by
  refine set4_ok (fun m => reads defs 𝒱 c bd Q (atG_near g hg) m)
    (finishLast_ok B (sums defs 𝒱 c bd Q) (accG g hg) (outG B O g hg) fun v h =>
      results defs 𝒱 c bd Q _ (out_sub _ _ _ _ h.val rfl h.isLt (by rw [chunkW_toNat g hg]; omega))) (by decide) (by omega) (by omega) hs fun s' hs' => ?_
  have e : ∀ (v : Fin 4) (h : Fin 2) (j : ℕ), j = 8 * g + 2 * v.val + h.val →
      (![(chunkV g v).toNat, h.val, 0, 0] : Fin 4 → ℕ) = ![j / 2, j % 2, 0, 0] := by
    intro v h j ej
    rw [chunkV_toNat g hg, show j / 2 = 4 * g + v.val from by omega, show j % 2 = h.val from by omega]
  have e' : ∀ (v : Fin 4) (h : Fin 2) (j : ℕ), j = 8 * g + 2 * v.val + h.val →
      (![0, (colV g v h).toNat] : Fin 2 → ℕ) = ![0, 128 * j] := by
    intro v h j ej
    rw [colV_toNat g hg, show 128 * j = 256 * (4 * g + v.val) + 128 * h.val from by omega]
  refine start_out O defs 𝒱 c bd Q (8 * g) (by omega) _ _ _ _ (e 0 0 _ rfl) (e' 0 0 _ rfl) (hv _ (by omega) (by omega)) ?_
  refine start_out O defs 𝒱 c bd Q (8 * g + 1) (by omega) _ _ _ _ (e 0 1 _ rfl) (e' 0 1 _ rfl) (hv _ (by omega) (by omega)) ?_
  refine start_out O defs 𝒱 c bd Q (8 * g + 2) (by omega) _ _ _ _ (e 1 0 _ rfl) (e' 1 0 _ rfl) (hv _ (by omega) (by omega)) ?_
  refine start_out O defs 𝒱 c bd Q (8 * g + 3) (by omega) _ _ _ _ (e 1 1 _ rfl) (e' 1 1 _ rfl) (hv _ (by omega) (by omega)) ?_
  refine start_out O defs 𝒱 c bd Q (8 * g + 4) (by omega) _ _ _ _ (e 2 0 _ rfl) (e' 2 0 _ rfl) (hv _ (by omega) (by omega)) ?_
  refine start_out O defs 𝒱 c bd Q (8 * g + 5) (by omega) _ _ _ _ (e 2 1 _ rfl) (e' 2 1 _ rfl) (hv _ (by omega) (by omega)) ?_
  refine start_out O defs 𝒱 c bd Q (8 * g + 6) (by omega) _ _ _ _ (e 3 0 _ rfl) (e' 3 0 _ rfl) (hv _ (by omega) (by omega)) ?_
  refine start_out O defs 𝒱 c bd Q (8 * g + 7) (by omega) _ _ _ _ (e 3 1 _ rfl) (e' 3 1 _ rfl) (hv _ (by omega) (by omega)) ?_
  exact hk s' hs'

/-- And the last set its three. -/
theorem tailLast_ok {s : Mxu F} {k} {m : Mem B} (h1 : lo ≤ 27520) (h2 : 44032 ≤ hi) (hs : St s Accs.none)
    (hv : ∀ j, 80 ≤ j → j < 86 → val j = (endLast M O fw fz fx m).o)
    (hk : ∀ s', St s' Accs.none → Safe defs 𝒱 c bd Q lo hi (outFrom B 86) fw fz fx
      iprop(sending (τ := τ) O c fo val 86 ∗ R) (endLast M O fw fz fx m) (k s')) :
    Safe defs 𝒱 c bd Q lo hi (outFrom B 80) fw fz fx iprop(sending (τ := τ) O c fo val 80 ∗ R) m (tailLast B M O s k) := by
  refine set3_ok (fun m => reads defs 𝒱 c bd Q atT_near m)
    (finishLast_ok B (sums defs 𝒱 c bd Q) accT (outT B O) fun v h =>
      results defs 𝒱 c bd Q _ (out_sub _ _ _ _ h.val rfl h.isLt (by omega))) (by decide) (by omega) (by omega) hs fun s' hs' => ?_
  refine start_out O defs 𝒱 c bd Q 80 (by omega) _ _ _ _ rfl rfl (hv _ (by omega) (by omega)) ?_
  refine start_out O defs 𝒱 c bd Q 81 (by omega) _ _ _ _ rfl rfl (hv _ (by omega) (by omega)) ?_
  refine start_out O defs 𝒱 c bd Q 82 (by omega) _ _ _ _ rfl rfl (hv _ (by omega) (by omega)) ?_
  refine start_out O defs 𝒱 c bd Q 83 (by omega) _ _ _ _ rfl rfl (hv _ (by omega) (by omega)) ?_
  refine start_out O defs 𝒱 c bd Q 84 (by omega) _ _ _ _ rfl rfl (hv _ (by omega) (by omega)) ?_
  refine start_out O defs 𝒱 c bd Q 85 (by omega) _ _ _ _ rfl rfl (hv _ (by omega) (by omega)) ?_
  exact hk s' hs'

/-! ## Loops -/

/-- A phase's loop: each trip takes the buffers from one state to the next, and leaves the units' sums read. -/
theorem loop_ok {L : Scf.Loop 32} (hok : L.OK) (hL : L.trips = 10) (hlt : ∀ k : Fin L.trips, k.val < 10)
    {β : Type} {Q : β → sProp 𝕄} (T : ℕ → Finset B.out.view.ty.Idx) (R : ℕ → sProp 𝕄) (f : (g : ℕ) → g < 10 → Mem B → Mem B) (m : Mem B)
    (body : (g : ℕ) → g < 10 → Mxu F → P nD τ sig F Λ (Mxu F))
    (hbody : ∀ g hg s (Q' : Mxu F → sProp 𝕄), St s Accs.none →
      (∀ s', St s' Accs.none → Safe defs 𝒱 c bd Q' lo hi (T (g + 1)) fw fz fx (R (g + 1)) (f g hg (iter f m g)) (.ret s')) →
      Safe defs 𝒱 c bd Q' lo hi (T g) fw fz fx (R g) (iter f m g) (body g hg s))
    {s : Mxu F} (hs : St s Accs.none) {kk : Mxu F → P nD τ sig F Λ β}
    (hk : ∀ s', St s' Accs.none → Safe defs 𝒱 c bd Q lo hi (T 10) fw fz fx (R 10) (iter f m 10) (kk s')) :
    Safe defs 𝒱 c bd Q lo hi (T 0) fw fz fx (R 0) m ((Scf.Loop.for L hok s fun k s => body k.val (hlt k) s) >>= kk) := by
  unfold Safe Run
  iintro H
  iapply (Scf.wp_for_bind frame (wpE defs 𝒱 (c : Thread nD τ) bd) Set.univ L.lb L.ub L.st hok s (fun k s => body k.val (hlt k) s)
    (fun k s => iprop(⌜St s Accs.none⌝ ∗ held (τ := τ) c lo hi (T k) fw fz fx (iter f m k) ∗ R k)) (by
      intro k acc
      iintro ⟨%hs, H⟩
      iapply (show iprop(held (τ := τ) c lo hi (T k.val) fw fz fx (iter f m k.val) ∗ R k.val) ⊢ _ from hbody k.val (hlt k) acc _ hs fun s' hs' => by
        unfold Safe Run
        rw [iter_succ f m k.val (hlt k), wp_ret]
        iintro H
        imodintro
        isplitr [H]
        · ipureintro; exact hs'
        · iexact H)
      iexact H)) $$ [H]
  · isplitr [H]
    · ipureintro; exact hs
    · iexact H
  iintro %acc ⟨%hs', H⟩
  rw [show Scf.trips L.lb L.ub L.st = 10 from hL]
  iapply (show _ ⊢ _ from hk acc hs')
  iexact H

/-! ## The words' transfers -/

/-- What the scratch buffer holds once the `i`-th transfer of words is there. -/
def brought (fw : B.w.view.ty.Contents (Elt F)) (fh : I.w.view.ty.Contents (Elt F)) (i : Fin 5) : B.w.view.ty.Contents (Elt F) :=
  (wSlice B.w i).view.write (Elt F) fw ((wSlice I.w i).view.read (Elt F) fh) Finset.univ

theorem wSlice_set (i : Fin 5) : (wSlice B.w i).view.set = rowsW B (wlo i) (wlo i + wlen i) := by
  unfold wSlice rowsW
  refine (View.set_slice _ _).trans (congrArg B.w.view.setOn ?_)
  refine Finset.ext fun j => (Rect.mem_set_unit).trans (Iff.trans ?_ (Finset.mem_filter.trans (and_iff_right (Finset.mem_univ _))).symm)
  constructor
  · intro h; exact h 0
  · intro h a
    have b1 := (j 1).isLt
    simp [S44032x128] at b1
    fin_cases a
    · exact h
    · simp; omega

abbrev wN (i : Fin 5) : ℕ := (wSlice B.w i).view.dmaCredit

def wDeliv (fw : B.w.view.ty.Contents (Elt F)) (fh : I.w.view.ty.Contents (Elt F)) (i : Fin 5) : sProp 𝕄 :=
  iprop((B.w.view.loc (c : Thread nD τ) ↦[rowsW B (wlo i) (wlo i + wlen i)]{fullShare} brought I fw fh i)
    ∗ ((wSlice I.w i).view.loc (c : Thread nD τ) ↦[(wSlice I.w i).view.set]{fullShare} fh))

/-- The `i`-th transfer of words under way, -/
def wFly (fw : B.w.view.ty.Contents (Elt F)) (fh : I.w.view.ty.Contents (Elt F)) (i : Fin 5) : sProp 𝕄 :=
  Transfers.Flight (countersEmb (U := Pipeline.UD sig nD τ)) (c : Thread nD τ) (.dma (I.ws i)) () (wN (B := B) i) (wDeliv (τ := τ) I c fw fh i)

/-- and what is owed by waiting. -/
def own : sProp 𝕄 := iprop(∃ W, owes (c : Thread nD τ) 0 W)

/-- The buffers but the words'. -/
def rest (T : Finset B.out.view.ty.Idx) (fz : B.z.m.view.ty.Contents (Elt F)) (fx : B.x.view.ty.Contents (Elt F)) (m : Mem B) : sProp 𝕄 :=
  iprop((B.z.m.view.loc (c : Thread nD τ) ↦[B.z.m.view.set]{fullShare} fz)
    ∗ (B.x.view.loc (c : Thread nD τ) ↦[B.x.view.set]{fullShare} fx)
    ∗ (B.acc.view.loc (c : Thread nD τ) ↦[B.acc.view.set]{fullShare} m.a)
    ∗ (B.out.view.loc (c : Thread nD τ) ↦[T]{fullShare} m.o))

/-- What the `i`-th wait gives beside the words. -/
def wBack (fh : I.w.view.ty.Contents (Elt F)) (i : Fin 5) : sProp 𝕄 :=
  iprop(((wSlice I.w i).view.loc (c : Thread nD τ) ↦[(wSlice I.w i).view.set]{fullShare} fh) ∗ semVal (c, (SemLoc.dma (I.ws i))) 0)

/-- A wait takes the words' rows into the buffers held. -/
theorem waitW_ok {fw : B.w.view.ty.Contents (Elt F)} {fh : I.w.view.ty.Contents (Elt F)} (i : Fin 5) {m : Mem B} {k : P nD τ sig F Λ α}
    (hk : Safe defs 𝒱 c bd Q (wlo i) (wlo i + wlen i) T (brought I fw fh i) fz fx iprop(R ∗ wBack (τ := τ) I c fh i ∗ own (τ := τ) c) m k) :
    Run defs 𝒱 c bd Q iprop(wFly (τ := τ) I c fw fh i ∗ rest (τ := τ) c T fz fx m ∗ own (τ := τ) c ∗ R) (waitW B I i k) := by
  unfold Safe at hk
  unfold Run own wFly at *
  iintro ⟨HF, Hr, ⟨%W, HW⟩, HR⟩
  unfold waitW wait
  iapply (Transfers.wp_waitLocal (countersEmb (U := Pipeline.UD sig nD τ)) 𝒱 (c : Thread nD τ) bd () rfl) $$ [HF HW]
  · isplitl [HF]; iexact HF; iexact HW
  iintro ⟨HD, Hs, HW⟩
  unfold wDeliv
  icases HD with ⟨Hw, Hh⟩
  iapply hk
  unfold held rest wBack
  icases Hr with ⟨H2, H3, H4, H5⟩
  isplitr [HR Hh Hs HW]
  · isplitl [Hw]; iexact Hw
    isplitl [H2]; iexact H2
    isplitl [H3]; iexact H3
    isplitl [H4]; iexact H4
    iexact H5
  isplitl [HR]; iexact HR
  isplitr [HW]
  · isplitl [Hh]; iexact Hh
    iexact Hs
  iexists _; iexact HW

/-- The words' rows as a phase leaves them, with what its wait gave. -/
def wDone (fw : B.w.view.ty.Contents (Elt F)) (fh : I.w.view.ty.Contents (Elt F)) (i : Fin 5) : sProp 𝕄 :=
  iprop((B.w.view.loc (c : Thread nD τ) ↦[rowsW B (wlo i) (wlo i + wlen i)]{fullShare} brought I fw fh i) ∗ wBack (τ := τ) I c fh i)

theorem release {fw : B.w.view.ty.Contents (Elt F)} {fh : I.w.view.ty.Contents (Elt F)} (i : Fin 5) {m : Mem B} {k : P nD τ sig F Λ α}
    (hk : Run defs 𝒱 c bd Q iprop(rest (τ := τ) c T fz fx m ∗ wDone (τ := τ) I c fw fh i ∗ own (τ := τ) c ∗ R) k) :
    Safe defs 𝒱 c bd Q (wlo i) (wlo i + wlen i) T (brought I fw fh i) fz fx iprop(R ∗ wBack (τ := τ) I c fh i ∗ own (τ := τ) c) m k := by
  unfold Safe
  unfold Run held wDone rest at *
  iintro ⟨⟨H1, H2⟩, HR, HB, HW⟩
  iapply hk
  isplitl [H2]; iexact H2
  isplitl [H1 HB]
  · isplitl [H1]; iexact H1
    iexact HB
  isplitl [HW]; iexact HW
  iexact HR

theorem Run.mono {H H' : sProp 𝕄} {p : P nD τ sig F Λ α} (h : Run defs 𝒱 c bd Q H' p) (e : H ⊢ H') : Run defs 𝒱 c bd Q H p := e.trans h

end Cert.Proof.Str
end
-- ==== Proof.Str.Lead.lean ====
/-
  What comes before the phases: the scales and the permuted rows.
-/
module

public import proofs.«01_k».proof.Proof.Str.Stage

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {B : Bufs sig F}

variable (defs : Defs nD τ sig (Elt F) Λ) (𝒱 : Variants) (c : Dev nD) (bd : Option 𝒱.V) {α : Type}
  (Q : α → sProp (MT nD τ sig Unit (Elt F) ℕ (Pipeline.UD sig nD τ) ℕ))
variable {fz : B.z.m.view.ty.Contents (Elt F)} {fs : B.sin.view.ty.Contents (Elt F)} {fi : B.xin.view.ty.Contents (Elt F)}
  {fx : B.x.view.ty.Contents (Elt F)} {R : sProp (MT nD τ sig Unit (Elt F) ℕ (Pipeline.UD sig nD τ) ℕ)}

/-! ## Scales -/

theorem sinOff_inb (i : Fin 4) : ∀ a : Fin 2, (![128 * i.val, 0] : Fin 2 → ℕ) a + S128x256.size a ≤ S512x256.size a := by
  intro a; have := i.isLt; fin_cases a <;> simp [S512x256, S128x256] <;> omega

/-- A block of the scales as handed over, -/
def rdS (fs : B.sin.view.ty.Contents (Elt F)) (i : Fin 4) : Vec F S128x256 .bf16 :=
  B.sin.view.readAt (Elt F) (Rect.unit (s := S512x256) ![128 * i.val, 0] S128x256.size (sinOff_inb i)).toLoadRect fs

/-- and the buffer of the scales with one block placed. -/
def zPut (fz : B.z.m.view.ty.Contents (Elt F)) (i : Fin 16) (v : FVec F S128x256 .f32) : B.z.m.view.ty.Contents (Elt F) :=
  (B.z.m.access (B.z.wr i)).write (Elt F) fz (B.z.pack i (evenHalf v) (oddHalf v)) Finset.univ

/-- The two buffers. -/
def heldZ (fs : B.sin.view.ty.Contents (Elt F)) (fz : B.z.m.view.ty.Contents (Elt F)) : sProp 𝕄 :=
  iprop((B.sin.view.loc (c : Thread nD τ) ↦[B.sin.view.set]{fullShare} fs) ∗ (B.z.m.view.loc (c : Thread nD τ) ↦[B.z.m.view.set]{fullShare} fz))

theorem ldS_ok (i : Fin 4) {k : Vec F S128x256 .bf16 → P nD τ sig F Λ α}
    (hk : Run defs 𝒱 c bd Q iprop(heldZ (τ := τ) c fs fz ∗ R) (k (rdS fs i))) :
    Run defs 𝒱 c bd Q iprop(heldZ (τ := τ) c fs fz ∗ R) (ldS B i k) := by
  unfold Run heldZ at *
  iintro ⟨⟨H1, H2⟩, H3⟩
  iapply (wp_load 𝒱 (c : Thread nD τ) bd Set.univ (View.setOn_subset_set _ _)) $$ H1
  iintro H1
  iapply hk
  isplitr [H3]; isplitl [H1]; iexact H1; iexact H2; iexact H3

theorem popZ_ok (i : Fin 16) (q : Fin 2) (A : ℕ) (hA : Mxu.Fits A 128) {s : Mxu F} {k : Mxu F → P nD τ sig F Λ α}
    (hk : Run defs 𝒱 c bd Q iprop(heldZ (τ := τ) c fs (zPut fz i (s.read q A hA)) ∗ R) (k (s.pop q A 128 hA))) :
    Run defs 𝒱 c bd Q iprop(heldZ (τ := τ) c fs fz ∗ R) (popZ B i q A hA s k) := by
  unfold Run heldZ at *
  dsimp only [zPut] at hk
  unfold popZ
  iintro ⟨⟨H1, H2⟩, H3⟩
  iapply (wp_load 𝒱 (c : Thread nD τ) bd Set.univ (View.setOn_subset_set _ _)) $$ H2
  iintro H2
  iapply (store_at defs 𝒱 c bd Q (m := B.z.m) (View.set_slice_subset _ _)) $$ H2
  iintro H2
  iapply hk
  isplitr [H3]; isplitl [H1]; iexact H1; iexact H2; iexact H3

theorem Run.assume {H : sProp 𝕄} {p : Prop} [Decidable p] (h : p) {k : PLift p → P nD τ sig F Λ α} (hk : Run defs 𝒱 c bd Q H (k ⟨h⟩)) :
    Run defs 𝒱 c bd Q H (.op (.assume p) k) :=
  hk.trans (wp_assume 𝒱 (c : Thread nD τ) bd Set.univ h)

/-- The scales of one residue, placed. -/
def zRes (fs : B.sin.view.ty.Contents (Elt F)) (e : FVec F S256x256 .bf16) (i0 i1 i2 i3 : Fin 16) (fz : B.z.m.view.ty.Contents (Elt F)) :
    B.z.m.view.ty.Contents (Elt F) :=
  zPut (zPut (zPut (zPut fz i0 (prod (rdS fs 0) e)) i1 (prod (rdS fs 1) e)) i2 (prod (rdS fs 2) e)) i3 (prod (rdS fs 3) e)

theorem staged_pushed {s : Mxu F} {u : Accs F} (hs : St s u) (q : Fin 2) (e : FVec F S256x256 .bf16) :
    (s.pushed q 0 false e).staged q 0 = ⟨.bf16, false, e⟩ := by
  have hr : (s.pushed q 0 false e).reg q 0 = some ⟨.bf16, false, e⟩ := Mxu.reg_pushed_of_none s q 0 false e (hs.reg q 0)
  unfold Mxu.staged; rw [hr]; rfl

theorem gmr_eq {s : Mxu F} {u : Accs F} (hs : St s u) (q : Fin 2) (e : FVec F S256x256 .bf16) (A : ℕ) (hA : Mxu.Fits A 128) (x : FVec F S128x256 .bf16) :
    ((s.pushed q 0 false e).accLhs q 0 A (M := 128) x hA).gmr q = some ⟨.bf16, false, e⟩ := by
  rw [Mxu.gmr_accLhs, staged_pushed hs]

theorem get_eq {o : Option (Mxu.Staged F)} {t : Mxu.Staged F} (h : o = some t) (h' : o.isSome = true) : o.get h' = t := by
  subst h; rfl

theorem second_ok {i0 i1 i2 i3 : Fin 16} {e : FVec F S256x256 .bf16} {t : Mxu F} {u : Accs F} (ht : St t u)
    (u0 : u 0 0 = some (prod (rdS fs 0) e)) (u1 : u 0 1 = some (prod (rdS fs 1) e)) (u2 : u 1 0 = none) (u3 : u 1 1 = none)
    {k : Mxu F → P nD τ sig F Λ α}
    (hk : ∀ s', St s' Accs.none → Run defs 𝒱 c bd Q iprop(heldZ (τ := τ) c fs (zRes fs e i0 i1 i2 i3 fz) ∗ R) (k s')) :
    Run defs 𝒱 c bd Q iprop(heldZ (τ := τ) c fs fz ∗ R) (.op (.assume (t.PushOk 1 0 false)) fun _ =>
      ldS B 2 fun x2 => ldS B 3 fun x3 =>
      .op (.assume ((((t.pushed 1 0 false e).accLhs 1 0 0 x2 fits0).gmr 1).isSome = true)) fun h2 =>
      popZ B i0 0 0 fits0 (((t.pushed 1 0 false e).accLhs 1 0 0 x2 fits0).accBy 1
        ((((t.pushed 1 0 false e).accLhs 1 0 0 x2 fits0).gmr 1).get h2.down) 32 x3 fits32) fun u =>
      popZ B i1 0 32 fits32 u fun u => popZ B i2 1 0 fits0 u fun u => popZ B i3 1 32 fits32 u k) := by
  refine Run.assume defs 𝒱 c bd Q (Mxu.pushOk_of_none _ _ _ _ (ht.reg 1 0)) ?_
  refine ldS_ok defs 𝒱 c bd Q 2 (ldS_ok defs 𝒱 c bd Q 3 ?_)
  refine Run.assume defs 𝒱 c bd Q (by rw [gmr_eq ht 1 e 0 fits0]; rfl) ?_
  rw [get_eq (gmr_eq ht 1 e 0 fits0 (rdS fs 2))]
  have a3 : St ((t.pushed 1 0 false e).accLhs 1 0 0 (rdS fs 2) fits0) _ := St.step ht 1 0 0 e (rdS fs 2)
  have a4 : St (((t.pushed 1 0 false e).accLhs 1 0 0 (rdS fs 2) fits0).accBy 1 ⟨.bf16, false, e⟩ 32 (rdS fs 3) fits32) _ :=
    St.by a3 1 1 ⟨.bf16, false, e⟩ (rdS fs 3)
  revert a4
  generalize ((t.pushed 1 0 false e).accLhs 1 0 0 (rdS fs 2) fits0).accBy 1 ⟨.bf16, false, e⟩ 32 (rdS fs 3) fits32 = w
  intro a4
  have b1 : St (w.pop 0 0 128 fits0) _ := St.pop a4 0 0
  have b2 : St ((w.pop 0 0 128 fits0).pop 0 32 128 fits32) _ := St.pop b1 0 1
  have b3 : St (((w.pop 0 0 128 fits0).pop 0 32 128 fits32).pop 1 0 128 fits0) _ := St.pop b2 1 0
  have b4 : St ((((w.pop 0 0 128 fits0).pop 0 32 128 fits32).pop 1 0 128 fits0).pop 1 32 128 fits32) _ := St.pop b3 1 1
  refine popZ_ok defs 𝒱 c bd Q i0 0 0 fits0 ?_
  refine popZ_ok defs 𝒱 c bd Q i1 0 32 fits32 ?_
  refine popZ_ok defs 𝒱 c bd Q i2 1 0 fits0 ?_
  refine popZ_ok defs 𝒱 c bd Q i3 1 32 fits32 ?_
  have e1 : w.read 0 0 fits0 = prod (rdS fs 0) e := a4.read 0 0 _ (by simp [Accs.set, u0])
  have e2 : (w.pop 0 0 128 fits0).read 0 32 fits32 = prod (rdS fs 1) e := b1.read 0 1 _ (by simp [Accs.set, u1])
  have e3 : ((w.pop 0 0 128 fits0).pop 0 32 128 fits32).read 1 0 fits0 = prod (rdS fs 2) e := b2.read 1 0 _ (by simp [Accs.set, u2, comb])
  have e4 : (((w.pop 0 0 128 fits0).pop 0 32 128 fits32).pop 1 0 128 fits0).read 1 32 fits32 = prod (rdS fs 3) e :=
    b3.read 1 1 _ (by simp [Accs.set, u3, comb]; rfl)
  have key := hk _ (show St ((((w.pop 0 0 128 fits0).pop 0 32 128 fits32).pop 1 0 128 fits0).pop 1 32 128 fits32) Accs.none from by
    convert b4 using 1
    funext q a
    fin_cases q <;> fin_cases a <;> simp [Accs.set, Accs.none])
  unfold zRes at key
  rw [← e1, ← e2, ← e3, ← e4] at key
  exact key

theorem scalesOf_ok {i0 i1 i2 i3 : Fin 16} {e : FVec F S256x256 .bf16} {s : Mxu F} (hs : St s Accs.none) {k : Mxu F → P nD τ sig F Λ α}
    (hk : ∀ s', St s' Accs.none → Run defs 𝒱 c bd Q iprop(heldZ (τ := τ) c fs (zRes fs e i0 i1 i2 i3 fz) ∗ R) (k s')) :
    Run defs 𝒱 c bd Q iprop(heldZ (τ := τ) c fs fz ∗ R) (scalesOf B i0 i1 i2 i3 e s k) := by
  unfold scalesOf
  refine Run.assume defs 𝒱 c bd Q (Mxu.pushOk_of_none _ _ _ _ (hs.reg 0 0)) ?_
  refine ldS_ok defs 𝒱 c bd Q 0 (ldS_ok defs 𝒱 c bd Q 1 ?_)
  refine Run.assume defs 𝒱 c bd Q (by rw [gmr_eq hs 0 e 0 fits0]; rfl) ?_
  have a1 : St ((s.pushed 0 0 false e).accLhs 0 0 0 (rdS fs 0) fits0) _ := St.step hs 0 0 0 e (rdS fs 0)
  have a2 : St (((s.pushed 0 0 false e).accLhs 0 0 0 (rdS fs 0) fits0).accBy 0
      ((((s.pushed 0 0 false e).accLhs 0 0 0 (rdS fs 0) fits0).gmr 0).get (by rw [gmr_eq hs 0 e 0 fits0]; rfl)) 32 (rdS fs 1) fits32) _ :=
    St.by a1 0 1 _ (rdS fs 1)
  rw [get_eq (gmr_eq hs 0 e 0 fits0 (rdS fs 0))] at a2
  have e' := get_eq (gmr_eq hs 0 e 0 fits0 (rdS fs 0)) (by rw [gmr_eq hs 0 e 0 fits0]; rfl)
  refine second_ok defs 𝒱 c bd Q (t := ((s.pushed 0 0 false e).accLhs 0 0 0 (rdS fs 0) fits0).accBy 0
      ((((s.pushed 0 0 false e).accLhs 0 0 0 (rdS fs 0) fits0).gmr 0).get (by rw [gmr_eq hs 0 e 0 fits0]; rfl)) 32 (rdS fs 1) fits32)
    (u := (Accs.none.set 0 0 (some (prod (rdS fs 0) e))).set 0 1 (some (prod (rdS fs 1) e))) (by rw [e']; exact a2) ?_ ?_ ?_ ?_ hk <;>
  simp [Accs.set, Accs.none]

/-- All the scales, placed. -/
def zAll (fs : B.sin.view.ty.Contents (Elt F)) (e : Fin 4 → FVec F S256x256 .bf16) (fz : B.z.m.view.ty.Contents (Elt F)) : B.z.m.view.ty.Contents (Elt F) :=
  zRes fs (e 3) 12 13 14 15 (zRes fs (e 2) 8 9 10 11 (zRes fs (e 1) 4 5 6 7 (zRes fs (e 0) 0 1 2 3 fz)))

theorem scales_ok {e : Fin 4 → FVec F S256x256 .bf16} {s : Mxu F} (hs : St s Accs.none) {k : Mxu F → P nD τ sig F Λ α}
    (hk : ∀ s', St s' Accs.none → Run defs 𝒱 c bd Q iprop(heldZ (τ := τ) c fs (zAll fs e fz) ∗ R) (k s')) :
    Run defs 𝒱 c bd Q iprop(heldZ (τ := τ) c fs fz ∗ R) (scales B (e 0) (e 1) (e 2) (e 3) s k) :=
  scalesOf_ok defs 𝒱 c bd Q hs fun _ h0 => scalesOf_ok defs 𝒱 c bd Q h0 fun _ h1 => scalesOf_ok defs 𝒱 c bd Q h1 fun _ h2 =>
    scalesOf_ok defs 𝒱 c bd Q h2 hk

theorem scales_wp {e : Fin 4 → FVec F S256x256 .bf16} {s : Mxu F} (hs : St s Accs.none) {k : Mxu F → P nD τ sig F Λ α} :
    (heldZ (τ := τ) c fs fz : sProp 𝕄)
      ⊢ iprop((∀ s', ⌜St s' Accs.none⌝ -∗ heldZ (τ := τ) c fs (zAll fs e fz) -∗ wp frame (wpE defs 𝒱 (c : Thread nD τ) bd) Set.univ (k s') Q)
        -∗ wp frame (wpE defs 𝒱 (c : Thread nD τ) bd) Set.univ (scales B (e 0) (e 1) (e 2) (e 3) s k) Q) := by
  iintro H Hk
  iapply (show _ ⊢ _ from scales_ok (R := iprop(∀ s', ⌜St s' Accs.none⌝ -∗ heldZ (τ := τ) c fs (zAll fs e fz)
    -∗ wp frame (wpE defs 𝒱 (c : Thread nD τ) bd) Set.univ (k s') Q)) defs 𝒱 c bd Q (fs := fs) (fz := fz) hs (k := k) fun s' hs' => by
      unfold Run
      iintro ⟨H, Hk⟩
      iapply Hk $$ %s' %hs' H)
  isplitl [H]; iexact H
  iexact Hk

/-! ## Rows -/

theorem xinOff_inb (t : ℕ) (ht : t < 32) : ∀ a : Fin 2, (![0, 128 * t] : Fin 2 → ℕ) a + S128x128.size a ≤ S128x4096.size a := by
  intro a; fin_cases a <;> simp [S128x4096, S128x128] <;> omega

/-- A tile of the rows as handed over, -/
def rdI (fi : B.xin.view.ty.Contents (Elt F)) (t : ℕ) (ht : t < 32) : Vec F S128x128 .bf16 :=
  B.xin.view.readAt (Elt F) (Rect.unit (s := S128x4096) ![0, 128 * t] S128x128.size (xinOff_inb t ht)).toLoadRect fi

/-- and the buffer of the permuted rows with that tile put, for one residue. -/
def xPut (fi : B.xin.view.ty.Contents (Elt F)) (v : ℕ) (hv : v < 4) (t : ℕ) (ht : t < 32) (fx : B.x.view.ty.Contents (Elt F)) : B.x.view.ty.Contents (Elt F) :=
  (B.x.access (xpRect v hv t ht)).write (Elt F) fx
    (shapeCast S1x128x128 (permuted (permOf (BitVec.ofNat 32 v)) (rdI fi t ht)) shapeCasts_S128x128_S1x128x128) Finset.univ

/-- The tiles from `t` on put. -/
def xPuts (fi : B.xin.view.ty.Contents (Elt F)) (v : ℕ) (hv : v < 4) : (n t : ℕ) → t + n ≤ 32 → B.x.view.ty.Contents (Elt F) → B.x.view.ty.Contents (Elt F)
  | 0, _, _, fx => fx
  | n + 1, t, h, fx => xPuts fi v hv n (t + 1) (by omega) (xPut fi v hv t (by omega) fx)

def heldX (fi : B.xin.view.ty.Contents (Elt F)) (fx : B.x.view.ty.Contents (Elt F)) : sProp 𝕄 :=
  iprop((B.xin.view.loc (c : Thread nD τ) ↦[B.xin.view.set]{fullShare} fi) ∗ (B.x.view.loc (c : Thread nD τ) ↦[B.x.view.set]{fullShare} fx))

theorem permTiles_ok (v : ℕ) (hv : v < 4) (st) {k : P nD τ sig F Λ α} : ∀ (n t : ℕ) (h : t + n ≤ 32) (fx : B.x.view.ty.Contents (Elt F)),
    Run defs 𝒱 c bd Q iprop(heldX (τ := τ) c fi (xPuts fi v hv n t h fx) ∗ R) k →
    Run defs 𝒱 c bd Q iprop(heldX (τ := τ) c fi fx ∗ R) (permTiles B v hv st k n t h)
  | 0, _, _, _, hk => hk
  | n + 1, t, h, fx, hk => by
    have ih := permTiles_ok v hv st (k := k) n (t + 1) (by omega) (xPut fi v hv t (by omega) fx) hk
    unfold Run heldX at ih ⊢
    dsimp only [xPut] at ih
    unfold permTiles
    iintro ⟨⟨H1, H2⟩, H3⟩
    iapply (wp_load 𝒱 (c : Thread nD τ) bd Set.univ (View.setOn_subset_set _ _)) $$ H1
    iintro H1
    iapply (wp_load 𝒱 (c : Thread nD τ) bd Set.univ (View.setOn_subset_set _ _)) $$ H2
    iintro H2
    iapply (store_at defs 𝒱 c bd Q (m := B.x) (View.set_slice_subset _ _)) $$ H2
    iintro H2
    iapply ih
    isplitr [H3]; isplitl [H1]; iexact H1; iexact H2; iexact H3

/-- The rows permuted for the four residues. -/
def xAll (fi : B.xin.view.ty.Contents (Elt F)) (fx : B.x.view.ty.Contents (Elt F)) : B.x.view.ty.Contents (Elt F) :=
  xPuts fi 3 (by decide) 32 0 (by decide) (xPuts fi 2 (by decide) 32 0 (by decide) (xPuts fi 1 (by decide) 32 0 (by decide)
    (xPuts fi 0 (by decide) 32 0 (by decide) fx)))

theorem perms_ok {st} {k : P nD τ sig F Λ α} (hk : Run defs 𝒱 c bd Q iprop(heldX (τ := τ) c fi (xAll fi fx) ∗ R) k) :
    Run defs 𝒱 c bd Q iprop(heldX (τ := τ) c fi fx ∗ R) (perms B st k) :=
  permTiles_ok defs 𝒱 c bd Q _ _ _ _ _ _ _ <| permTiles_ok defs 𝒱 c bd Q _ _ _ _ _ _ _ <| permTiles_ok defs 𝒱 c bd Q _ _ _ _ _ _ _ <|
    permTiles_ok defs 𝒱 c bd Q _ _ _ _ _ _ _ hk

theorem perms_wp {st} {k : P nD τ sig F Λ α} :
    (heldX (τ := τ) c fi fx : sProp 𝕄)
      ⊢ iprop((heldX (τ := τ) c fi (xAll fi fx) -∗ wp frame (wpE defs 𝒱 (c : Thread nD τ) bd) Set.univ k Q)
        -∗ wp frame (wpE defs 𝒱 (c : Thread nD τ) bd) Set.univ (perms B st k) Q) := by
  iintro H Hk
  iapply (show _ ⊢ _ from perms_ok (R := iprop(heldX (τ := τ) c fi (xAll fi fx) -∗ wp frame (wpE defs 𝒱 (c : Thread nD τ) bd) Set.univ k Q)) defs 𝒱 c bd Q
    (fi := fi) (fx := fx) (st := st) (k := k) (by
      unfold Run
      iintro ⟨H, Hk⟩
      iapply Hk $$ H))
  isplitl [H]; iexact H
  iexact Hk

end Cert.Proof.Str
end
-- ==== Proof.Str.Whole.lean ====
/-
  The five phases and the end, one after another.
-/
module

public import proofs.«01_k».proof.Proof.Str.Lead

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {B : Bufs sig F} (M : Masks) (I : Ins sig B) (O : Outs sig B.out)

/-! ## The state after each phase -/

def ph1 (w : B.w.view.ty.Contents (Elt F)) (fz : B.z.m.view.ty.Contents (Elt F)) (fx : B.x.view.ty.Contents (Elt F)) (m : Mem B) : Mem B :=
  endFirst M w fz fx (iter (tripFirst M w fz fx) m 10)

def phN (n kt : ℕ) (w : B.w.view.ty.Contents (Elt F)) (fz : B.z.m.view.ty.Contents (Elt F)) (fx : B.x.view.ty.Contents (Elt F)) (m : Mem B) : Mem B :=
  endMid M w fz fx n kt (iter (tripMid M w fz fx n kt) m 10)

/-- The state before the last phase. -/
def before (W : Fin 5 → B.w.view.ty.Contents (Elt F)) (fz : B.z.m.view.ty.Contents (Elt F)) (fx : B.x.view.ty.Contents (Elt F)) (m : Mem B) : Mem B :=
  phN M 4 6 (W 3) fz fx (phN M 3 3 (W 2) fz fx (phN M 2 1 (W 1) fz fx (ph1 M (W 0) fz fx m)))

/-- The results' buffer when the `j`-th half chunk is sent. -/
def valOf (w : B.w.view.ty.Contents (Elt F)) (fz : B.z.m.view.ty.Contents (Elt F)) (fx : B.x.view.ty.Contents (Elt F)) (m : Mem B) (j : ℕ) :
    B.out.view.ty.Contents (Elt F) :=
  if j < 80 then (iter (tripLast M O w fz fx) m (j / 8 + 1)).o else (endLast M O w fz fx (iter (tripLast M O w fz fx) m 10)).o

variable (defs : Defs nD τ sig (Elt F) Λ) (𝒱 : Variants) (c : Dev nD) (bd : Option 𝒱.V)
  (Q : PUnit → sProp (MT nD τ sig Unit (Elt F) ℕ (Pipeline.UD sig nD τ) ℕ))
variable {T : Finset B.out.view.ty.Idx} {fw : B.w.view.ty.Contents (Elt F)} {fz : B.z.m.view.ty.Contents (Elt F)}
  {fx : B.x.view.ty.Contents (Elt F)} {R : sProp (MT nD τ sig Unit (Elt F) ℕ (Pipeline.UD sig nD τ) ℕ)}
  {fh : I.w.view.ty.Contents (Elt F)} {fo : O.o.view.ty.Contents (Elt F)} {m : Mem B} {s : Mxu F}

theorem phase1_ok (hs : St s Accs.none)
    (hk : ∀ s', St s' Accs.none → Run defs 𝒱 c bd Q iprop(rest (τ := τ) c T fz fx (ph1 M (brought I fw fh 0) fz fx m)
      ∗ wDone (τ := τ) I c fw fh 0 ∗ own (τ := τ) c ∗ R) (phase2 B M I O s')) :
    Run defs 𝒱 c bd Q iprop(wFly (τ := τ) I c fw fh 0 ∗ rest (τ := τ) c T fz fx m ∗ own (τ := τ) c ∗ R) (phase1 B M I O s) :=
  waitW_ok I defs 𝒱 c bd Q 0 <| loop_ok defs 𝒱 c bd k0_t1_ok rfl lt1 (fun _ => T) (fun _ => iprop(R ∗ wBack (τ := τ) I c fh 0 ∗ own (τ := τ) c)) _ m
    (fun g hg s => bodyFirst B M g hg s .ret) (fun g hg s Q' hs h => bodyFirst_ok M defs 𝒱 c bd Q' (by decide) (by decide) hs h) hs
    fun s' hs' => tailFirst_ok M defs 𝒱 c bd Q (by decide) (by decide) hs' fun s'' hs'' => release I defs 𝒱 c bd Q 0 (hk s'' hs'')

theorem phase2_ok (hs : St s Accs.none)
    (hk : ∀ s', St s' Accs.none → Run defs 𝒱 c bd Q iprop(rest (τ := τ) c T fz fx (phN M 2 1 (brought I fw fh 1) fz fx m)
      ∗ wDone (τ := τ) I c fw fh 1 ∗ own (τ := τ) c ∗ R) (phase3 B M I O s')) :
    Run defs 𝒱 c bd Q iprop(wFly (τ := τ) I c fw fh 1 ∗ rest (τ := τ) c T fz fx m ∗ own (τ := τ) c ∗ R) (phase2 B M I O s) :=
  waitW_ok I defs 𝒱 c bd Q 1 <| loop_ok defs 𝒱 c bd k0_t2_ok rfl lt2 (fun _ => T) (fun _ => iprop(R ∗ wBack (τ := τ) I c fh 1 ∗ own (τ := τ) c)) _ m
    (fun g hg s => bodyMid B M 2 1 (by decide) g hg s .ret)
    (fun g hg s Q' hs h => bodyMid_ok M defs 𝒱 c bd Q' (by decide) (by decide) (by decide) hs h) hs
    fun s' hs' => tailMid_ok M defs 𝒱 c bd Q (by decide) (by decide) (by decide) hs' fun s'' hs'' => release I defs 𝒱 c bd Q 1 (hk s'' hs'')

theorem phase3_ok (hs : St s Accs.none)
    (hk : ∀ s', St s' Accs.none → Run defs 𝒱 c bd Q iprop(rest (τ := τ) c T fz fx (phN M 3 3 (brought I fw fh 2) fz fx m)
      ∗ wDone (τ := τ) I c fw fh 2 ∗ own (τ := τ) c ∗ R) (phase4 B M I O s')) :
    Run defs 𝒱 c bd Q iprop(wFly (τ := τ) I c fw fh 2 ∗ rest (τ := τ) c T fz fx m ∗ own (τ := τ) c ∗ R) (phase3 B M I O s) :=
  waitW_ok I defs 𝒱 c bd Q 2 <| loop_ok defs 𝒱 c bd k0_t3_ok rfl lt3 (fun _ => T) (fun _ => iprop(R ∗ wBack (τ := τ) I c fh 2 ∗ own (τ := τ) c)) _ m
    (fun g hg s => bodyMid B M 3 3 (by decide) g hg s .ret)
    (fun g hg s Q' hs h => bodyMid_ok M defs 𝒱 c bd Q' (by decide) (by decide) (by decide) hs h) hs
    fun s' hs' => tailMid_ok M defs 𝒱 c bd Q (by decide) (by decide) (by decide) hs' fun s'' hs'' => release I defs 𝒱 c bd Q 2 (hk s'' hs'')

theorem phase4_ok (hs : St s Accs.none)
    (hk : ∀ s', St s' Accs.none → Run defs 𝒱 c bd Q iprop(rest (τ := τ) c T fz fx (phN M 4 6 (brought I fw fh 3) fz fx m)
      ∗ wDone (τ := τ) I c fw fh 3 ∗ own (τ := τ) c ∗ R) (phase5 B M I O s')) :
    Run defs 𝒱 c bd Q iprop(wFly (τ := τ) I c fw fh 3 ∗ rest (τ := τ) c T fz fx m ∗ own (τ := τ) c ∗ R) (phase4 B M I O s) :=
  waitW_ok I defs 𝒱 c bd Q 3 <| loop_ok defs 𝒱 c bd k0_t4_ok rfl lt4 (fun _ => T) (fun _ => iprop(R ∗ wBack (τ := τ) I c fh 3 ∗ own (τ := τ) c)) _ m
    (fun g hg s => bodyMid B M 4 6 (by decide) g hg s .ret)
    (fun g hg s Q' hs h => bodyMid_ok M defs 𝒱 c bd Q' (by decide) (by decide) (by decide) hs h) hs
    fun s' hs' => tailMid_ok M defs 𝒱 c bd Q (by decide) (by decide) (by decide) hs' fun s'' hs'' => release I defs 𝒱 c bd Q 3 (hk s'' hs'')

theorem Safe.mono {lo hi : ℕ} {R R' : sProp 𝕄} {α : Type} {Q : α → sProp 𝕄} {p : P nD τ sig F Λ α} (h : Safe defs 𝒱 c bd Q lo hi T fw fz fx R' m p) (e : R ⊢ R') :
    Safe defs 𝒱 c bd Q lo hi T fw fz fx R m p := by
  unfold Safe Run at *
  refine BIBase.Entails.trans ?_ h
  iintro ⟨H1, H2⟩
  isplitl [H1]; iexact H1
  iapply e
  iexact H2

/-- The last phase: every half chunk of results is sent once it is stored. -/
theorem phase5_ok (hs : St s Accs.none)
    (hk : ∀ s', St s' Accs.none → Run defs 𝒱 c bd Q iprop(rest (τ := τ) c (outFrom B 86) fz fx
        (endLast M O (brought I fw fh 4) fz fx (iter (tripLast M O (brought I fw fh 4) fz fx) m 10))
      ∗ wDone (τ := τ) I c fw fh 4 ∗ own (τ := τ) c ∗ sending (τ := τ) O c fo (valOf M O (brought I fw fh 4) fz fx m) 86 ∗ R) (finale B O s')) :
    Run defs 𝒱 c bd Q iprop(wFly (τ := τ) I c fw fh 4 ∗ rest (τ := τ) c (outFrom B 0) fz fx m ∗ own (τ := τ) c
      ∗ sending (τ := τ) O c fo (valOf M O (brought I fw fh 4) fz fx m) 0 ∗ R) (phase5 B M I O s) := by
  have assoc : ∀ j, (iprop((sending (τ := τ) O c fo (valOf M O (brought I fw fh 4) fz fx m) j ∗ R) ∗ wBack (τ := τ) I c fh 4 ∗ own (τ := τ) c) : sProp 𝕄)
      ⊢ iprop(sending (τ := τ) O c fo (valOf M O (brought I fw fh 4) fz fx m) j ∗ R ∗ wBack (τ := τ) I c fh 4 ∗ own (τ := τ) c) := fun j => by
    iintro ⟨⟨H1, H2⟩, H3⟩
    isplitl [H1]; iexact H1
    isplitl [H2]; iexact H2
    iexact H3
  have assoc' : ∀ j, (iprop(sending (τ := τ) O c fo (valOf M O (brought I fw fh 4) fz fx m) j ∗ R ∗ wBack (τ := τ) I c fh 4 ∗ own (τ := τ) c) : sProp 𝕄)
      ⊢ iprop((sending (τ := τ) O c fo (valOf M O (brought I fw fh 4) fz fx m) j ∗ R) ∗ wBack (τ := τ) I c fh 4 ∗ own (τ := τ) c) := fun j => by
    iintro ⟨H1, H2, H3⟩
    isplitr [H3]
    · isplitl [H1]; iexact H1
      iexact H2
    iexact H3
  refine waitW_ok I defs 𝒱 c bd Q 4 <| Safe.mono defs 𝒱 c bd (loop_ok defs 𝒱 c bd k0_t5_ok rfl lt5 (fun g => outFrom B (8 * g))
    (fun g => iprop(sending (τ := τ) O c fo (valOf M O (brought I fw fh 4) fz fx m) (8 * g) ∗ R ∗ wBack (τ := τ) I c fh 4 ∗ own (τ := τ) c))
    (tripLast M O (brought I fw fh 4) fz fx) m
    (fun g hg s => bodyLast B M O g hg s .ret) (fun g hg s Q' hs h => bodyLast_ok M O defs 𝒱 c bd Q' (by decide) (by decide) hs (fun j h1 h2 => ?_) h) hs
    fun s' hs' => tailLast_ok M O defs 𝒱 c bd Q (by decide) (by decide) hs' (fun j h1 h2 => ?_) fun s'' hs'' =>
      Safe.mono defs 𝒱 c bd (release I defs 𝒱 c bd Q 4 (hk s'' hs'')) (assoc' 86)) (assoc 0)
  · unfold valOf
    rw [if_pos (by omega), show j / 8 + 1 = g + 1 from by omega, iter_succ _ _ _ hg]
  · unfold valOf
    rw [if_neg (by omega)]

/-! ## The end -/

theorem outN_pos : 0 < outN O := View.dmaCredit_pos (colSlice O.o ![0, 0] (colOff_inb 0 (by decide))).view (by simp [Shape.numel, S128x128])

/-- The transfers after `k` trips of the last loop. -/
def drain (fo : O.o.view.ty.Contents (Elt F)) (val : ℕ → B.out.view.ty.Contents (Elt F)) (k : ℕ) : sProp 𝕄 :=
  if k < 43 then batch (τ := τ) O c fo val 86 (outN O * (2 * k))
  else iprop(bigSep Finset.univ (deliv (τ := τ) O c fo val) ∗ semVal (c, SemLoc.dma O.sem) 0)

theorem waitO_ok {fo : O.o.view.ty.Contents (Elt F)} {val : ℕ → B.out.view.ty.Contents (Elt F)} {g : ℕ} {hg : g < 43} {h : Fin 2} {α : Type} {Q : α → sProp 𝕄}
    {k : P nD τ sig F Λ α} (u : ℕ) (hu : u + 1 < 86)
    (hk : Run defs 𝒱 c bd Q iprop(batch (τ := τ) O c fo val 86 (outN O * (u + 1)) ∗ own (τ := τ) c ∗ R) k) :
    Run defs 𝒱 c bd Q iprop(batch (τ := τ) O c fo val 86 (outN O * u) ∗ own (τ := τ) c ∗ R) (waitO B O g hg h k) := by
  have e := Nat.mul_lt_mul_of_pos_left hu (outN_pos O)
  unfold Run batch own at *
  iintro ⟨HB, ⟨%W, HW⟩, HR⟩
  unfold waitO wait
  iapply (Transfers.wp_waitBatch (countersEmb (U := Pipeline.UD sig nD τ)) 𝒱 (c : Thread nD τ) bd (dstw := colSlice O.o ![0, (colW g h).toNat] (colOff_inb _ (by rw [colW_toNat g hg]; omega))) () (N := outN O) rfl (by rw [← Nat.mul_succ]; exact e)) $$ [HB HW]
  · isplitl [HB]; iexact HB; iexact HW
  iintro ⟨HB, HW⟩
  iapply hk
  isplitl [HB]; iexact HB
  isplitl [HW]; iexists _; iexact HW
  iexact HR

theorem waitO_last {fo : O.o.view.ty.Contents (Elt F)} {val : ℕ → B.out.view.ty.Contents (Elt F)} {g : ℕ} {hg : g < 43} {h : Fin 2} {α : Type} {Q : α → sProp 𝕄}
    {k : P nD τ sig F Λ α}
    (hk : Run defs 𝒱 c bd Q iprop((bigSep Finset.univ (deliv (τ := τ) O c fo val) ∗ semVal (c, SemLoc.dma O.sem) 0) ∗ own (τ := τ) c ∗ R) k) :
    Run defs 𝒱 c bd Q iprop(batch (τ := τ) O c fo val 86 (outN O * 85) ∗ own (τ := τ) c ∗ R) (waitO B O g hg h k) := by
  unfold Run batch own at *
  iintro ⟨HB, ⟨%W, HW⟩, HR⟩
  unfold waitO wait
  iapply (Transfers.wp_waitBatchLast (countersEmb (U := Pipeline.UD sig nD τ)) 𝒱 (c : Thread nD τ) bd (dstw := colSlice O.o ![0, (colW g h).toNat] (colOff_inb _ (by rw [colW_toNat g hg]; omega))) () (N := outN O) rfl (outN_pos O)
    (Nat.mul_succ _ _).symm) $$ [HB HW]
  · isplitl [HB]; iexact HB; iexact HW
  iintro ⟨HD, Hs, HW⟩
  iapply hk
  isplitr [HW HR]
  · isplitl [HD]; iexact HD
    iexact Hs
  isplitl [HW]; iexists _; iexact HW
  iexact HR

/-- Every result's transfer is waited for, and the units are left empty. -/
theorem finale_ok {fo : O.o.view.ty.Contents (Elt F)} {val : ℕ → B.out.view.ty.Contents (Elt F)} (hs : St s Accs.none)
    (hQ : (iprop((bigSep Finset.univ (deliv (τ := τ) O c fo val) ∗ semVal (c, SemLoc.dma O.sem) 0) ∗ own (τ := τ) c ∗ R) : sProp 𝕄) ⊢ Q ⟨⟩) :
    Run defs 𝒱 c bd Q iprop(batch (τ := τ) O c fo val 86 0 ∗ own (τ := τ) c ∗ R) (finale B O s) := by
  unfold finale Run
  iintro H
  iapply (Scf.wp_for_bind frame (wpE defs 𝒱 (c : Thread nD τ) bd) Set.univ k0_t6_loop.lb k0_t6_loop.ub k0_t6_loop.st k0_t6_ok (⟨⟩ : PUnit)
    (fun k _ => waitO B O k.val (lt6 k) 0 (waitO B O k.val (lt6 k) 1 (.ret ⟨⟩)))
    (fun k _ => iprop(drain (τ := τ) O c fo val k ∗ own (τ := τ) c ∗ R)) (by
      intro k acc
      have hk := lt6 k
      unfold drain
      rw [if_pos hk]
      refine waitO_ok O defs 𝒱 c bd (Q := _) (2 * k.val) (by omega) ?_
      by_cases h : k.val + 1 < 43
      · rw [if_pos h]
        refine waitO_ok O defs 𝒱 c bd (Q := _) (2 * k.val + 1) (by omega) ?_
        unfold Run
        rw [wp_ret, show 2 * (k.val + 1) = 2 * k.val + 1 + 1 from rfl]
        iintro H
        imodintro
        iexact H
      · rw [if_neg h, show 2 * k.val + 1 = 85 from by omega]
        refine waitO_last O defs 𝒱 c bd (Q := _) ?_
        unfold Run
        rw [wp_ret]
        iintro H
        imodintro
        iexact H)) $$ [H]
  · unfold drain
    rw [if_pos (by decide)]
    iexact H
  iintro %acc H
  rw [show Scf.trips k0_t6_loop.lb k0_t6_loop.ub k0_t6_loop.st = 43 from rfl]
  unfold drain
  rw [if_neg (by decide)]
  iapply (wp_assume 𝒱 (c : Thread nD τ) bd Set.univ hs.drained)
  rw [wp_ret]
  imodintro
  iapply hQ
  iexact H

end Cert.Proof.Str
end
-- ==== Proof.Str.Entry.lean ====
/-
  The kernel as a whole: from its buffers as handed over to its buffers as handed back.
-/
module

public import proofs.«01_k».proof.Proof.Str.Whole

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {B : Bufs sig F} (M : Masks) (I : Ins sig B) (O : Outs sig B.out)

variable (defs : Defs nD τ sig (Elt F) Λ) (𝒱 : Variants) (c : Dev nD) (bd : Option 𝒱.V)

/-! ## Transfers in -/

theorem start_wp {α : Type} {Q : α → sProp 𝕄} {s : Shape} {e : EltTy} {sp sp' : Space} {src : Memref sig .tc sp s e} {dst : Memref sig .tc sp' s e}
    {sem : DmaSem sig} {h1 : src.view.WordExact} {h2 : dst.view.WordExact} {h3} {k : P nD τ sig F Λ α} (hn : 0 < s.numel)
    {Sd : Finset dst.view.ty.Idx} (hS : dst.view.set ⊆ Sd) {fs : src.view.ty.Contents (Elt F)} {fd : dst.view.ty.Contents (Elt F)} :
    (iprop((src.view.loc (c : Thread nD τ) ↦[src.view.set]{fullShare} fs) ∗ (dst.view.loc (c : Thread nD τ) ↦[Sd]{fullShare} fd)
      ∗ semVal (c, SemLoc.dma sem) 0) : sProp 𝕄)
    ⊢ iprop((Transfers.Flight (countersEmb (U := Pipeline.UD sig nD τ)) (c : Thread nD τ) (.dma sem) () dst.view.dmaCredit
      iprop((dst.view.loc (c : Thread nD τ) ↦[Sd]{fullShare} (dst.view.write (Elt F) fd (src.view.read (Elt F) fs) Finset.univ))
        ∗ (src.view.loc (c : Thread nD τ) ↦[src.view.set]{fullShare} fs)) -∗ wp frame (wpE defs 𝒱 (c : Thread nD τ) bd) Set.univ k Q)
      -∗ wp frame (wpE defs 𝒱 (c : Thread nD τ) bd) Set.univ (start src dst sem h1 h2 h3 k) Q) := by
  iintro H Hk
  unfold start
  iapply (Transfers.wp_dmaLocal (countersEmb (U := Pipeline.UD sig nD τ)) 𝒱 (c : Thread nD τ) bd (src := src) (dst := dst) (Sd := Sd) () dst.view.dmaCredit rfl
    (View.dmaCredit_pos _ hn) hS) $$ H
  iintro HF
  iapply Hk
  iexact HF

theorem wait_wp {α : Type} {Q : α → sProp 𝕄} {D : sProp 𝕄} {s : Shape} {e : EltTy} {sp sp' : Space} {src : Memref sig .tc sp s e} {dst : Memref sig .tc sp' s e}
    {sem : DmaSem sig} {h1 : src.view.WordExact} {h2 : dst.view.WordExact} {k : P nD τ sig F Λ α} :
    (iprop(Transfers.Flight (countersEmb (U := Pipeline.UD sig nD τ)) (c : Thread nD τ) (.dma sem) () dst.view.dmaCredit D ∗ own (τ := τ) c) : sProp 𝕄)
    ⊢ iprop((D ∗ semVal (c, SemLoc.dma sem) 0 ∗ own (τ := τ) c -∗ wp frame (wpE defs 𝒱 (c : Thread nD τ) bd) Set.univ k Q)
      -∗ wp frame (wpE defs 𝒱 (c : Thread nD τ) bd) Set.univ (wait src dst sem h1 h2 k) Q) := by
  unfold own
  iintro ⟨HF, ⟨%W, HW⟩⟩ Hk
  unfold wait
  iapply (Transfers.wp_waitLocal (countersEmb (U := Pipeline.UD sig nD τ)) 𝒱 (c : Thread nD τ) bd (dstw := dst) () rfl) $$ [HF HW]
  · isplitl [HF]; iexact HF; iexact HW
  iintro ⟨HD, Hs, HW⟩
  iapply Hk
  isplitl [HD]; iexact HD
  isplitl [Hs]; iexact Hs
  iexists _; iexact HW

/-! ## The word rows of the five transfers -/

/-- The rows of one transfer. -/
def wRows {sp : Space} (m : Memref sig .tc sp S44032x128 .i32) (i : Fin 5) : Finset m.view.ty.Idx :=
  m.view.setOn (Finset.univ.filter fun j : S44032x128.Idx => wlo i ≤ (j 0).val ∧ (j 0).val < wlo i + wlen i)

theorem wSlice_rows {sp : Space} (m : Memref sig .tc sp S44032x128 .i32) (i : Fin 5) : (wSlice m i).view.set = wRows m i := by
  unfold wSlice wRows
  refine (View.set_slice _ _).trans (congrArg m.view.setOn ?_)
  refine Finset.ext fun j => (Rect.mem_set_unit).trans (Iff.trans ?_ (Finset.mem_filter.trans (and_iff_right (Finset.mem_univ _))).symm)
  constructor
  · intro h; exact h 0
  · intro h a
    have b1 := (j 1).isLt
    simp [S44032x128] at b1
    fin_cases a
    · exact h
    · simp; omega

theorem numel_words (i : Fin 5) : 0 < (wRect i).shape.numel := by
  fin_cases i <;> simp [Shape.numel, wlen]

theorem startW_wp {α : Type} {Q : α → sProp 𝕄} {fw : B.w.view.ty.Contents (Elt F)} {vw : I.w.view.ty.Contents (Elt F)} (i : Fin 5) {k : P nD τ sig F Λ α} :
    (iprop((I.w.view.loc (c : Thread nD τ) ↦[wRows I.w i]{fullShare} vw) ∗ (B.w.view.loc (c : Thread nD τ) ↦[wRows B.w i]{fullShare} fw)
      ∗ semVal (c, SemLoc.dma (I.ws i)) 0) : sProp 𝕄)
    ⊢ iprop((wFly (τ := τ) I c fw vw i -∗ wp frame (wpE defs 𝒱 (c : Thread nD τ) bd) Set.univ k Q)
      -∗ wp frame (wpE defs 𝒱 (c : Thread nD τ) bd) Set.univ (startW B I i k) Q) := by
  rw [← wSlice_rows I.w i]
  iintro ⟨H1, H2, H3⟩ Hk
  unfold startW
  iapply (start_wp (src := wSlice I.w i) (dst := wSlice B.w i) defs 𝒱 c bd (numel_words i) (Sd := wRows B.w i) (wSlice_rows B.w i).subset (fs := vw) (fd := fw)) $$ [H1 H2 H3]
  · isplitl [H1]; iexact H1
    isplitl [H2]; iexact H2
    iexact H3
  iintro HF
  iapply Hk
  iapply (show _ ⊢ wFly (τ := τ) I c fw vw i from BIBase.Entails.of_eq (by unfold wFly wDeliv brought; rfl)) $$ HF

theorem words_disj {sp : Space} (m : Memref sig .tc sp S44032x128 .i32) :
    ∀ i ∈ (Finset.univ : Finset (Fin 5)), ∀ j ∈ (Finset.univ : Finset (Fin 5)), i ≠ j → Disjoint (wRows m i) (wRows m j) := by
  intro i _ j _ hij
  unfold wRows View.setOn
  rw [Finset.disjoint_map, Finset.disjoint_filter]
  intro r _ h
  generalize (r 0).val = n at h ⊢
  fin_cases i <;> fin_cases j <;> simp [wlo, wlen] at hij h ⊢ <;> omega

theorem words_cover {sp : Space} (m : Memref sig .tc sp S44032x128 .i32) :
    m.view.set = (Finset.univ : Finset (Fin 5)).biUnion fun i => wRows m i := by
  refine Finset.Subset.antisymm ?_ ?_
  · intro x hx
    rw [← View.setOn_univ] at hx
    obtain ⟨r, _, rfl⟩ := Finset.mem_map.1 hx
    have hr : (r 0).val < 44032 := (r 0).isLt
    have : ∃ i : Fin 5, wlo i ≤ (r 0).val ∧ (r 0).val < wlo i + wlen i := by
      generalize (r 0).val = n at hr
      by_cases h0 : n < 2752
      · exact ⟨0, by simp [wlo, wlen]; omega⟩
      by_cases h1 : n < 8256
      · exact ⟨1, by simp [wlo, wlen]; omega⟩
      by_cases h2 : n < 16512
      · exact ⟨2, by simp [wlo, wlen]; omega⟩
      by_cases h3 : n < 27520
      · exact ⟨3, by simp [wlo, wlen]; omega⟩
      · exact ⟨4, by simp [wlo, wlen]; omega⟩
    obtain ⟨i, hi⟩ := this
    refine Finset.mem_biUnion.2 ⟨i, Finset.mem_univ _, ?_⟩
    exact Finset.mem_map.2 ⟨r, Finset.mem_filter.2 ⟨Finset.mem_univ _, hi⟩, rfl⟩
  · intro x hx
    obtain ⟨i, _, hx⟩ := Finset.mem_biUnion.1 hx
    exact View.setOn_subset_set _ _ hx

/-- The words, window by window. -/
theorem words_split {sp : Space} (m : Memref sig .tc sp S44032x128 .i32) (f : m.view.ty.Contents (Elt F)) :
    (m.view.loc (c : Thread nD τ) ↦[m.view.set]{fullShare} f : sProp 𝕄)
      = bigSep Finset.univ fun i : Fin 5 => (m.view.loc (c : Thread nD τ) ↦[wRows m i]{fullShare} f) := by
  rw [words_cover m]
  exact pointsTo_biUnion (ℓ := m.view.loc (c : Thread nD τ)) Finset.univ (fun i => wRows m i) (words_disj m)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem words_join {sp : Space} (m : Memref sig .tc sp S44032x128 .i32) (f : Fin 5 → m.view.ty.Contents (Elt F)) :
    (bigSep Finset.univ fun i : Fin 5 => (m.view.loc (c : Thread nD τ) ↦[wRows m i]{fullShare} f i) : sProp 𝕄)
      ⊢ iprop(∃ g, (m.view.loc (c : Thread nD τ) ↦[m.view.set]{fullShare} g)) := by
  refine (pointsTo_biUnion_join (ℓ := m.view.loc (c : Thread nD τ)) Finset.univ (fun i => wRows m i) f (f 0) (words_disj m)).trans ?_
  rw [← words_cover m]
  iintro ⟨%g, _, H⟩
  iexists g
  iexact H

/-! ## The results back together -/

theorem col_disj : ∀ i ∈ (Finset.univ : Finset (Fin 86)), ∀ j ∈ (Finset.univ : Finset (Fin 86)), i ≠ j → Disjoint (colBlk O i.val) (colBlk O j.val) := by
  intro i _ j _ hij
  unfold colBlk View.setOn
  rw [Finset.disjoint_map, Finset.disjoint_filter]
  intro r _ h h'
  exact hij (Fin.ext (by omega))

theorem col_cover : O.o.view.set = (Finset.univ : Finset (Fin 86)).biUnion fun j => colBlk O j.val := by
  refine Finset.Subset.antisymm ?_ ?_
  · intro x hx
    rw [← View.setOn_univ] at hx
    obtain ⟨r, _, rfl⟩ := Finset.mem_map.1 hx
    have hr : (r 1).val < 11008 := (r 1).isLt
    refine Finset.mem_biUnion.2 ⟨⟨(r 1).val / 128, by omega⟩, Finset.mem_univ _, ?_⟩
    refine Finset.mem_map.2 ⟨r, Finset.mem_filter.2 ⟨Finset.mem_univ _, ?_⟩, rfl⟩
    exact (show ∀ n : ℕ, 128 * (n / 128) ≤ n ∧ n < 128 * (n / 128 + 1) from fun n => by omega) (r 1).val
  · intro x hx
    obtain ⟨i, _, hx⟩ := Finset.mem_biUnion.1 hx
    exact View.setOn_subset_set _ _ hx

theorem blk_disj : ∀ i ∈ (Finset.univ : Finset (Fin 86)), ∀ j ∈ (Finset.univ : Finset (Fin 86)), i ≠ j → Disjoint (outBlk B i.val) (outBlk B j.val) := by
  intro i _ j _ hij
  unfold outBlk View.setOn
  rw [Finset.disjoint_map, Finset.disjoint_filter]
  intro r _ h h'
  exact hij (Fin.ext (by omega))

theorem blk_cover : B.out.view.set = (Finset.univ : Finset (Fin 86)).biUnion fun j => outBlk B j.val := by
  refine Finset.Subset.antisymm ?_ ?_
  · intro x hx
    rw [← View.setOn_univ] at hx
    obtain ⟨r, _, rfl⟩ := Finset.mem_map.1 hx
    have h0 : (r 0).val < 43 := (r 0).isLt
    have h1 : (r 1).val < 2 := (r 1).isLt
    refine Finset.mem_biUnion.2 ⟨⟨half r, by unfold half; omega⟩, Finset.mem_univ _, ?_⟩
    exact Finset.mem_map.2 ⟨r, Finset.mem_filter.2 ⟨Finset.mem_univ _, rfl⟩, rfl⟩
  · intro x hx
    obtain ⟨i, _, hx⟩ := Finset.mem_biUnion.1 hx
    exact View.setOn_subset_set _ _ hx

theorem outFrom_zero : outFrom B 0 = B.out.view.set := by
  unfold outFrom
  rw [Finset.filter_true_of_mem (fun _ _ => Nat.zero_le _), View.setOn_univ]

theorem colFrom_zero : colFrom O 0 = O.o.view.set := by
  unfold colFrom
  rw [Finset.filter_true_of_mem (fun _ _ => by omega), View.setOn_univ]

/-- What the result holds at the end, block by block. -/
def Written (fo : O.o.view.ty.Contents (Elt F)) (val : ℕ → B.out.view.ty.Contents (Elt F)) (g : O.o.view.ty.Contents (Elt F)) : Prop :=
  ∀ j : Fin 86, ∀ i ∈ colBlk O j.val, g i = sent O fo (val j.val) j i

theorem deliv_join (fo : O.o.view.ty.Contents (Elt F)) (val : ℕ → B.out.view.ty.Contents (Elt F)) :
    (bigSep Finset.univ (deliv (τ := τ) O c fo val) : sProp 𝕄)
      ⊢ iprop((∃ g, ⌜Written O fo val g⌝ ∗ (O.o.view.loc (c : Thread nD τ) ↦[O.o.view.set]{fullShare} g))
        ∗ ∃ g, (B.out.view.loc (c : Thread nD τ) ↦[B.out.view.set]{fullShare} g)) := by
  unfold deliv
  rw [bigSep_sep']
  iintro ⟨H1, H2⟩
  isplitl [H1]
  · ihave H := (pointsTo_biUnion_join (ℓ := O.o.view.loc (c : Thread nD τ)) (Finset.univ : Finset (Fin 86)) (fun j => colBlk O j.val) (fun j => sent O fo (val j.val) j) fo (col_disj O)) $$ H1
    icases H with ⟨%g, %hg, H⟩
    iexists g
    isplitr [H]
    · ipureintro; exact fun j i hi => hg j (Finset.mem_univ _) i hi
    · rw [col_cover O]; iexact H
  · ihave H := (pointsTo_biUnion_join (ℓ := B.out.view.loc (c : Thread nD τ)) (Finset.univ : Finset (Fin 86)) (fun j => outBlk B j.val) (fun j => val j.val) (val 0) blk_disj) $$ H2
    icases H with ⟨%g, %hg, H⟩
    iexists g
    rw [blk_cover]; iexact H

end Cert.Proof.Str
end
-- ==== Proof.Str.Kernel.lean ====
/-
  The kernel run: what it takes, what it gives back.
-/
module

public import proofs.«01_k».proof.Proof.Str.Entry

@[expose] public section

noncomputable section

namespace Cert.Proof.Str

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Λ : Labels} {F : FTy → Type} [FloatOps F]

local notation "𝕄" => MT nD τ sig Unit (Elt F) ℕ (Pipeline.UD sig nD τ) ℕ

variable {B : Bufs sig F} (M : Masks) (I : Ins sig B) (O : Outs sig B.out)

variable (defs : Defs nD τ sig (Elt F) Λ) (𝒱 : Variants) (c : Dev nD) (bd : Option 𝒱.V)
  (Q : PUnit → sProp (MT nD τ sig Unit (Elt F) ℕ (Pipeline.UD sig nD τ) ℕ))

variable {fw : B.w.view.ty.Contents (Elt F)} {fz : B.z.m.view.ty.Contents (Elt F)} {fx : B.x.view.ty.Contents (Elt F)}
  {R : sProp (MT nD τ sig Unit (Elt F) ℕ (Pipeline.UD sig nD τ) ℕ)} {fh : I.w.view.ty.Contents (Elt F)} {fo : O.o.view.ty.Contents (Elt F)}
  {m : Mem B} {s : Mxu F}

theorem shuffle {A₁ A₂ A₃ D E X : sProp 𝕄} : (iprop(A₁ ∗ A₂ ∗ A₃ ∗ (D ∗ E) ∗ X) : sProp 𝕄) ⊢ iprop(D ∗ A₁ ∗ A₃ ∗ E ∗ A₂ ∗ X) := by
  iintro ⟨H1, H2, H3, ⟨H4, H5⟩, H6⟩
  isplitl [H4]; iexact H4
  isplitl [H1]; iexact H1
  isplitl [H3]; iexact H3
  isplitl [H5]; iexact H5
  isplitl [H2]; iexact H2
  iexact H6

/-- What the half chunks hold when they are sent. -/
def vals (W : Fin 5 → B.w.view.ty.Contents (Elt F)) (fz : B.z.m.view.ty.Contents (Elt F)) (fx : B.x.view.ty.Contents (Elt F)) (m : Mem B) :
    ℕ → B.out.view.ty.Contents (Elt F) :=
  valOf M O (W 4) fz fx (before M W fz fx m)

/-- What is left at the end beside the results. -/
def left (fz : B.z.m.view.ty.Contents (Elt F)) (fx : B.x.view.ty.Contents (Elt F)) (fw : B.w.view.ty.Contents (Elt F)) (fh : I.w.view.ty.Contents (Elt F)) : sProp 𝕄 :=
  iprop((B.z.m.view.loc (c : Thread nD τ) ↦[B.z.m.view.set]{fullShare} fz) ∗ (B.x.view.loc (c : Thread nD τ) ↦[B.x.view.set]{fullShare} fx)
    ∗ (∃ g, (B.acc.view.loc (c : Thread nD τ) ↦[B.acc.view.set]{fullShare} g)) ∗ wDone (τ := τ) I c fw fh 4 ∗ wDone (τ := τ) I c fw fh 3 ∗ wDone (τ := τ) I c fw fh 2
    ∗ wDone (τ := τ) I c fw fh 1 ∗ wDone (τ := τ) I c fw fh 0)

theorem phases_ok (hs : St s Accs.none)
    (hQ : (iprop((bigSep Finset.univ (deliv (τ := τ) O c fo (vals M O (brought I fw fh) fz fx m)) ∗ semVal (c, SemLoc.dma O.sem) 0) ∗ own (τ := τ) c
      ∗ left (τ := τ) I c fz fx fw fh ∗ R) : sProp 𝕄) ⊢ Q ⟨⟩) :
    Run defs 𝒱 c bd Q iprop(wFly (τ := τ) I c fw fh 0 ∗ rest (τ := τ) c (outFrom B 0) fz fx m ∗ own (τ := τ) c
      ∗ (wFly (τ := τ) I c fw fh 1 ∗ wFly (τ := τ) I c fw fh 2 ∗ wFly (τ := τ) I c fw fh 3 ∗ wFly (τ := τ) I c fw fh 4
        ∗ sending (τ := τ) O c fo (vals M O (brought I fw fh) fz fx m) 0) ∗ R) (phase1 B M I O s) := by
  refine phase1_ok M I O defs 𝒱 c bd Q hs fun s1 h1 => Run.mono defs 𝒱 c bd Q
    (phase2_ok M I O defs 𝒱 c bd Q h1 fun s2 h2 => Run.mono defs 𝒱 c bd Q
      (phase3_ok M I O defs 𝒱 c bd Q h2 fun s3 h3 => Run.mono defs 𝒱 c bd Q
        (phase4_ok M I O defs 𝒱 c bd Q h3 fun s4 h4 => Run.mono defs 𝒱 c bd Q
          (phase5_ok (m := before M (brought I fw fh) fz fx m) (fo := fo) M I O defs 𝒱 c bd Q h4 fun s5 h5 => Run.mono defs 𝒱 c bd Q
            (finale_ok (R := iprop(left (τ := τ) I c fz fx fw fh ∗ R)) (fo := fo) (val := vals M O (brought I fw fh) fz fx m) O defs 𝒱 c bd Q h5 hQ) ?_) shuffle) shuffle) shuffle) shuffle
  unfold sending rest left
  iintro ⟨⟨H1, H2, H3, H4⟩, H5, H6, ⟨H7, H8⟩, H9, H10, H11, H12, HR⟩
  isplitl [H7]; iexact H7
  isplitl [H6]; iexact H6
  isplitr [HR]
  · isplitl [H1]; iexact H1
    isplitl [H2]; iexact H2
    isplitl [H3]; iexists _; iexact H3
    isplitl [H5]; iexact H5
    isplitl [H9]; iexact H9
    isplitl [H10]; iexact H10
    isplitl [H11]; iexact H11
    iexact H12
  iexact HR

/-- What is handed over in the host's memory. -/
def given (vs : I.s.view.ty.Contents (Elt F)) (vx : I.x.view.ty.Contents (Elt F)) (vw : I.w.view.ty.Contents (Elt F)) : sProp 𝕄 :=
  iprop((I.s.view.loc (c : Thread nD τ) ↦[I.s.view.set]{fullShare} vs) ∗ (I.x.view.loc (c : Thread nD τ) ↦[I.x.view.set]{fullShare} vx)
    ∗ (I.w.view.loc (c : Thread nD τ) ↦[I.w.view.set]{fullShare} vw))

/-- The scratch buffers. -/
def scratch (fi : B.xin.view.ty.Contents (Elt F)) (fw : B.w.view.ty.Contents (Elt F)) (fs : B.sin.view.ty.Contents (Elt F)) (fz : B.z.m.view.ty.Contents (Elt F))
    (fx : B.x.view.ty.Contents (Elt F)) (fa : B.acc.view.ty.Contents (Elt F)) (fO : B.out.view.ty.Contents (Elt F)) : sProp 𝕄 :=
  iprop((B.xin.view.loc (c : Thread nD τ) ↦[B.xin.view.set]{fullShare} fi) ∗ (B.w.view.loc (c : Thread nD τ) ↦[B.w.view.set]{fullShare} fw)
    ∗ (B.sin.view.loc (c : Thread nD τ) ↦[B.sin.view.set]{fullShare} fs) ∗ (B.z.m.view.loc (c : Thread nD τ) ↦[B.z.m.view.set]{fullShare} fz)
    ∗ (B.x.view.loc (c : Thread nD τ) ↦[B.x.view.set]{fullShare} fx) ∗ (B.acc.view.loc (c : Thread nD τ) ↦[B.acc.view.set]{fullShare} fa)
    ∗ (B.out.view.loc (c : Thread nD τ) ↦[B.out.view.set]{fullShare} fO))

/-- The semaphores. -/
def sems : sProp 𝕄 :=
  iprop(semVal (c, SemLoc.dma I.ss) 0 ∗ semVal (c, SemLoc.dma I.xs) 0 ∗ semVal (c, SemLoc.dma (I.ws 0)) 0 ∗ semVal (c, SemLoc.dma (I.ws 1)) 0
    ∗ semVal (c, SemLoc.dma (I.ws 2)) 0 ∗ semVal (c, SemLoc.dma (I.ws 3)) 0 ∗ semVal (c, SemLoc.dma (I.ws 4)) 0 ∗ semVal (c, SemLoc.dma O.sem) 0)

/-- The scales handed over, as the scratch buffer holds them, -/
def sinOf (vs : I.s.view.ty.Contents (Elt F)) (fs : B.sin.view.ty.Contents (Elt F)) : B.sin.view.ty.Contents (Elt F) :=
  B.sin.view.write (Elt F) fs (I.s.view.read (Elt F) vs) Finset.univ
/-- and the rows. -/
def xinOf (vx : I.x.view.ty.Contents (Elt F)) (fi : B.xin.view.ty.Contents (Elt F)) : B.xin.view.ty.Contents (Elt F) :=
  B.xin.view.write (Elt F) fi (I.x.view.read (Elt F) vx) Finset.univ

/-- The four placings. -/
def placings : Fin 4 → FVec F S256x256 .bf16 := ![placing 0#32, placing 1#32, placing 2#32, placing 3#32]

/-- What the half chunks hold when they are sent, from what is handed over and what the scratch buffers held. -/
def outcome (vs : I.s.view.ty.Contents (Elt F)) (vx : I.x.view.ty.Contents (Elt F)) (vw : I.w.view.ty.Contents (Elt F))
    (fi : B.xin.view.ty.Contents (Elt F)) (fw : B.w.view.ty.Contents (Elt F)) (fs : B.sin.view.ty.Contents (Elt F)) (fz : B.z.m.view.ty.Contents (Elt F))
    (fx : B.x.view.ty.Contents (Elt F)) (fa : B.acc.view.ty.Contents (Elt F)) (fO : B.out.view.ty.Contents (Elt F)) : ℕ → B.out.view.ty.Contents (Elt F) :=
  vals M O (brought I fw vw) (zAll (sinOf I vs fs) placings fz) (xAll (xinOf I vx fi) fx) ⟨fa, fO⟩

/-- From the buffers handed over to the buffers handed back. -/
theorem whole_ok (vs : I.s.view.ty.Contents (Elt F)) (vx : I.x.view.ty.Contents (Elt F)) (vw : I.w.view.ty.Contents (Elt F))
    (fi : B.xin.view.ty.Contents (Elt F)) (fw : B.w.view.ty.Contents (Elt F)) (fs : B.sin.view.ty.Contents (Elt F)) (fz : B.z.m.view.ty.Contents (Elt F))
    (fx : B.x.view.ty.Contents (Elt F)) (fa : B.acc.view.ty.Contents (Elt F)) (fO : B.out.view.ty.Contents (Elt F)) (fo : O.o.view.ty.Contents (Elt F))
    (hQ : (iprop(given (τ := τ) I c vs vx vw ∗ (∃ g, ⌜Written O fo (outcome M I O vs vx vw fi fw fs fz fx fa fO) g⌝ ∗ (O.o.view.loc (c : Thread nD τ) ↦[O.o.view.set]{fullShare} g))
      ∗ (∃ fi fw fs fz fx fa fO, scratch (τ := τ) (B := B) c fi fw fs fz fx fa fO) ∗ sems (τ := τ) (F := F) I O c ∗ own (τ := τ) c) : sProp 𝕄) ⊢ Q ⟨⟩) :
    Run defs 𝒱 c bd Q iprop(given (τ := τ) I c vs vx vw ∗ (O.o.view.loc (c : Thread nD τ) ↦[O.o.view.set]{fullShare} fo)
      ∗ scratch (τ := τ) c fi fw fs fz fx fa fO ∗ sems (τ := τ) (F := F) I O c ∗ own (τ := τ) c) (whole B M I O) := by
  unfold Run given scratch sems at *
  rw [words_split c I.w vw, words_split c B.w fw, five, five]
  iintro ⟨⟨Vs, Vx, V0, V1, V2, V3, V4⟩, Ho, ⟨Hi, ⟨W0, W1, W2, W3, W4⟩, Hs, Hz, Hx, Ha, HO⟩, ⟨Ss, Sx, S0, S1, S2, S3, S4, So⟩, Hown⟩
  imod (Transfers.batch_alloc' (Lvl := ℕ) (countersEmb (U := Pipeline.UD sig nD τ)) (c : Thread nD τ) () (outN O)
    (deliv (τ := τ) O c fo (outcome M I O vs vx vw fi fw fs fz fx fa fO)) (sm := .dma O.sem) (E := Set.univ)) $$ So with HB
  unfold whole
  iapply (start_wp defs 𝒱 c bd (by simp [Shape.numel, S512x256]) (Finset.Subset.refl _) (fs := vs) (fd := fs)) $$ [Vs Hs Ss]
  · isplitl [Vs]; iexact Vs
    isplitl [Hs]; iexact Hs
    iexact Ss
  iintro Fs
  iapply (start_wp defs 𝒱 c bd (by simp [Shape.numel, S128x4096]) (Finset.Subset.refl _) (fs := vx) (fd := fi)) $$ [Vx Hi Sx]
  · isplitl [Vx]; iexact Vx
    isplitl [Hi]; iexact Hi
    iexact Sx
  iintro Fx
  iapply (startW_wp I defs 𝒱 c bd (fw := fw) (vw := vw) 0) $$ [V0 W0 S0]
  · isplitl [V0]; iexact V0
    isplitl [W0]; iexact W0
    iexact S0
  iintro F0
  iapply (startW_wp I defs 𝒱 c bd (fw := fw) (vw := vw) 1) $$ [V1 W1 S1]
  · isplitl [V1]; iexact V1
    isplitl [W1]; iexact W1
    iexact S1
  iintro F1
  iapply (startW_wp I defs 𝒱 c bd (fw := fw) (vw := vw) 2) $$ [V2 W2 S2]
  · isplitl [V2]; iexact V2
    isplitl [W2]; iexact W2
    iexact S2
  iintro F2
  iapply (startW_wp I defs 𝒱 c bd (fw := fw) (vw := vw) 3) $$ [V3 W3 S3]
  · isplitl [V3]; iexact V3
    isplitl [W3]; iexact W3
    iexact S3
  iintro F3
  iapply (startW_wp I defs 𝒱 c bd (fw := fw) (vw := vw) 4) $$ [V4 W4 S4]
  · isplitl [V4]; iexact V4
    isplitl [W4]; iexact W4
    iexact S4
  iintro F4
  iapply (wait_wp defs 𝒱 c bd) $$ [Fs Hown]
  · isplitl [Fs]; iexact Fs
    iexact Hown
  iintro ⟨⟨Hs, Vs⟩, Ss, Hown⟩
  iapply (scales_wp (e := placings) (fs := sinOf I vs fs) (fz := fz) defs 𝒱 c bd Q St.init) $$ [Hs Hz]
  · unfold heldZ sinOf
    isplitl [Hs]; iexact Hs
    iexact Hz
  iintro %s %hs HZ
  unfold heldZ
  icases HZ with ⟨Hs, Hz⟩
  iapply (wait_wp defs 𝒱 c bd) $$ [Fx Hown]
  · isplitl [Fx]; iexact Fx
    iexact Hown
  iintro ⟨⟨Hi, Vx⟩, Sx, Hown⟩
  iapply (perms_wp (fi := xinOf I vx fi) (fx := fx) defs 𝒱 c bd Q) $$ [Hi Hx]
  · unfold heldX xinOf
    isplitl [Hi]; iexact Hi
    iexact Hx
  iintro HX
  unfold heldX
  icases HX with ⟨Hi, Hx⟩
  iapply (show _ ⊢ _ from phases_ok (fw := fw) (fh := vw) (fz := zAll (sinOf I vs fs) placings fz) (fx := xAll (xinOf I vx fi) fx) (m := ⟨fa, fO⟩) (fo := fo)
    (R := iprop((I.s.view.loc (c : Thread nD τ) ↦[I.s.view.set]{fullShare} vs) ∗ (I.x.view.loc (c : Thread nD τ) ↦[I.x.view.set]{fullShare} vx)
      ∗ (B.sin.view.loc (c : Thread nD τ) ↦[B.sin.view.set]{fullShare} sinOf I vs fs) ∗ (B.xin.view.loc (c : Thread nD τ) ↦[B.xin.view.set]{fullShare} xinOf I vx fi)
      ∗ semVal (c, SemLoc.dma I.ss) 0 ∗ semVal (c, SemLoc.dma I.xs) 0))
    M I O defs 𝒱 c bd Q hs (BIBase.Entails.trans (by
      unfold left wDone wBack
      iintro ⟨⟨HD, So⟩, Hown, ⟨Hz, Hx, ⟨%ga, Ha⟩, ⟨W4, V4, S4⟩, ⟨W3, V3, S3⟩, ⟨W2, V2, S2⟩, ⟨W1, V1, S1⟩, ⟨W0, V0, S0⟩⟩, Vs, Vx, Hs, Hi, Ss, Sx⟩
      ihave HD := (deliv_join O c fo _) $$ HD
      icases HD with ⟨Hg, ⟨%gO, HO⟩⟩
      ihave HW := (words_join c B.w (brought I fw vw)) $$ [W0 W1 W2 W3 W4]
      · rw [five]
        isplitl [W0]; iexact W0
        isplitl [W1]; iexact W1
        isplitl [W2]; iexact W2
        isplitl [W3]; iexact W3
        iexact W4
      icases HW with ⟨%gw, HW⟩
      isplitl [Vs Vx V0 V1 V2 V3 V4]
      · isplitl [Vs]; iexact Vs
        isplitl [Vx]; iexact Vx
        rw [words_split c I.w vw, five, ← wSlice_rows I.w 0, ← wSlice_rows I.w 1, ← wSlice_rows I.w 2, ← wSlice_rows I.w 3, ← wSlice_rows I.w 4]
        isplitl [V0]; iexact V0
        isplitl [V1]; iexact V1
        isplitl [V2]; iexact V2
        isplitl [V3]; iexact V3
        iexact V4
      isplitl [Hg]; iexact Hg
      isplitl [Hi HW Hs Hz Hx Ha HO]
      · iexists _, _, _, _, _, _, _
        isplitl [Hi]; iexact Hi
        isplitl [HW]; iexact HW
        isplitl [Hs]; iexact Hs
        isplitl [Hz]; iexact Hz
        isplitl [Hx]; iexact Hx
        isplitl [Ha]; iexact Ha
        iexact HO
      isplitr [Hown]
      · isplitl [Ss]; iexact Ss
        isplitl [Sx]; iexact Sx
        isplitl [S0]; iexact S0
        isplitl [S1]; iexact S1
        isplitl [S2]; iexact S2
        isplitl [S3]; iexact S3
        isplitl [S4]; iexact S4
        iexact So
      iexact Hown) hQ))
  unfold rest sending
  rw [outFrom_zero, colFrom_zero]
  isplitl [F0]; iexact F0
  isplitl [Hz Hx Ha HO]
  · isplitl [Hz]; iexact Hz
    isplitl [Hx]; iexact Hx
    isplitl [Ha]; iexact Ha
    iexact HO
  isplitl [Hown]; iexact Hown
  isplitl [F1 F2 F3 F4 HB Ho]
  · isplitl [F1]; iexact F1
    isplitl [F2]; iexact F2
    isplitl [F3]; iexact F3
    isplitl [F4]; iexact F4
    isplitl [HB]
    · iapply (show _ ⊢ batch (τ := τ) O c fo (outcome M I O vs vx vw fi fw fs fz fx fa fO) 0 0 from BIBase.Entails.of_eq (by unfold batch; rfl)) $$ HB
    iexact Ho
  isplitl [Vs]; iexact Vs
  isplitl [Vx]; iexact Vx
  isplitl [Hs]; iexact Hs
  isplitl [Hi]; iexact Hi
  isplitl [Ss]; iexact Ss
  iexact Sx

end Cert.Proof.Str
end
-- ==== Proof.KI.Frame.lean ====
/-
  The kernel launched: its one call runs, and hands the argument arrays back as they were.
-/
module

public import proofs.«01_k».proof.Proof.KI.Root
public import proofs.«01_k».proof.Proof.Str.Kernel
public import proofs.«01_k».proof.Proof.Gen.KernelIdeal.Frame
public import Idealize.ShloMosaic.Lib.Pipeline.FrameSuffix0
public import Idealize.ShloMosaic.Lib.Pipeline.FrameSuffixV

@[expose] public section

noncomputable section

namespace Cert.Proof.KI

open Cert.KernelIdeal Cert.KernelIdeal.Gen Cert.Proof.Str
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The scratch buffers, -/
def B₀ : Bufs sig F :=
  bufs (Memref.whole cc0_scratch0) (Memref.whole cc0_scratch1) (Memref.whole cc0_scratch2) (Memref.whole cc0_scratch3) (Memref.isWhole_whole _)
    (Memref.whole cc0_scratch4) (Memref.whole cc0_scratch5) (Memref.whole cc0_scratch6)
/-- the arrays the kernel reads, -/
def I₀ : Ins sig (B₀ (F := F)) :=
  ins B₀ (Memref.whole main_v6) (Memref.isWhole_whole _) (Memref.whole main_v2) (Memref.whole main_v5) (Memref.isWhole_whole _)
    (Memref.isWhole_whole cc0_scratch0) (Memref.isWhole_whole cc0_scratch2) (Memref.isWhole_whole cc0_scratch4) cc0_scratch7 cc0_scratch8
/-- and the array it writes. -/
def O₀ : Outs sig (B₀ (F := F)).out :=
  outs (Memref.whole cc0_scratch6) (Memref.isWhole_whole _) (Memref.whole main_v7) (Memref.isWhole_whole _) cc0_scratch9.sem

/-- A buffer whole. -/
abbrev pt (c : Dev nD) (b : Ref sig .tc) (f : Buf (Elt F) ((c : Thread nD τ).loc b)) : sProp 𝕄 := ((c : Thread nD τ).loc b) ↦{fullShare} f

/-- The kernel's semaphores at zero. -/
abbrev sems₀ (c : Dev nD) : sProp 𝕄 :=
  iprop(semVal ((c : Thread nD τ), SemLoc.dma 0) 0 ∗ semVal ((c : Thread nD τ), SemLoc.dma 1) 0 ∗ semVal ((c : Thread nD τ), SemLoc.dma 2) 0
    ∗ semVal ((c : Thread nD τ), SemLoc.dma 3) 0 ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0)

theorem sems_eq (c : Dev nD) : (sems (τ := τ) (F := F) I₀ O₀ c : sProp 𝕄) = sems₀ c := by
  rfl

/-- The scratch buffers, each whole. -/
abbrev scratch₀ (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) : sProp 𝕄 :=
  iprop(pt c cc0_scratch0 f0 ∗ pt c cc0_scratch1 f1 ∗ pt c cc0_scratch2 f2 ∗ pt c cc0_scratch3 f3 ∗ pt c cc0_scratch4 f4 ∗ pt c cc0_scratch5 f5
    ∗ pt c cc0_scratch6 f6)

theorem scratch_eq (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) :
    (scratch (τ := τ) (B := B₀ (F := F)) c f0 f1 f2 f3 f4 f5 f6 : sProp 𝕄) = scratch₀ c f0 f1 f2 f3 f4 f5 f6 := by
  have h (b : Ref sig .tc) (f : Buf (Elt F) ((c : Thread nD τ).loc b)) :
      (((View.whole b).loc (c : Thread nD τ) ↦[(View.whole b).set]{fullShare} f) : sProp 𝕄) = pt c b f := by rw [View.set_whole]
  unfold scratch
  exact congrArg₂ _ (h cc0_scratch0 f0) (congrArg₂ _ (h cc0_scratch1 f1) (congrArg₂ _ (h cc0_scratch2 f2) (congrArg₂ _ (h cc0_scratch3 f3)
    (congrArg₂ _ (h cc0_scratch4 f4) (congrArg₂ _ (h cc0_scratch5 f5) (h cc0_scratch6 f6))))))

/-- The arrays the kernel reads, each whole. -/
abbrev given₀ (c : Dev nD) (vx : Buf (Elt F) ((c : Thread nD τ).loc main_v6)) (vw : Buf (Elt F) ((c : Thread nD τ).loc main_v2))
    (vs : Buf (Elt F) ((c : Thread nD τ).loc main_v5)) : sProp 𝕄 := iprop(pt c main_v5 vs ∗ pt c main_v6 vx ∗ pt c main_v2 vw)

theorem given_eq (c : Dev nD) (vx : Buf (Elt F) ((c : Thread nD τ).loc main_v6)) (vw : Buf (Elt F) ((c : Thread nD τ).loc main_v2))
    (vs : Buf (Elt F) ((c : Thread nD τ).loc main_v5)) : (given (τ := τ) (F := F) I₀ c vs vx vw : sProp 𝕄) = given₀ c vx vw vs := by
  have h (b : Ref sig .tc) (f : Buf (Elt F) ((c : Thread nD τ).loc b)) :
      (((View.whole b).loc (c : Thread nD τ) ↦[(View.whole b).set]{fullShare} f) : sProp 𝕄) = pt c b f := by rw [View.set_whole]
  unfold given
  exact congrArg₂ _ (h main_v5 vs) (congrArg₂ _ (h main_v6 vx) (h main_v2 vw))

/-- What the result may hold at the end. -/
def Ends (c : Dev nD) (vx : Buf (Elt F) ((c : Thread nD τ).loc main_v6)) (vw : Buf (Elt F) ((c : Thread nD τ).loc main_v2))
    (vs : Buf (Elt F) ((c : Thread nD τ).loc main_v5)) (g : Buf (Elt F) ((c : Thread nD τ).loc main_v7)) : Prop :=
  ∃ fo f0 f1 f2 f3 f4 f5 f6, Written (F := F) O₀ fo (outcome masks I₀ O₀ vs vx vw f0 f1 f2 f3 f4 f5 f6) g

/-- The call's body, over named parts. -/
theorem body_eq (t : Fin cfg0.N) : bodyAt0 (F := F) t = whole B₀ masks I₀ O₀ :=
  root (Memref.whole main_v6) (Memref.isWhole_whole _) (Memref.whole main_v2) (Memref.isWhole_whole _) (Memref.whole main_v5) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9

theorem out_eq (c : Dev nD) (g : Buf (Elt F) ((c : Thread nD τ).loc main_v7)) :
    (((O₀ (F := F)).o.view.loc (c : Thread nD τ) ↦[(O₀ (F := F)).o.view.set]{fullShare} g) : sProp 𝕄) = pt c main_v7 g :=
  (show (((View.whole main_v7).loc (c : Thread nD τ) ↦[(View.whole main_v7).set]{fullShare} g) : sProp 𝕄) = pt c main_v7 g by rw [View.set_whole])

theorem body_ok (c : Dev nD) (t : Fin cfg0.N) (vx : Buf (Elt F) ((c : Thread nD τ).loc main_v6)) (vw : Buf (Elt F) ((c : Thread nD τ).loc main_v2))
    (vs : Buf (Elt F) ((c : Thread nD τ).loc main_v5)) (Q : PUnit → sProp 𝕄)
    (hQ : (iprop(given₀ c vx vw vs ∗ (∃ g, ⌜Ends c vx vw vs g⌝ ∗ pt c main_v7 g) ∗ (∃ f0 f1 f2 f3 f4 f5 f6, scratch₀ c f0 f1 f2 f3 f4 f5 f6)
      ∗ sems₀ c ∗ own (τ := τ) c) : sProp 𝕄) ⊢ Q ⟨⟩)
    (fo : Buf (Elt F) ((c : Thread nD τ).loc main_v7)) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) :
    (iprop(given₀ c vx vw vs ∗ pt c main_v7 fo ∗ scratch₀ c f0 f1 f2 f3 f4 f5 f6 ∗ sems₀ c ∗ own (τ := τ) c) : sProp 𝕄)
      ⊢ wp frame (wpE (defs₀ (F := F)) Variants.none (c : Thread nD τ) none) Set.univ (bodyAt0 t) Q := by
  have hw := whole_ok (τ := τ) masks I₀ O₀ (defs₀ (F := F)) Variants.none c none Q vs vx vw f0 f1 f2 f3 f4 f5 f6 fo (BIBase.Entails.trans ?_ hQ)
  · unfold Run at hw
    refine BIBase.Entails.trans (BIBase.Entails.of_eq ?_) (BIBase.Entails.trans hw (BIBase.Entails.of_eq
      (congrArg (fun p => wp frame (wpE (defs₀ (F := F)) Variants.none (c : Thread nD τ) none) Set.univ p Q) (body_eq t).symm)))
    exact congrArg₂ _ (given_eq c vx vw vs).symm (congrArg₂ _ (out_eq c fo).symm (congrArg₂ _ (scratch_eq c f0 f1 f2 f3 f4 f5 f6).symm
      (congrArg₂ _ (sems_eq c).symm rfl)))
  iintro ⟨Hg, ⟨%g, %hg, Ho⟩, ⟨%e0, %e1, %e2, %e3, %e4, %e5, %e6, Hs⟩, Hq, Hown⟩
  isplitl [Hg]
  · iapply (show _ ⊢ _ from BIBase.Entails.of_eq (given_eq c vx vw vs)) $$ Hg
  isplitl [Ho]
  · iexists g
    isplitr
    · ipureintro; exact ⟨fo, f0, f1, f2, f3, f4, f5, f6, hg⟩
    iapply (show _ ⊢ _ from BIBase.Entails.of_eq (out_eq c g)) $$ Ho
  isplitl [Hs]
  · iexists e0, e1, e2, e3, e4, e5, e6
    iapply (show _ ⊢ _ from BIBase.Entails.of_eq (scratch_eq c e0 e1 e2 e3 e4 e5 e6)) $$ Hs
  isplitl [Hq]
  · iapply (show _ ⊢ _ from BIBase.Entails.of_eq (sems_eq (F := F) c)) $$ Hq
  iexact Hown

theorem body_wp {Q : PUnit → sProp 𝕄} (c : Dev nD) (t : Fin cfg0.N) (vx : Buf (Elt F) ((c : Thread nD τ).loc main_v6)) (vw : Buf (Elt F) ((c : Thread nD τ).loc main_v2))
    (vs : Buf (Elt F) ((c : Thread nD τ).loc main_v5))
    (fo : Buf (Elt F) ((c : Thread nD τ).loc main_v7)) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) :
    (iprop(given₀ c vx vw vs ∗ pt c main_v7 fo ∗ scratch₀ c f0 f1 f2 f3 f4 f5 f6 ∗ sems₀ c ∗ own (τ := τ) c) : sProp 𝕄)
      ⊢ iprop((iprop(given₀ c vx vw vs ∗ (∃ g, ⌜Ends c vx vw vs g⌝ ∗ pt c main_v7 g) ∗ (∃ f0 f1 f2 f3 f4 f5 f6, scratch₀ c f0 f1 f2 f3 f4 f5 f6)
      ∗ sems₀ c ∗ own (τ := τ) c) -∗ Q ⟨⟩) -∗ wp frame (wpE (defs₀ (F := F)) Variants.none (c : Thread nD τ) none) Set.univ (bodyAt0 t) Q) := by
  iintro H Hk
  iapply wp_wand $$ [H]
  · iapply (body_ok c t vx vw vs (fun _ => iprop(given₀ c vx vw vs ∗ (∃ g, ⌜Ends c vx vw vs g⌝ ∗ pt c main_v7 g) ∗ (∃ f0 f1 f2 f3 f4 f5 f6, scratch₀ c f0 f1 f2 f3 f4 f5 f6)
      ∗ sems₀ c ∗ own (τ := τ) c)) .rfl fo f0 f1 f2 f3 f4 f5 f6) $$ H
  iintro %u HQ
  iapply Hk
  iexact HQ

/-! ## The launch -/

variable (m : (ℓ : Loc nD τ sig) → Buf (Elt F) ℓ) (ρ : Dev nD → PrngReg)

/-- The kernel's own semaphores. -/
def osem0 : Fin 8 → SemLoc sig :=
  fun j => (![SemLoc.dma 0, SemLoc.dma 1, SemLoc.dma 2, SemLoc.dma 3, SemLoc.dma 4, SemLoc.dma 5, SemLoc.dma 6, SemLoc.dma 7] : Fin 8 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄) = sems₀ c := by
  rw [Pipeline.ownSems0_eq_of_list c osem0 [0, 1, 2, 3, 4, 5, 6, 7] (by decide) (by decide)]; rfl

/-- The arrays it reads, -/
def H0 : Finset (Ref sig .tc) := {main_v5, main_v6, main_v2}
theorem H0_sub : H0 ⊆ Pipeline.restRefs sig (cfg0.spec) := by decide
theorem H0_eq (c : Dev nD) (W : (b : Ref sig .tc) → Buf (Elt F) ((c : Thread nD τ).loc b)) :
    (bigSep H0 fun b => ((c.tc : Thread nD τ).loc b) ↦{fullShare} W b : sProp 𝕄) = given₀ c (W main_v6) (W main_v2) (W main_v5) := by
  rw [BI.bigSep_eq_bigSepL_of_eq [main_v5, main_v6, main_v2] (by decide) (by decide)]; rfl

/-- and the array it writes. -/
def R0 : Finset (Ref sig .tc) := {main_v7}
theorem R0_sub : R0 ⊆ Pipeline.restRefs sig (cfg0.spec) \ H0 := by decide
theorem R0_eq (c : Dev nD) (W : (b : Ref sig .tc) → Buf (Elt F) ((c : Thread nD τ).loc b)) :
    (bigSep R0 fun b => ((c.tc : Thread nD τ).loc b) ↦{fullShare} W b : sProp 𝕄) = pt c main_v7 (W main_v7) := by
  rw [BI.bigSep_eq_bigSepL_of_eq [main_v7] (by decide) (by decide)]; rfl

theorem owned_eq (c : Dev nD) : (Pipeline.owned R0 c : sProp 𝕄) = iprop(∃ f, pt c main_v7 f) := by
  unfold Pipeline.owned
  rw [BI.bigSep_eq_bigSepL_of_eq [main_v7] (by decide) (by decide)]; rfl

/-- The scratch buffers at some contents. -/
abbrev someScratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f)
    ∗ (∃ f, pt c cc0_scratch5 f) ∗ (∃ f, pt c cc0_scratch6 f))

/-- Before the call and after it: the result at contents `P` allows, and `X` beside. -/
def around (c : Dev nD) (X : sProp 𝕄) (P : Buf (Elt F) ((c : Thread nD τ).loc main_v7) → Prop) : sProp 𝕄 :=
  iprop(someScratch c ∗ X ∗ sems₀ c ∗ given₀ c (V m c main_v6) (V m c main_v2) (V m c main_v5) ∗ (∃ g, ⌜P g⌝ ∗ pt c main_v7 g))

variable (X : Dev nD → sProp (MT nD τ sig Unit (Elt F) ℕ (Pipeline.UD sig nD τ) ℕ))

/-- What the result may hold at a point. -/
def allowed (c : Dev nD) (t : Fin (cfg0.N + 1)) : Buf (Elt F) ((c : Thread nD τ).loc main_v7) → Prop :=
  if t.val = 0 then fun _ => True else Ends c (V m c main_v6) (V m c main_v2) (V m c main_v5)

/-- The proof's data. -/
def dats (_ : Fin 1) (c : Dev nD) : Dat τ (Elt F) Unit ℕ (Pipeline.UD sig nD τ) ℕ cfg0 c where
  A w := w.elim0
  after w _ := w.elim0
  Φ t := around m c (X c) (allowed m c t)
  q _ := fullShare
  owed _ := 0

theorem A_eq (c : Dev nD) (w : Fin cfg0.W) : (dats m X 0 c).A w = V m c (Pipeline.arrRef (cfg0.spec) w) := w.elim0

def bodyPre (c : Dev nD) (t : Fin cfg0.N) : sProp 𝕄 :=
  iprop((dats m X 0 c).Φ t.castSucc ∗ (dats m X 0 c).owesAt () t.castSucc)
def bodyPost (c : Dev nD) (t : Fin cfg0.N) : sProp 𝕄 :=
  iprop((dats m X 0 c).Φ t.succ ∗ (dats m X 0 c).owesAt () t.succ)

theorem sound_body (c : Dev nD) (t : Fin cfg0.N) :
    bodyPre m X c t ⊢ wp frame (wpE (defs₀ (F := F)) Variants.none (c : Thread nD τ) none) Set.univ (bodyAt0 t) (fun _ => bodyPost m X c t) := by
  unfold bodyPre bodyPost
  rw [show (dats m X 0 c).Φ t.castSucc = around m c (X c) (allowed m c t.castSucc) from rfl,
    show (dats m X 0 c).Φ t.succ = around m c (X c) (Ends c (V m c main_v6) (V m c main_v2) (V m c main_v5)) from
      congrArg (around m c (X c)) (if_neg (Nat.succ_ne_zero _))]
  unfold Dat.owesAt Pipeline.owesWithin around
  rw [show (dats m X 0 c).owed t.castSucc = 0 from rfl, show (dats m X 0 c).owed t.succ = 0 from rfl]
  iintro ⟨⟨⟨⟨%f0, H0⟩, ⟨%f1, H1⟩, ⟨%f2, H2⟩, ⟨%f3, H3⟩, ⟨%f4, H4⟩, ⟨%f5, H5⟩, ⟨%f6, H6⟩⟩, HX, Hq, Hg, ⟨%fo, -, Ho⟩⟩, ⟨%W, -, HW⟩⟩
  iapply (body_wp c t (V m c main_v6) (V m c main_v2) (V m c main_v5) fo f0 f1 f2 f3 f4 f5 f6) $$ [H0 H1 H2 H3 H4 H5 H6 Hg Ho Hq HW]
  · isplitl [Hg]; iexact Hg
    isplitl [Ho]; iexact Ho
    isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [Hq]; iexact Hq
    unfold Str.own
    iexists W; iexact HW
  iintro ⟨Hg, Ho, ⟨%e0, %e1, %e2, %e3, %e4, %e5, %e6, H0, H1, H2, H3, H4, H5, H6⟩, Hq, HW⟩
  unfold Str.own
  icases HW with ⟨%W', HW⟩
  isplitr [HW]
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    isplitl [HX]; iexact HX
    isplitl [Hq]; iexact Hq
    isplitl [Hg]; iexact Hg
    iexact Ho
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem noWindows (Ψ : Fin cfg0.W → sProp 𝕄) : bigSep Finset.univ Ψ = (BI.emp : sProp 𝕄) := by
  rw [show (Finset.univ : Finset (Fin cfg0.W)) = ∅ from rfl, BI.bigSep_empty]

theorem body_obligation (c : Dev nD) : BodyObligation (dats m X 0 c) (defs₀ (F := F)) Variants.none () Set.univ := fun t => by
  rw [noWindows, noWindows, defs₀_row]
  exact triple_restated (sound_body m X c t) rfl
    (by unfold bodyPre; iintro ⟨H1, H2, -⟩; isplitl [H1]; iexact H1; iexact H2)
    (fun _ => by unfold bodyPost; iintro ⟨H1, H2⟩; isplitl [H1]; iexact H1; isplitl [H2]; iexact H2; iempintro)

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem hT : ∀ ops ∈ ([hostOps1] : List (List (HloOp τ sig (Elt F)))), ∀ op ∈ ops, ∀ b : Ref sig .tc, Proc.devRef .tc b ∈ op.writes → b ∈ ({main_v8} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  rw [Finset.mem_singleton]
  by_contra h
  exact StableHlo.devRef_ne_of_ne h hb

theorem enter (c : Dev nD) : Pipeline.ΦDR osem0 (cfg0.spec) H0 R0 (V m) c ⊢ (dats m (fun c => iprop(∃ r, prngReg c r)) 0 c).Φ 0 := by
  rw [show (dats m (fun c => iprop(∃ r, prngReg c r)) 0 c).Φ 0 = around m c (iprop(∃ r, prngReg c r)) (fun _ => True) from congrArg (around m c _) (if_pos rfl),
    Pipeline.ΦDR_eq, scopedRest0_eq, ownSems00_eq, H0_eq]
  rw [owned_eq]
  unfold around
  iintro ⟨H1, H2, H3, H4, ⟨%g, H5⟩⟩
  isplitl [H1]; iexact H1
  isplitl [H2]; iexact H2
  isplitl [H3]; iexact H3
  isplitl [H4]; iexact H4
  iexists g
  isplitr
  · ipureintro; trivial
  iexact H5

theorem leave (c : Dev nD) : (dats m (fun c => iprop(∃ r, prngReg c r)) 0 c).Φ (Fin.last _) ⊢ Pipeline.ΦDR osem0 (cfg0.spec) H0 R0 (V m) c := by
  rw [show (dats m (fun c => iprop(∃ r, prngReg c r)) 0 c).Φ (Fin.last _) = around m c (iprop(∃ r, prngReg c r)) (allowed m c (Fin.last _)) from rfl,
    Pipeline.ΦDR_eq, scopedRest0_eq, ownSems00_eq, H0_eq]
  rw [owned_eq]
  unfold around
  iintro ⟨H1, H2, H3, H4, ⟨%g, -, H5⟩⟩
  isplitl [H1]; iexact H1
  isplitl [H2]; iexact H2
  isplitl [H3]; iexact H3
  isplitl [H4]; iexact H4
  iexists g
  iexact H5

set_option backward.isDefEq.respectTransparency.types false in
theorem run_main : θ_run defs (onTc (τ := τ) (main (F := F))) (s₀ m ρ)
    (fun r => Pipeline.FramePostR cfgs (dats m (fun c => iprop(∃ r, prngReg c r))) 0 (R0 ∪ {main_v8}) (V m) r ∧ r.2.sem = fun _ => 0) :=
  Pipeline.θ_run_frame_dmaR_around (Q' := _) cfgs (dats m _) (0 : Fin 1) launch0 osem0 defs₀ Variants.none ownSemFacts0 H0 R0 {main_v8} H0_sub R0_sub m ρ main
    (hbody := fun c => (body_obligation m _ c).loose) (hshare := fun c w => w.elim0)
    (howed := fun _ _ => rfl) (V₀ := V0 m) (opss := [hostOps1]) (hsub := sfx_sub) (hfresh := sfx_fresh) (hkeep := sfx_keeps) (hT := hT)
    (hmain := hmainD m Variants.none) (hA := A_eq m _)
    (hin := enter m) (hout := leave m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)
    (run_main m ρ)

end Cert.Proof.KI
end
-- ==== Proof.KB.Bufs.lean ====
/-
  The kernel's buffers.
-/
module

public import proofs.«01_k».proof.Proof.Str.Evid
public import proofs.«01_k».proof.Proof.Gen.Kernel

@[expose] public section

noncomputable section

namespace Cert.Proof.KB

open Cert.Kernel Cert.Kernel.Gen Cert.Proof.Str
open Idealize.ShloMosaic Idealize.ShloMosaic.TcCoe Idealize.SL.Sem

variable {F : FTy → Type} [BitOps F]

theorem zrd_inb (i : ℕ) (h : i < 64) (a : Fin 2) : (![32 * i, 0] : Fin 2 → ℕ) a + S32x128.size a ≤ S2048x128.size a := by
  fin_cases a <;> simp [S2048x128, S32x128] <;> omega

theorem zwr_inb (i : Fin 16) (a : Fin 2) : S128x128.size a = 0 ∨
    (![512 * (i.val % 4) + i.val / 4, 0] : Fin 2 → ℕ) a + (![4, 1] : Fin 2 → ℕ) a * (S128x128.size a - 1) < S2048x128.size a := by
  right; fin_cases a <;> simp [S2048x128, S128x128] <;> omega

/-- The buffer of the scales: words of two scales. -/
def zbuf (m : Memref sig .tc .vmem S2048x128 .i32) (hm : m.IsWhole) : ZBuf sig F where
  shape := S2048x128
  elt := .i32
  m := m
  rd i h := (Rect.unit (s := S2048x128) ![32 * i, 0] S32x128.size (zrd_inb i h)).toLoadRect
  rdOk i h := View.loadsAt_vmem h_S32x128
  dec i h z := bitcastToFloat .bf16 (bitcast S64x128 16 z bitcasts_S32x128_w32_S64x128_w16)
  wr i := ⟨(⟨![512 * (i.val % 4) + i.val / 4, 0], S128x128.size, ![4, 1], zwr_inb i⟩ : LoadRect S2048x128), spos_4_1⟩
  wrLd i := View.loadsAt_vmem h_S128x128
  wrSt i := View.stores_vmem_bits_univ h_S128x128 rfl
  pack i lo hi := shapeCast S128x128 (packElementwise lo hi) shapeCasts_S128x128_S128x128

end Cert.Proof.KB
end
-- ==== Proof.KB.Root.lean ====
/-
  The kernel as it prints is the kernel over named parts.
-/
module

public import proofs.«01_k».proof.Proof.KB.Bufs
public import proofs.«01_k».proof.Proof.Str.Main
public import Idealize.ShloMosaic.Lib.Tactic

@[expose] public section

noncomputable section

namespace Cert.Proof.KB

open Cert.Kernel Cert.Kernel.Gen Cert.Proof.Str
open Idealize.ShloMosaic Idealize.ShloMosaic.TcCoe Idealize.SL.Sem

variable {F : FTy → Type} [BitOps F]

/-- The buffers, -/
def bufs (arg4 : Memref sig .tc .vmem S128x4096 .bf16) (arg5 : Memref sig .tc .vmem S44032x128 .i32) (arg6 : Memref sig .tc .vmem S512x256 .bf16)
    (arg7 : Memref sig .tc .vmem S2048x128 .i32) (harg7 : arg7.IsWhole)
    (arg8 : Memref sig .tc .vmem S4x128x4096 .bf16) (arg9 : Memref sig .tc .vmem S43x2x128x128 .f32)
    (arg10 : Memref sig .tc .vmem S43x2x128x128 .bf16) : Bufs sig F :=
  ⟨arg5, zbuf arg7 harg7, arg8, arg9, arg10, arg4, arg6⟩

/-- and what the transfers in go by. -/
def ins (B : Bufs sig F) (arg0 : Memref sig .tc .hbm S128x4096 .bf16) (harg0 : arg0.IsWhole) (arg1 : Memref sig .tc .hbm S44032x128 .i32)
    (arg2 : Memref sig .tc .hbm S512x256 .bf16) (harg2 : arg2.IsWhole) (h4 : B.xin.IsWhole) (h6 : B.sin.IsWhole) (h8 : B.x.IsWhole)
    (arg11 : DmaSems sig S2) (arg12 : DmaSems sig S5) : Ins sig B where
  x := arg0
  w := arg1
  s := arg2
  ss := ((arg11.slice (Rect.unit (s := S2) ![0] S1.size inb_S2_S1_0)).squeeze S_ squeezes_S1_S_).sem
  xs := ((arg11.slice (Rect.unit (s := S2) ![1] S1.size inb_S2_S1_1)).squeeze S_ squeezes_S1_S_).sem
  ws := ![((arg12.slice (Rect.unit (s := S5) ![0] S1.size inb_S5_S1_0)).squeeze S_ squeezes_S1_S_).sem,
    ((arg12.slice (Rect.unit (s := S5) ![1] S1.size inb_S5_S1_1)).squeeze S_ squeezes_S1_S_).sem,
    ((arg12.slice (Rect.unit (s := S5) ![2] S1.size inb_S5_S1_2)).squeeze S_ squeezes_S1_S_).sem,
    ((arg12.slice (Rect.unit (s := S5) ![3] S1.size inb_S5_S1_3)).squeeze S_ squeezes_S1_S_).sem,
    ((arg12.slice (Rect.unit (s := S5) ![4] S1.size inb_S5_S1_4)).squeeze S_ squeezes_S1_S_).sem]
  hx := harg0.wordExact
  hx' := h4.wordExact
  hs := harg2.wordExact
  hs' := h6.wordExact
  st v hv t ht := xp_st B.x h8 v hv t ht

set_option maxRecDepth 100000 in
theorem root (arg0 : Memref sig .tc .hbm S128x4096 .bf16) (harg0 : arg0.IsWhole) (arg1 : Memref sig .tc .hbm S44032x128 .i32) (harg1 : arg1.IsWhole) (arg2 : Memref sig .tc .hbm S512x256 .bf16) (harg2 : arg2.IsWhole) (arg3 : Memref sig .tc .hbm S128x11008 .bf16) (harg3 : arg3.IsWhole) (arg4 : Memref sig .tc .vmem S128x4096 .bf16) (harg4 : arg4.IsWhole) (arg5 : Memref sig .tc .vmem S44032x128 .i32) (harg5 : arg5.IsWhole) (arg6 : Memref sig .tc .vmem S512x256 .bf16) (harg6 : arg6.IsWhole) (arg7 : Memref sig .tc .vmem S2048x128 .i32) (harg7 : arg7.IsWhole) (arg8 : Memref sig .tc .vmem S4x128x4096 .bf16) (harg8 : arg8.IsWhole) (arg9 : Memref sig .tc .vmem S43x2x128x128 .f32) (harg9 : arg9.IsWhole) (arg10 : Memref sig .tc .vmem S43x2x128x128 .bf16) (harg10 : arg10.IsWhole) (arg11 : DmaSems sig S2) (arg12 : DmaSems sig S5) (arg13 : DmaSems sig S_) :
    cc0_int4_linear (F := F) arg0 harg0 arg1 harg1 arg2 harg2 arg3 harg3 arg4 harg4 arg5 harg5 arg6 harg6 arg7 harg7 arg8 harg8 arg9 harg9 arg10 harg10 arg11 arg12 arg13
      = whole (bufs arg4 arg5 arg6 arg7 harg7 arg8 arg9 arg10) masks
          (ins (bufs arg4 arg5 arg6 arg7 harg7 arg8 arg9 arg10) arg0 harg0 arg1 arg2 harg2 harg4 harg6 harg8 arg11 arg12)
          (outs arg10 harg10 arg3 harg3 arg13.sem) := by
  simp only [cc0_int4_linear, k0_part931, k0_part932, k0_part933, k0_part934, k0_part935, k0_part577, k0_part600, k0_part644, k0_part710, k0_part797,
    Prog.bind_assoc]
  sl_kernel_rfl

end Cert.Proof.KB
end
-- ==== Proof.KB.Frame.lean ====
/-
  The kernel launched: its one call runs, and hands the argument arrays back as they were.
-/
module

public import proofs.«01_k».proof.Proof.KB.Root
public import proofs.«01_k».proof.Proof.Str.Kernel
public import proofs.«01_k».proof.Proof.Gen.Kernel.Frame
public import Idealize.ShloMosaic.Lib.Pipeline.FrameSuffix0
public import Idealize.ShloMosaic.Lib.Pipeline.FrameSuffixV

@[expose] public section

noncomputable section

namespace Cert.Proof.KB

open Cert.Kernel Cert.Kernel.Gen Cert.Proof.Str
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (Pipeline.UD sig nD τ) ℕ

/-- The scratch buffers, -/
def B₀ : Bufs sig F :=
  bufs (Memref.whole cc0_scratch0) (Memref.whole cc0_scratch1) (Memref.whole cc0_scratch2) (Memref.whole cc0_scratch3) (Memref.isWhole_whole _)
    (Memref.whole cc0_scratch4) (Memref.whole cc0_scratch5) (Memref.whole cc0_scratch6)
/-- the arrays the kernel reads, -/
def I₀ : Ins sig (B₀ (F := F)) :=
  ins B₀ (Memref.whole main_v6) (Memref.isWhole_whole _) (Memref.whole main_v2) (Memref.whole main_v5) (Memref.isWhole_whole _)
    (Memref.isWhole_whole cc0_scratch0) (Memref.isWhole_whole cc0_scratch2) (Memref.isWhole_whole cc0_scratch4) cc0_scratch7 cc0_scratch8
/-- and the array it writes. -/
def O₀ : Outs sig (B₀ (F := F)).out :=
  outs (Memref.whole cc0_scratch6) (Memref.isWhole_whole _) (Memref.whole main_v7) (Memref.isWhole_whole _) cc0_scratch9.sem

/-- A buffer whole. -/
abbrev pt (c : Dev nD) (b : Ref sig .tc) (f : Buf (Elt F) ((c : Thread nD τ).loc b)) : sProp 𝕄 := ((c : Thread nD τ).loc b) ↦{fullShare} f

/-- The kernel's semaphores at zero. -/
abbrev sems₀ (c : Dev nD) : sProp 𝕄 :=
  iprop(semVal ((c : Thread nD τ), SemLoc.dma 0) 0 ∗ semVal ((c : Thread nD τ), SemLoc.dma 1) 0 ∗ semVal ((c : Thread nD τ), SemLoc.dma 2) 0
    ∗ semVal ((c : Thread nD τ), SemLoc.dma 3) 0 ∗ semVal ((c : Thread nD τ), SemLoc.dma 4) 0 ∗ semVal ((c : Thread nD τ), SemLoc.dma 5) 0
    ∗ semVal ((c : Thread nD τ), SemLoc.dma 6) 0 ∗ semVal ((c : Thread nD τ), SemLoc.dma 7) 0)

theorem sems_eq (c : Dev nD) : (sems (τ := τ) (F := F) I₀ O₀ c : sProp 𝕄) = sems₀ c := by
  rfl

/-- The scratch buffers, each whole. -/
abbrev scratch₀ (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) : sProp 𝕄 :=
  iprop(pt c cc0_scratch0 f0 ∗ pt c cc0_scratch1 f1 ∗ pt c cc0_scratch2 f2 ∗ pt c cc0_scratch3 f3 ∗ pt c cc0_scratch4 f4 ∗ pt c cc0_scratch5 f5
    ∗ pt c cc0_scratch6 f6)

theorem scratch_eq (c : Dev nD) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) :
    (scratch (τ := τ) (B := B₀ (F := F)) c f0 f1 f2 f3 f4 f5 f6 : sProp 𝕄) = scratch₀ c f0 f1 f2 f3 f4 f5 f6 := by
  have h (b : Ref sig .tc) (f : Buf (Elt F) ((c : Thread nD τ).loc b)) :
      (((View.whole b).loc (c : Thread nD τ) ↦[(View.whole b).set]{fullShare} f) : sProp 𝕄) = pt c b f := by rw [View.set_whole]
  unfold scratch
  exact congrArg₂ _ (h cc0_scratch0 f0) (congrArg₂ _ (h cc0_scratch1 f1) (congrArg₂ _ (h cc0_scratch2 f2) (congrArg₂ _ (h cc0_scratch3 f3)
    (congrArg₂ _ (h cc0_scratch4 f4) (congrArg₂ _ (h cc0_scratch5 f5) (h cc0_scratch6 f6))))))

/-- The arrays the kernel reads, each whole. -/
abbrev given₀ (c : Dev nD) (vx : Buf (Elt F) ((c : Thread nD τ).loc main_v6)) (vw : Buf (Elt F) ((c : Thread nD τ).loc main_v2))
    (vs : Buf (Elt F) ((c : Thread nD τ).loc main_v5)) : sProp 𝕄 := iprop(pt c main_v5 vs ∗ pt c main_v6 vx ∗ pt c main_v2 vw)

theorem given_eq (c : Dev nD) (vx : Buf (Elt F) ((c : Thread nD τ).loc main_v6)) (vw : Buf (Elt F) ((c : Thread nD τ).loc main_v2))
    (vs : Buf (Elt F) ((c : Thread nD τ).loc main_v5)) : (given (τ := τ) (F := F) I₀ c vs vx vw : sProp 𝕄) = given₀ c vx vw vs := by
  have h (b : Ref sig .tc) (f : Buf (Elt F) ((c : Thread nD τ).loc b)) :
      (((View.whole b).loc (c : Thread nD τ) ↦[(View.whole b).set]{fullShare} f) : sProp 𝕄) = pt c b f := by rw [View.set_whole]
  unfold given
  exact congrArg₂ _ (h main_v5 vs) (congrArg₂ _ (h main_v6 vx) (h main_v2 vw))

/-- What the result may hold at the end. -/
def Ends (c : Dev nD) (vx : Buf (Elt F) ((c : Thread nD τ).loc main_v6)) (vw : Buf (Elt F) ((c : Thread nD τ).loc main_v2))
    (vs : Buf (Elt F) ((c : Thread nD τ).loc main_v5)) (g : Buf (Elt F) ((c : Thread nD τ).loc main_v7)) : Prop :=
  ∃ fo f0 f1 f2 f3 f4 f5 f6, Written (F := F) O₀ fo (outcome masks I₀ O₀ vs vx vw f0 f1 f2 f3 f4 f5 f6) g

/-- The call's body, over named parts. -/
theorem body_eq (t : Fin cfg0.N) : bodyAt0 (F := F) t = whole B₀ masks I₀ O₀ :=
  root (Memref.whole main_v6) (Memref.isWhole_whole _) (Memref.whole main_v2) (Memref.isWhole_whole _) (Memref.whole main_v5) (Memref.isWhole_whole _) (Memref.whole main_v7) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9

theorem out_eq (c : Dev nD) (g : Buf (Elt F) ((c : Thread nD τ).loc main_v7)) :
    (((O₀ (F := F)).o.view.loc (c : Thread nD τ) ↦[(O₀ (F := F)).o.view.set]{fullShare} g) : sProp 𝕄) = pt c main_v7 g :=
  (show (((View.whole main_v7).loc (c : Thread nD τ) ↦[(View.whole main_v7).set]{fullShare} g) : sProp 𝕄) = pt c main_v7 g by rw [View.set_whole])

theorem body_ok (c : Dev nD) (t : Fin cfg0.N) (vx : Buf (Elt F) ((c : Thread nD τ).loc main_v6)) (vw : Buf (Elt F) ((c : Thread nD τ).loc main_v2))
    (vs : Buf (Elt F) ((c : Thread nD τ).loc main_v5)) (Q : PUnit → sProp 𝕄)
    (hQ : (iprop(given₀ c vx vw vs ∗ (∃ g, ⌜Ends c vx vw vs g⌝ ∗ pt c main_v7 g) ∗ (∃ f0 f1 f2 f3 f4 f5 f6, scratch₀ c f0 f1 f2 f3 f4 f5 f6)
      ∗ sems₀ c ∗ own (τ := τ) c) : sProp 𝕄) ⊢ Q ⟨⟩)
    (fo : Buf (Elt F) ((c : Thread nD τ).loc main_v7)) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) :
    (iprop(given₀ c vx vw vs ∗ pt c main_v7 fo ∗ scratch₀ c f0 f1 f2 f3 f4 f5 f6 ∗ sems₀ c ∗ own (τ := τ) c) : sProp 𝕄)
      ⊢ wp frame (wpE (defs₀ (F := F)) Variants.none (c : Thread nD τ) none) Set.univ (bodyAt0 t) Q := by
  have hw := whole_ok (τ := τ) masks I₀ O₀ (defs₀ (F := F)) Variants.none c none Q vs vx vw f0 f1 f2 f3 f4 f5 f6 fo (BIBase.Entails.trans ?_ hQ)
  · unfold Run at hw
    refine BIBase.Entails.trans (BIBase.Entails.of_eq ?_) (BIBase.Entails.trans hw (BIBase.Entails.of_eq
      (congrArg (fun p => wp frame (wpE (defs₀ (F := F)) Variants.none (c : Thread nD τ) none) Set.univ p Q) (body_eq t).symm)))
    exact congrArg₂ _ (given_eq c vx vw vs).symm (congrArg₂ _ (out_eq c fo).symm (congrArg₂ _ (scratch_eq c f0 f1 f2 f3 f4 f5 f6).symm
      (congrArg₂ _ (sems_eq c).symm rfl)))
  iintro ⟨Hg, ⟨%g, %hg, Ho⟩, ⟨%e0, %e1, %e2, %e3, %e4, %e5, %e6, Hs⟩, Hq, Hown⟩
  isplitl [Hg]
  · iapply (show _ ⊢ _ from BIBase.Entails.of_eq (given_eq c vx vw vs)) $$ Hg
  isplitl [Ho]
  · iexists g
    isplitr
    · ipureintro; exact ⟨fo, f0, f1, f2, f3, f4, f5, f6, hg⟩
    iapply (show _ ⊢ _ from BIBase.Entails.of_eq (out_eq c g)) $$ Ho
  isplitl [Hs]
  · iexists e0, e1, e2, e3, e4, e5, e6
    iapply (show _ ⊢ _ from BIBase.Entails.of_eq (scratch_eq c e0 e1 e2 e3 e4 e5 e6)) $$ Hs
  isplitl [Hq]
  · iapply (show _ ⊢ _ from BIBase.Entails.of_eq (sems_eq (F := F) c)) $$ Hq
  iexact Hown

theorem body_wp {Q : PUnit → sProp 𝕄} (c : Dev nD) (t : Fin cfg0.N) (vx : Buf (Elt F) ((c : Thread nD τ).loc main_v6)) (vw : Buf (Elt F) ((c : Thread nD τ).loc main_v2))
    (vs : Buf (Elt F) ((c : Thread nD τ).loc main_v5))
    (fo : Buf (Elt F) ((c : Thread nD τ).loc main_v7)) (f0 : Buf (Elt F) ((c : Thread nD τ).loc cc0_scratch0)) (f1 : Buf (Elt F) ((c : Thread nD τ).loc cc0_scratch1))
    (f2 : Buf (Elt F) ((c : Thread nD τ).loc cc0_scratch2)) (f3 : Buf (Elt F) ((c : Thread nD τ).loc cc0_scratch3))
    (f4 : Buf (Elt F) ((c : Thread nD τ).loc cc0_scratch4)) (f5 : Buf (Elt F) ((c : Thread nD τ).loc cc0_scratch5))
    (f6 : Buf (Elt F) ((c : Thread nD τ).loc cc0_scratch6)) :
    (iprop(given₀ c vx vw vs ∗ pt c main_v7 fo ∗ scratch₀ c f0 f1 f2 f3 f4 f5 f6 ∗ sems₀ c ∗ own (τ := τ) c) : sProp 𝕄)
      ⊢ iprop((iprop(given₀ c vx vw vs ∗ (∃ g, ⌜Ends c vx vw vs g⌝ ∗ pt c main_v7 g) ∗ (∃ f0 f1 f2 f3 f4 f5 f6, scratch₀ c f0 f1 f2 f3 f4 f5 f6)
      ∗ sems₀ c ∗ own (τ := τ) c) -∗ Q ⟨⟩) -∗ wp frame (wpE (defs₀ (F := F)) Variants.none (c : Thread nD τ) none) Set.univ (bodyAt0 t) Q) := by
  iintro H Hk
  iapply wp_wand $$ [H]
  · iapply (body_ok c t vx vw vs (fun _ => iprop(given₀ c vx vw vs ∗ (∃ g, ⌜Ends c vx vw vs g⌝ ∗ pt c main_v7 g) ∗ (∃ f0 f1 f2 f3 f4 f5 f6, scratch₀ c f0 f1 f2 f3 f4 f5 f6)
      ∗ sems₀ c ∗ own (τ := τ) c)) .rfl fo f0 f1 f2 f3 f4 f5 f6) $$ H
  iintro %u HQ
  iapply Hk
  iexact HQ

/-! ## The launch -/

variable (m : (ℓ : Loc nD τ sig) → Buf (Elt F) ℓ) (ρ : Dev nD → PrngReg)

/-- The kernel's own semaphores. -/
def osem0 : Fin 8 → SemLoc sig :=
  fun j => (![SemLoc.dma 0, SemLoc.dma 1, SemLoc.dma 2, SemLoc.dma 3, SemLoc.dma 4, SemLoc.dma 5, SemLoc.dma 6, SemLoc.dma 7] : Fin 8 → SemLoc sig) j
theorem ownSemFacts0 : Pipeline.OwnSemFacts (cfg0.spec) osem0 := by decide
theorem ownSems00_eq (c : Dev nD) :
    (Pipeline.ownSems0 (Ix := Unit) (Name := ℕ) (U := Pipeline.UD sig nD τ) (Lvl := ℕ) (Val := Elt F) (τ := τ) osem0 c : sProp 𝕄) = sems₀ c := by
  rw [Pipeline.ownSems0_eq_of_list c osem0 [0, 1, 2, 3, 4, 5, 6, 7] (by decide) (by decide)]; rfl

/-- The arrays it reads, -/
def H0 : Finset (Ref sig .tc) := {main_v5, main_v6, main_v2}
theorem H0_sub : H0 ⊆ Pipeline.restRefs sig (cfg0.spec) := by decide
theorem H0_eq (c : Dev nD) (W : (b : Ref sig .tc) → Buf (Elt F) ((c : Thread nD τ).loc b)) :
    (bigSep H0 fun b => ((c.tc : Thread nD τ).loc b) ↦{fullShare} W b : sProp 𝕄) = given₀ c (W main_v6) (W main_v2) (W main_v5) := by
  rw [BI.bigSep_eq_bigSepL_of_eq [main_v5, main_v6, main_v2] (by decide) (by decide)]; rfl

/-- and the array it writes. -/
def R0 : Finset (Ref sig .tc) := {main_v7}
theorem R0_sub : R0 ⊆ Pipeline.restRefs sig (cfg0.spec) \ H0 := by decide
theorem R0_eq (c : Dev nD) (W : (b : Ref sig .tc) → Buf (Elt F) ((c : Thread nD τ).loc b)) :
    (bigSep R0 fun b => ((c.tc : Thread nD τ).loc b) ↦{fullShare} W b : sProp 𝕄) = pt c main_v7 (W main_v7) := by
  rw [BI.bigSep_eq_bigSepL_of_eq [main_v7] (by decide) (by decide)]; rfl

theorem owned_eq (c : Dev nD) : (Pipeline.owned R0 c : sProp 𝕄) = iprop(∃ f, pt c main_v7 f) := by
  unfold Pipeline.owned
  rw [BI.bigSep_eq_bigSepL_of_eq [main_v7] (by decide) (by decide)]; rfl

/-- The scratch buffers at some contents. -/
abbrev someScratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f)
    ∗ (∃ f, pt c cc0_scratch5 f) ∗ (∃ f, pt c cc0_scratch6 f))

/-- Before the call and after it: the result at contents `P` allows, and `X` beside. -/
def around (c : Dev nD) (X : sProp 𝕄) (P : Buf (Elt F) ((c : Thread nD τ).loc main_v7) → Prop) : sProp 𝕄 :=
  iprop(someScratch c ∗ X ∗ sems₀ c ∗ given₀ c (V m c main_v6) (V m c main_v2) (V m c main_v5) ∗ (∃ g, ⌜P g⌝ ∗ pt c main_v7 g))

variable (X : Dev nD → sProp (MT nD τ sig Unit (Elt F) ℕ (Pipeline.UD sig nD τ) ℕ))

/-- What the result may hold at a point. -/
def allowed (c : Dev nD) (t : Fin (cfg0.N + 1)) : Buf (Elt F) ((c : Thread nD τ).loc main_v7) → Prop :=
  if t.val = 0 then fun _ => True else Ends c (V m c main_v6) (V m c main_v2) (V m c main_v5)

/-- The proof's data. -/
def dats (_ : Fin 1) (c : Dev nD) : Dat τ (Elt F) Unit ℕ (Pipeline.UD sig nD τ) ℕ cfg0 c where
  A w := w.elim0
  after w _ := w.elim0
  Φ t := around m c (X c) (allowed m c t)
  q _ := fullShare
  owed _ := 0

theorem A_eq (c : Dev nD) (w : Fin cfg0.W) : (dats m X 0 c).A w = V m c (Pipeline.arrRef (cfg0.spec) w) := w.elim0

def bodyPre (c : Dev nD) (t : Fin cfg0.N) : sProp 𝕄 :=
  iprop((dats m X 0 c).Φ t.castSucc ∗ (dats m X 0 c).owesAt () t.castSucc)
def bodyPost (c : Dev nD) (t : Fin cfg0.N) : sProp 𝕄 :=
  iprop((dats m X 0 c).Φ t.succ ∗ (dats m X 0 c).owesAt () t.succ)

theorem sound_body (c : Dev nD) (t : Fin cfg0.N) :
    bodyPre m X c t ⊢ wp frame (wpE (defs₀ (F := F)) Variants.none (c : Thread nD τ) none) Set.univ (bodyAt0 t) (fun _ => bodyPost m X c t) := by
  unfold bodyPre bodyPost
  rw [show (dats m X 0 c).Φ t.castSucc = around m c (X c) (allowed m c t.castSucc) from rfl,
    show (dats m X 0 c).Φ t.succ = around m c (X c) (Ends c (V m c main_v6) (V m c main_v2) (V m c main_v5)) from
      congrArg (around m c (X c)) (if_neg (Nat.succ_ne_zero _))]
  unfold Dat.owesAt Pipeline.owesWithin around
  rw [show (dats m X 0 c).owed t.castSucc = 0 from rfl, show (dats m X 0 c).owed t.succ = 0 from rfl]
  iintro ⟨⟨⟨⟨%f0, H0⟩, ⟨%f1, H1⟩, ⟨%f2, H2⟩, ⟨%f3, H3⟩, ⟨%f4, H4⟩, ⟨%f5, H5⟩, ⟨%f6, H6⟩⟩, HX, Hq, Hg, ⟨%fo, -, Ho⟩⟩, ⟨%W, -, HW⟩⟩
  iapply (body_wp c t (V m c main_v6) (V m c main_v2) (V m c main_v5) fo f0 f1 f2 f3 f4 f5 f6) $$ [H0 H1 H2 H3 H4 H5 H6 Hg Ho Hq HW]
  · isplitl [Hg]; iexact Hg
    isplitl [Ho]; iexact Ho
    isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [Hq]; iexact Hq
    unfold Str.own
    iexists W; iexact HW
  iintro ⟨Hg, Ho, ⟨%e0, %e1, %e2, %e3, %e4, %e5, %e6, H0, H1, H2, H3, H4, H5, H6⟩, Hq, HW⟩
  unfold Str.own
  icases HW with ⟨%W', HW⟩
  isplitr [HW]
  · isplitl [H0 H1 H2 H3 H4 H5 H6]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    isplitl [HX]; iexact HX
    isplitl [Hq]; iexact Hq
    isplitl [Hg]; iexact Hg
    iexact Ho
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem noWindows (Ψ : Fin cfg0.W → sProp 𝕄) : bigSep Finset.univ Ψ = (BI.emp : sProp 𝕄) := by
  rw [show (Finset.univ : Finset (Fin cfg0.W)) = ∅ from rfl, BI.bigSep_empty]

theorem body_obligation (c : Dev nD) : BodyObligation (dats m X 0 c) (defs₀ (F := F)) Variants.none () Set.univ := fun t => by
  rw [noWindows, noWindows, defs₀_row]
  exact triple_restated (sound_body m X c t) rfl
    (by unfold bodyPre; iintro ⟨H1, H2, -⟩; isplitl [H1]; iexact H1; iexact H2)
    (fun _ => by unfold bodyPost; iintro ⟨H1, H2⟩; isplitl [H1]; iexact H1; isplitl [H2]; iexact H2; iempintro)

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

theorem hT : ∀ ops ∈ ([hostOps1] : List (List (HloOp τ sig (Elt F)))), ∀ op ∈ ops, ∀ b : Ref sig .tc, Proc.devRef .tc b ∈ op.writes → b ∈ ({main_v8} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.unary_writes, Finset.mem_singleton] at hb
  rw [Finset.mem_singleton]
  by_contra h
  exact StableHlo.devRef_ne_of_ne h hb

theorem enter (c : Dev nD) : Pipeline.ΦDR osem0 (cfg0.spec) H0 R0 (V m) c ⊢ (dats m (fun c => iprop(∃ r, prngReg c r)) 0 c).Φ 0 := by
  rw [show (dats m (fun c => iprop(∃ r, prngReg c r)) 0 c).Φ 0 = around m c (iprop(∃ r, prngReg c r)) (fun _ => True) from congrArg (around m c _) (if_pos rfl),
    Pipeline.ΦDR_eq, scopedRest0_eq, ownSems00_eq, H0_eq]
  rw [owned_eq]
  unfold around
  iintro ⟨H1, H2, H3, H4, ⟨%g, H5⟩⟩
  isplitl [H1]; iexact H1
  isplitl [H2]; iexact H2
  isplitl [H3]; iexact H3
  isplitl [H4]; iexact H4
  iexists g
  isplitr
  · ipureintro; trivial
  iexact H5

theorem leave (c : Dev nD) : (dats m (fun c => iprop(∃ r, prngReg c r)) 0 c).Φ (Fin.last _) ⊢ Pipeline.ΦDR osem0 (cfg0.spec) H0 R0 (V m) c := by
  rw [show (dats m (fun c => iprop(∃ r, prngReg c r)) 0 c).Φ (Fin.last _) = around m c (iprop(∃ r, prngReg c r)) (allowed m c (Fin.last _)) from rfl,
    Pipeline.ΦDR_eq, scopedRest0_eq, ownSems00_eq, H0_eq]
  rw [owned_eq]
  unfold around
  iintro ⟨H1, H2, H3, H4, ⟨%g, -, H5⟩⟩
  isplitl [H1]; iexact H1
  isplitl [H2]; iexact H2
  isplitl [H3]; iexact H3
  isplitl [H4]; iexact H4
  iexists g
  iexact H5

set_option backward.isDefEq.respectTransparency.types false in
theorem run_main : θ_run defs (onTc (τ := τ) (main (F := F))) (s₀ m ρ)
    (fun r => Pipeline.FramePostR cfgs (dats m (fun c => iprop(∃ r, prngReg c r))) 0 (R0 ∪ {main_v8}) (V m) r ∧ r.2.sem = fun _ => 0) :=
  Pipeline.θ_run_frame_dmaR_around (Q' := _) cfgs (dats m _) (0 : Fin 1) launch0 osem0 defs₀ Variants.none ownSemFacts0 H0 R0 {main_v8} H0_sub R0_sub m ρ main
    (hbody := fun c => (body_obligation m _ c).loose) (hshare := fun c w => w.elim0)
    (howed := fun _ _ => rfl) (V₀ := V0 m) (opss := [hostOps1]) (hsub := sfx_sub) (hfresh := sfx_fresh) (hkeep := sfx_keeps) (hT := hT)
    (hmain := hmainD m Variants.none) (hA := A_eq m _)
    (hin := enter m) (hout := leave m)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩, h.2⟩)
    (run_main m ρ)

end Cert.Proof.KB
end
-- ==== Proof.Ref.lean ====
/-
  The reference's run: what its result buffer holds, as a term over its three arguments.
-/
module

public import proofs.«01_k».proof.Proof.Gen.ReferenceIdeal
public import Idealize.ShloMosaic.Lib.Claim

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- A word that holds a number below 16, as the bf16 of that number read as four signed bits. -/
def signed (v : IVec S22544384 32) : FVec F S22544384 .bf16 :=
  sitofp .bf16 (subi v (muli (broadcastInDim S22544384 ![] bcast_S_S22544384 (constantI S_ 32 16#32))
    (extui 32 (cmpi .sge v (broadcastInDim S22544384 ![] bcast_S_S22544384 (constantI S_ 32 8#32))) natLt_1_32)))

/-- The weights of one nibble of every byte: the signed number times its block's scale, as a 4096 × 5504 matrix. -/
def weights (v : IVec S22544384 32) (s : FVec F S22016 .f32) : FVec F S4096x5504 .bf16 :=
  shapeCast S4096x5504 (mulf (shapeCast S22016x1024 (signed v) shapeCasts_S22544384_S22016x1024)
    (broadcastInDim S22016x1024 ![0, 1] bcast_S22016x1_S22016x1024_0_1
      (broadcastInDim S22016x1 ![0] bcast_S22016_S22016x1_0 (truncf .bf16 s bitsLt_bf16_f32)))) shapeCasts_S22016x1024_S4096x5504

/-- The even columns of the result come from the low nibbles, -/
def even (x : FVec F S1x128x4096 .bf16) (w : IVec S22544384 8) (s : FVec F S22016 .f32) : FVec F S1x128x5504 .f32 :=
  Host.dotGeneral dot_S1x128x4096_S4096x5504_S1x128x5504_2_0_01_1_n_n none x
    (weights (andi (extui 32 w natLt_8_32) (broadcastInDim S22544384 ![] bcast_S_S22544384 (constantI S_ 32 15#32))) s)

/-- and the odd columns from the high nibbles. -/
def odd (x : FVec F S1x128x4096 .bf16) (w : IVec S22544384 8) (s : FVec F S22016 .f32) : FVec F S1x128x5504 .f32 :=
  Host.dotGeneral dot_S1x128x4096_S4096x5504_S1x128x5504_2_0_01_1_n_n none x
    (weights (Host.shrsi (extui 32 w natLt_8_32) (broadcastInDim S22544384 ![] bcast_S_S22544384 (constantI S_ 32 4#32))) s)

/-- The reference's result: the two products, their columns taken in turn. -/
def out (x : FVec F S1x128x4096 .bf16) (w : IVec S22544384 8) (s : FVec F S22016 .f32) : FVec F S1x128x11008 .bf16 :=
  truncf .bf16 (shapeCast S1x128x11008
    (concatenate S1x128x5504x2 3
      [⟨S1x128x5504x1, broadcastInDim S1x128x5504x1 ![0, 1, 2] bcast_S1x128x5504_S1x128x5504x1_0_1_2 (even x w s)⟩,
       ⟨S1x128x5504x1, broadcastInDim S1x128x5504x1 ![0, 1, 2] bcast_S1x128x5504_S1x128x5504x1_0_1_2 (odd x w s)⟩]
      concatenates_S1x128x5504x1_S1x128x5504x1_S1x128x5504x2_d3) shapeCasts_S1x128x5504x2_S1x128x11008) bitsLt_bf16_f32

/-- Every run ends with the result buffer at `out` of the arguments, and the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v36)
            = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) := by
  hlo_run
  rfl

end Cert.Proof.Ref

end
-- ==== Proof.Preserves.lean ====
/-
  The rewrites between the two printings of the kernel, each by the rule's own proof.
-/
module

public import proofs.«01_k».proof.Defs
public import Idealize.ShloMosaic.Lib.Bf16Pair
public import Idealize.ShloMosaic.Lib.Bf16PairInverse

@[expose] public section

noncomputable section

namespace Cert.Proof

open Idealize.ShloMosaic

/-- The scale buffer read as bf16 pairs, the packed scale words, and the rows read back from words: one rule, five shapes. -/
theorem preserves : Cert.preserves_Kernel_KernelIdeal := by
  open Cert.KernelIdeal IdealRules.bf16_pair in
  exact ⟨bufferStatement S2048x2x128 S2048x1x128, packStatement S128x128, statement S128x2x128 S128x1x128,
    statement S32x2x128 S32x1x128, statement S64x128 S32x128⟩

end Cert.Proof

end
-- ==== Proof.Val.Base.lean ====
/-
  Matrices read at numbers, and the numbers the weights are made of.
-/
module

public import proofs.«01_k».proof.Proof.KI.Frame
public import Idealize.ShloMosaic.Lib.Pointwise

@[expose] public section

noncomputable section

namespace Cert.Proof.Val

open Idealize.ShloMosaic Idealize.ShloMosaic.TcCoe Idealize.SL.Sem

/-- Nibble `q` of a byte as a signed number of 32 bits. -/
def nibOf (q : ℕ) (b : BitVec 8) : BitVec 32 := (b.extractLsb' (4 * q) 4).signExtend 32

/-- Byte `b` of a word. -/
def byteOf (b : ℕ) (w : BitVec 32) : BitVec 8 := w.extractLsb' (8 * b) 8

/-- An array read at numbers. -/
def at1 {a : ℕ} [NeZero a] {α : Type} (x : (⟨1, ![a]⟩ : Shape).Idx → α) (i : ℕ) : α := x (ix1 (Fin.ofNat a i))
def at2 {a b : ℕ} [NeZero a] [NeZero b] {α : Type} (x : (⟨2, ![a, b]⟩ : Shape).Idx → α) (i j : ℕ) : α := x (ix2 (Fin.ofNat a i) (Fin.ofNat b j))
def at3 {a b c : ℕ} [NeZero a] [NeZero b] [NeZero c] {α : Type} (x : (⟨3, ![a, b, c]⟩ : Shape).Idx → α) (i j k : ℕ) : α :=
  x (ix3 (Fin.ofNat a i) (Fin.ofNat b j) (Fin.ofNat c k))

theorem ofNat_val {n : ℕ} [NeZero n] (i : Fin n) : Fin.ofNat n i.val = i := Fin.ext (Nat.mod_eq_of_lt i.isLt)
theorem ofNat_of_eq {n : ℕ} [NeZero n] (i : Fin n) (k : ℕ) (h : i.val = k) : Fin.ofNat n k = i := h ▸ ofNat_val i

theorem at1_of {a : ℕ} [NeZero a] {α : Type} (x : (⟨1, ![a]⟩ : Shape).Idx → α) (p : (⟨1, ![a]⟩ : Shape).Idx) (i : ℕ)
    (hi : (p 0).val = i) : x p = at1 x i := by
  unfold at1; congr 1; funext c; match c with
  | ⟨0, _⟩ => exact (ofNat_of_eq (n := a) (p 0) _ hi).symm
theorem at2_of {a b : ℕ} [NeZero a] [NeZero b] {α : Type} (x : (⟨2, ![a, b]⟩ : Shape).Idx → α) (p : (⟨2, ![a, b]⟩ : Shape).Idx) (i j : ℕ)
    (hi : (p 0).val = i) (hj : (p 1).val = j) : x p = at2 x i j := by
  unfold at2; congr 1; funext c; match c with
  | ⟨0, _⟩ => exact (ofNat_of_eq (n := a) (p 0) _ hi).symm
  | ⟨1, _⟩ => exact (ofNat_of_eq (n := b) (p 1) _ hj).symm
theorem at3_of {a b d : ℕ} [NeZero a] [NeZero b] [NeZero d] {α : Type} (x : (⟨3, ![a, b, d]⟩ : Shape).Idx → α)
    (p : (⟨3, ![a, b, d]⟩ : Shape).Idx) (i j k : ℕ) (hi : (p 0).val = i) (hj : (p 1).val = j) (hk : (p 2).val = k) : x p = at3 x i j k := by
  unfold at3; congr 1; funext c; match c with
  | ⟨0, _⟩ => exact (ofNat_of_eq (n := a) (p 0) _ hi).symm
  | ⟨1, _⟩ => exact (ofNat_of_eq (n := b) (p 1) _ hj).symm
  | ⟨2, _⟩ => exact (ofNat_of_eq (n := d) (p 2) _ hk).symm

/-- Where row `i` of pass `kt` of chunk residue `v` comes from. -/
def kOf (v kt i : ℕ) : ℕ := 256 * kt + 8 * (i / 8) + 4 * (i % 2) + (v + 4 - i % 8 / 2) % 4

theorem kOf_lt (v kt i : ℕ) (hk : kt < 16) (hi : i < 256) : kOf v kt i < 4096 := by unfold kOf; omega

end Cert.Proof.Val
end
-- ==== Proof.Val.Nib.lean ====
/-
  The nibbles of two words that exchange theirs.
-/
module

public import proofs.«01_k».proof.Proof.Val.Base
public import Idealize.ShloMosaic.Lib.Pointwise
public import Idealize.ShloMosaic.Lib.BitcastPair

@[expose] public section

noncomputable section

namespace Cert.Proof.Val

open Cert.KernelIdeal Cert.KernelIdeal.Gen Cert.Proof.Str
open Idealize.ShloMosaic Idealize.ShloMosaic.TcCoe Idealize.SL.Sem

theorem nibOf_bit (p : ℕ) (hp : p < 2) (b : BitVec 8) (j : ℕ) (hj : j < 32) : (nibOf p b).getLsbD j = b.getLsbD (4 * p + min j 3) := by
  unfold nibOf
  rw [BitVec.getLsbD_signExtend, BitVec.msb_eq_getLsbD_last]
  by_cases h : j < 4
  · rw [if_pos h, BitVec.getLsbD_extractLsb', show min j 3 = j by omega]
    simp [h, hj]
  · rw [if_neg h, BitVec.getLsbD_extractLsb', show min j 3 = 3 by omega]
    simp [hj]

theorem cut_bit (E : BitVec 32) (i : ℕ) (hi : i < 8) (j : ℕ) (hj : j < 32) :
    ((E <<< (28 - 4 * i)).sshiftRight 28).getLsbD j = E.getLsbD (4 * i + min j 3) := by
  rw [BitVec.getLsbD_sshiftRight, BitVec.msb_eq_getLsbD_last]
  by_cases h : j < 4
  · rw [if_pos (by omega), BitVec.getLsbD_shiftLeft, show min j 3 = j by omega, show 28 + j - (28 - 4 * i) = 4 * i + j by omega]
    have h1 : ¬ (32 ≤ j) := by omega
    have h2 : 28 + j < 32 := by omega
    have h3 : ¬ (28 + j < 28 - 4 * i) := by omega
    simp [h1, h2, h3]
  · rw [if_neg (by omega), BitVec.getLsbD_shiftLeft, show min j 3 = 3 by omega, show 32 - 1 - (28 - 4 * i) = 4 * i + 3 by omega]
    have h1 : ¬ (32 ≤ j) := by omega
    have h3 : ¬ (32 - 1 < 28 - 4 * i) := by omega
    simp [h1, h3]

theorem maskN_bit : ∀ q : Fin 32, (252645135#32).getLsbD q.val = decide (q.val % 8 < 4) := by decide

def evenW (a b : BitVec 32) : BitVec 32 := (((a >>> 4) ^^^ b) &&& 252645135#32) <<< 4 ^^^ a
def oddW (a b : BitVec 32) : BitVec 32 := (((a >>> 4) ^^^ b) &&& 252645135#32) ^^^ b

theorem evenW_bit (a b : BitVec 32) (q : ℕ) (hq : q < 32) :
    (evenW a b).getLsbD q = if q % 8 < 4 then a.getLsbD q else b.getLsbD (q - 4) := by
  unfold evenW
  rw [BitVec.getLsbD_xor, BitVec.getLsbD_shiftLeft, BitVec.getLsbD_and, BitVec.getLsbD_xor, BitVec.getLsbD_ushiftRight]
  by_cases h4 : q < 4
  · have : q % 8 < 4 := by omega
    simp [h4, this]
  · rw [maskN_bit ⟨q - 4, by omega⟩, show 4 + (q - 4) = q by omega]
    by_cases h : q % 8 < 4
    · have h' : ¬ ((q - 4) % 8 < 4) := by omega
      simp [h, h', h4]
    · have h' : (q - 4) % 8 < 4 := by omega
      simp only [h, h', h4, hq, decide_true, decide_false, if_false, Bool.and_true, Bool.not_false, Bool.true_and]
      cases a.getLsbD q <;> cases b.getLsbD (q - 4) <;> rfl

theorem oddW_bit (a b : BitVec 32) (q : ℕ) (hq : q < 32) :
    (oddW a b).getLsbD q = if q % 8 < 4 then a.getLsbD (q + 4) else b.getLsbD q := by
  unfold oddW
  rw [BitVec.getLsbD_xor, BitVec.getLsbD_and, BitVec.getLsbD_xor, BitVec.getLsbD_ushiftRight, maskN_bit ⟨q, hq⟩, show 4 + q = q + 4 by omega]
  by_cases h : q % 8 < 4
  · simp only [h, decide_true, if_true, Bool.and_true]
    cases a.getLsbD (q + 4) <;> cases b.getLsbD q <;> rfl
  · simp [h]

/-- The nibbles that the exchange of two words gives, cut out with their signs. -/
theorem even_nib (a b : BitVec 32) (i : ℕ) (hi : i < 8) :
    (evenW a b <<< (28 - 4 * i)).sshiftRight 28 = nibOf 0 (byteOf (i / 2) (if i % 2 = 0 then a else b)) := by
  refine BitVec.eq_of_getLsbD_eq fun j hj => ?_
  rw [cut_bit _ i hi j hj, evenW_bit _ _ _ (by omega), nibOf_bit 0 (by omega) _ j hj]
  unfold byteOf
  rw [BitVec.getLsbD_extractLsb']
  have h8 : 4 * 0 + min j 3 < 8 := by omega
  simp only [h8, decide_true, Bool.true_and]
  by_cases h : i % 2 = 0
  · rw [if_pos h, if_pos (by omega)]; congr 1; omega
  · rw [if_neg h, if_neg (by omega)]; congr 1; omega

theorem odd_nib (a b : BitVec 32) (i : ℕ) (hi : i < 8) :
    (oddW a b <<< (28 - 4 * i)).sshiftRight 28 = nibOf 1 (byteOf (i / 2) (if i % 2 = 0 then a else b)) := by
  refine BitVec.eq_of_getLsbD_eq fun j hj => ?_
  rw [cut_bit _ i hi j hj, oddW_bit _ _ _ (by omega), nibOf_bit 1 (by omega) _ j hj]
  unfold byteOf
  rw [BitVec.getLsbD_extractLsb']
  have h8 : 4 * 1 + min j 3 < 8 := by omega
  simp only [h8, decide_true, Bool.true_and]
  by_cases h : i % 2 = 0
  · rw [if_pos h, if_pos (by omega)]; congr 1; omega
  · rw [if_neg h, if_neg (by omega)]; congr 1; omega

end Cert.Proof.Val
end
-- ==== Proof.Val.Mem.lean ====
/-
  The buffers read and written at numbers.
-/
module

public import proofs.«01_k».proof.Proof.Val.Base
public import Idealize.ShloMosaic.Lib.Pipeline.Value

@[expose] public section

noncomputable section

namespace Cert.Proof.Val

open Cert.KernelIdeal Cert.KernelIdeal.Gen Cert.Proof.Str Cert.Proof.KI
open Idealize.ShloMosaic Idealize.ShloMosaic.TcCoe Idealize.SL.Sem

/-- The scratch buffers at the ideal numbers. -/
abbrev BI : Bufs sig Ideal := B₀ (F := Ideal)

theorem rdW_at (fw : S44032x128.Idx → BitVec 32) (a : At) (n : ℕ) (h : n ≤ a.top) (s : Fin 8) (l : Fin 128) (R : ℕ) (hR : a.off n = ![R, 0]) :
    rdW (B := BI) fw a n (ix2 s l) = at2 fw (R + 86 * s.val) l.val := by
  unfold rdW
  rw [dif_pos h]
  refine at2_of fw _ _ _ ?_ ?_
  · show a.off n 0 + 86 * s.val = _; rw [hR]; rfl
  · show a.off n 1 + 1 * l.val = _; rw [hR]; show 0 + 1 * l.val = _; omega

theorem rdX_at (fx : S4x128x4096.Idx → EReal) (v kt : ℕ) (hv : v < 4) (hk : kt < 16) (r : Fin 128) (i : Fin 256) :
    rdX (B := BI) fx v kt (ix3 0 r i) = at3 fx v r.val (256 * kt + i.val) := by
  unfold rdX
  rw [dif_pos ⟨hv, hk⟩]
  refine at3_of fx _ _ _ _ ?_ ?_ ?_
  · show v + 1 * 0 = _; omega
  · show 0 + 1 * r.val = _; omega
  · show 256 * kt + 1 * i.val = _; omega

theorem sumOf_at (x : S1x1x128x128.Idx → EReal) (r l : Fin 128) : sumOf (F := Ideal) x (ix2 r l) = x (ix4 0 0 r l) := by
  pointwise [sumOf]

/-- The running sums read at an index. -/
theorem rdA_at (m : Mem BI) (o : AccAt) (C H : ℕ) (ho : o.off = ![C, H, 0, 0]) (c : Fin 43) (h : Fin 2) (hc : c.val = C) (hh : h.val = H) (r l : Fin 128) :
    sumOf (rdA m o) (ix2 r l) = (m.a : S43x2x128x128.Idx → EReal) (ix4 c h r l) := by
  refine (sumOf_at _ r l).trans ?_
  unfold rdA
  show (m.a : S43x2x128x128.Idx → EReal) _ = _
  congr 1
  funext d
  match d with
  | ⟨0, _⟩ => exact Fin.ext (by show o.off 0 + 1 * 0 = c.val; rw [ho, hc]; rfl)
  | ⟨1, _⟩ => exact Fin.ext (by show o.off 1 + 1 * 0 = h.val; rw [ho, hh]; rfl)
  | ⟨2, _⟩ => exact Fin.ext (by show o.off 2 + 1 * r.val = r.val; rw [ho]; show 0 + 1 * r.val = _; omega)
  | ⟨3, _⟩ => exact Fin.ext (by show o.off 3 + 1 * l.val = l.val; rw [ho]; show 0 + 1 * l.val = _; omega)

theorem cast4_at {α : Type} (v : S128x128.Idx → α) (r l : Fin 128) :
    shapeCast S1x1x128x128 v shapeCasts_S128x128_S1x1x128x128 (ix4 0 0 r l) = v (ix2 r l) := by pointwise

/-- A block written into a whole buffer, inside the block and outside of it. -/
theorem put_in (b : Ref sig .tc) (r : Rect b.ty.shape) (f : b.ty.Contents (Elt Ideal)) (w : r.shape.Idx → Elt Ideal b.ty.elt) (x : r.shape.Idx) :
    ((View.whole b).slice r).write (Elt Ideal) f w Finset.univ (r.emb x) = w x :=
  View.read_slice_write_emb (v := View.whole b) r f w (Finset.mem_univ x)

theorem put_out (b : Ref sig .tc) (r : Rect b.ty.shape) (f : b.ty.Contents (Elt Ideal)) (w : r.shape.Idx → Elt Ideal b.ty.elt) (y : b.ty.shape.Idx)
    (h : ∀ x, r.emb x ≠ y) : ((View.whole b).slice r).write (Elt Ideal) f w Finset.univ y = f y :=
  View.read_slice_write_of_not_mem (v := View.whole b) r f w Finset.univ (by
    intro hm
    obtain ⟨x, -, hx⟩ := Finset.mem_map.mp hm
    exact h x hx)

theorem emb4 (off : Fin 4 → ℕ) (inb) (C H : ℕ) (ho : off = ![C, H, 0, 0]) (c : Fin 43) (h : Fin 2) (hc : c.val = C) (hh : h.val = H) (r l : Fin 128) :
    (ix4 c h r l : S43x2x128x128.Idx) = (Rect.unit (s := S43x2x128x128) off S1x1x128x128.size inb).emb (ix4 0 0 r l : S1x1x128x128.Idx) := by
  subst ho
  funext d
  match d with
  | ⟨0, _⟩ => exact Fin.ext (by show c.val = C + 1 * 0; omega)
  | ⟨1, _⟩ => exact Fin.ext (by show h.val = H + 1 * 0; omega)
  | ⟨2, _⟩ => exact Fin.ext (by show r.val = 0 + 1 * r.val; omega)
  | ⟨3, _⟩ => exact Fin.ext (by show l.val = 0 + 1 * l.val; omega)

theorem emb4_ne (off : Fin 4 → ℕ) (inb) (C H : ℕ) (ho : off = ![C, H, 0, 0]) (c : Fin 43) (h : Fin 2) (hc : ¬ (c.val = C ∧ h.val = H)) (r l : Fin 128)
    (x : S1x1x128x128.Idx) : (Rect.unit (s := S43x2x128x128) off S1x1x128x128.size inb).emb x ≠ (ix4 c h r l : S43x2x128x128.Idx) := by
  subst ho
  intro hx
  have h0 : C + 1 * (x (0 : Fin 4)).val = c.val := congrArg Fin.val (congrFun hx (0 : Fin 4))
  have h1 : H + 1 * (x (1 : Fin 4)).val = h.val := congrArg Fin.val (congrFun hx (1 : Fin 4))
  have x0 : (x (0 : Fin 4)).val < 1 := (x (0 : Fin 4)).isLt
  have x1 : (x (1 : Fin 4)).val < 1 := (x (1 : Fin 4)).isLt
  exact hc ⟨by omega, by omega⟩

theorem putA (off : Fin 4 → ℕ) (inb) (C H : ℕ) (ho : off = ![C, H, 0, 0]) (f : S43x2x128x128.Idx → EReal) (w : S1x1x128x128.Idx → EReal)
    (c : Fin 43) (h : Fin 2) (r l : Fin 128) :
    (((View.whole cc0_scratch5).slice (Rect.unit (s := S43x2x128x128) off S1x1x128x128.size inb)).write (Elt Ideal) f w Finset.univ : S43x2x128x128.Idx → EReal) (ix4 c h r l)
      = if c.val = C ∧ h.val = H then w (ix4 0 0 r l) else f (ix4 c h r l) := by
  by_cases hc : c.val = C ∧ h.val = H
  · rw [if_pos hc, emb4 off inb C H ho c h hc.1 hc.2 r l]
    exact put_in cc0_scratch5 (Rect.unit (s := S43x2x128x128) off S1x1x128x128.size inb) f w (ix4 0 0 r l : S1x1x128x128.Idx)
  · rw [if_neg hc]
    exact put_out cc0_scratch5 (Rect.unit (s := S43x2x128x128) off S1x1x128x128.size inb) f w _ (emb4_ne off inb C H ho c h hc r l)

theorem putO (off : Fin 4 → ℕ) (inb) (C H : ℕ) (ho : off = ![C, H, 0, 0]) (f : S43x2x128x128.Idx → EReal) (w : S1x1x128x128.Idx → EReal)
    (c : Fin 43) (h : Fin 2) (r l : Fin 128) :
    (((View.whole cc0_scratch6).slice (Rect.unit (s := S43x2x128x128) off S1x1x128x128.size inb)).write (Elt Ideal) f w Finset.univ : S43x2x128x128.Idx → EReal) (ix4 c h r l)
      = if c.val = C ∧ h.val = H then w (ix4 0 0 r l) else f (ix4 c h r l) := by
  by_cases hc : c.val = C ∧ h.val = H
  · rw [if_pos hc, emb4 off inb C H ho c h hc.1 hc.2 r l]
    exact put_in cc0_scratch6 (Rect.unit (s := S43x2x128x128) off S1x1x128x128.size inb) f w (ix4 0 0 r l : S1x1x128x128.Idx)
  · rw [if_neg hc]
    exact put_out cc0_scratch6 (Rect.unit (s := S43x2x128x128) off S1x1x128x128.size inb) f w _ (emb4_ne off inb C H ho c h hc r l)

end Cert.Proof.Val
end
-- ==== Proof.Val.Zs.lean ====
/-
  The scales laid out for the passes.
-/
module

public import proofs.«01_k».proof.Proof.Val.Mem
public import Idealize.ShloMosaic.Lib.MatmulPlain

@[expose] public section

noncomputable section

namespace Cert.Proof.Val

open Cert.KernelIdeal Cert.KernelIdeal.Gen Cert.Proof.Str Cert.Proof.KI
open Idealize.ShloMosaic Idealize.ShloMosaic.TcCoe Idealize.SL.Sem

theorem wrap_ok : ∀ n : Fin 128, Scalar.select (IntOp.cmpi .slt (BitVec.ofNat 32 n.val) 0#32) (IntOp.addi (BitVec.ofNat 32 n.val) 128#32) (BitVec.ofNat 32 n.val)
    = BitVec.ofNat 32 n.val := by decide +kernel

theorem prod_at (x : FVec Ideal S128x256 .bf16) (t : FVec Ideal S256x256 .bf16) (r : Fin 128) (L : Fin 256) :
    prod x t (ix2 r L) = ∑ k : Fin 256, x (ix2 r k) * t (ix2 k L) := by
  refine (zero_add _).symm.trans ?_
  exact (Ideal.matmul_plain_apply (M := 128) (K := 256) (N := 256) none x t (fun _ => 0) r L).trans (zero_add _)

theorem rdS_at (fs : S512x256.Idx → EReal) (i : Fin 4) (a : Fin 128) (k : Fin 256) :
    rdS (B := BI) fs i (ix2 a k) = at2 fs (128 * i.val + a.val) k.val := by
  unfold rdS
  refine at2_of fs _ _ _ ?_ ?_
  · show 128 * i.val + 1 * a.val = _; omega
  · show 0 + 1 * k.val = _; omega

theorem halves_at (v : FVec Ideal S128x256 .f32) (p : Fin 2) (a n : Fin 128) :
    (if p.val = 0 then evenHalf v (ix2 a n) else oddHalf v (ix2 a n)) = v (ix2 a ⟨128 * p.val + n.val, by omega⟩) := by
  by_cases hp : p.val = 0
  · rw [if_pos hp]
    show v _ = v _
    congr 1
    funext d
    match d with
    | ⟨0, _⟩ => exact Fin.ext (by show 0 + a.val = a.val; omega)
    | ⟨1, _⟩ => exact Fin.ext (by show 0 + n.val = 128 * p.val + n.val; omega)
  · rw [if_neg hp]
    show v _ = v _
    congr 1
    funext d
    match d with
    | ⟨0, _⟩ => exact Fin.ext (by show 0 + a.val = a.val; omega)
    | ⟨1, _⟩ => exact Fin.ext (by show 128 + n.val = 128 * p.val + n.val; omega)

theorem pack_at (lo hi : FVec Ideal S128x128 .f32) (i : Fin 16) (a : Fin 128) (p : Fin 2) (n : Fin 128) :
    (BI.z.pack i lo hi : S128x2x128.Idx → EReal) (ix3 a p n) = if p.val = 0 then lo (ix2 a n) else hi (ix2 a n) := by
  show interleaveRows S128x2x128 (shapeCast S128x1x128 (truncf (F := Ideal) .bf16 lo bitsLt_bf16_f32) shapeCasts_S128x128_S128x1x128)
    (shapeCast S128x1x128 (truncf (F := Ideal) .bf16 hi bitsLt_bf16_f32) shapeCasts_S128x128_S128x1x128) bitcasts_S128x2x128_w16_S128x1x128_w32 (ix3 a p n) = _
  have e : ∀ (v : FVec Ideal S128x128 .f32) (q : S128x1x128.Idx), (q 0).val = a.val → (q 2).val = n.val →
      shapeCast S128x1x128 (truncf (F := Ideal) .bf16 v bitsLt_bf16_f32) shapeCasts_S128x128_S128x1x128 q = v (ix2 a n) := by
    intro v q h0 h2
    have hq : q = ix3 a 0 n := by
      funext d
      match d with
      | ⟨0, _⟩ => exact Fin.ext h0
      | ⟨1, _⟩ => exact Fin.ext (by have : (q 1).val < 1 := (q 1).isLt; show (q 1).val = 0; omega)
      | ⟨2, _⟩ => exact Fin.ext h2
    subst hq
    pointwise
  unfold interleaveRows
  have hr : (S128x2x128.row (ix3 a p n)) = p.val := rfl
  dsimp only
  rw [hr]
  by_cases hp : p.val = 0
  · rw [if_pos (by omega), if_pos hp]
    exact e lo _ rfl rfl
  · rw [if_neg (by omega), if_neg hp]
    exact e hi _ rfl rfl

theorem zPut_at (fz : S2048x2x128.Idx → EReal) (i : Fin 16) (v : FVec Ideal S128x256 .f32) (R : Fin 2048) (p : Fin 2) (n : Fin 128) :
    (zPut (B := BI) fz i v : S2048x2x128.Idx → EReal) (ix3 R p n)
      = if R.val / 512 = i.val % 4 ∧ R.val % 4 = i.val / 4 then v (ix2 ⟨R.val % 512 / 4, by omega⟩ ⟨128 * p.val + n.val, by omega⟩) else fz (ix3 R p n) := by
  by_cases h : R.val / 512 = i.val % 4 ∧ R.val % 4 = i.val / 4
  · rw [if_pos h]
    have hy : (ix3 R p n : S2048x2x128.Idx) = (BI.z.wr i).emb (ix3 ⟨R.val % 512 / 4, by omega⟩ p n : S128x2x128.Idx) := by
      funext d
      match d with
      | ⟨0, _⟩ => exact Fin.ext (by show R.val = 512 * (i.val % 4) + i.val / 4 + 4 * (R.val % 512 / 4); omega)
      | ⟨1, _⟩ => exact Fin.ext (by show p.val = 0 + 1 * p.val; omega)
      | ⟨2, _⟩ => exact Fin.ext (by show n.val = 0 + 1 * n.val; omega)
    refine (congrArg (zPut (B := BI) fz i v : S2048x2x128.Idx → EReal) hy).trans ?_
    refine (put_in cc0_scratch3 (BI.z.wr i) fz (BI.z.pack i (evenHalf v) (oddHalf v)) (ix3 ⟨R.val % 512 / 4, by omega⟩ p n : S128x2x128.Idx)).trans ?_
    refine (pack_at _ _ i _ p n).trans (halves_at v p _ n)
  · rw [if_neg h]
    refine put_out cc0_scratch3 (BI.z.wr i) fz (BI.z.pack i (evenHalf v) (oddHalf v)) (ix3 R p n) ?_
    intro x hx
    have h0 : 512 * (i.val % 4) + i.val / 4 + 4 * (x (0 : Fin 3)).val = R.val := congrArg Fin.val (congrFun hx (0 : Fin 3))
    have x0 : (x (0 : Fin 3)).val < 128 := (x (0 : Fin 3)).isLt
    have := i.isLt
    exact h ⟨by omega, by omega⟩

/-- One strided write, as a function of arrays. -/
def zP (fz : S2048x2x128.Idx → EReal) (i : Fin 16) (v : FVec Ideal S128x256 .f32) : S2048x2x128.Idx → EReal := zPut (B := BI) fz i v

theorem zP_at (fz : S2048x2x128.Idx → EReal) (i : Fin 16) (v : FVec Ideal S128x256 .f32) (R : Fin 2048) (p : Fin 2) (n : Fin 128) :
    zP fz i v (ix3 R p n)
      = if R.val / 512 = i.val % 4 ∧ R.val % 4 = i.val / 4 then v (ix2 ⟨R.val % 512 / 4, by omega⟩ ⟨128 * p.val + n.val, by omega⟩) else fz (ix3 R p n) :=
  zPut_at fz i v R p n

theorem zAll_at (fs : S512x256.Idx → EReal) (e : Fin 4 → FVec Ideal S256x256 .bf16) (fz : S2048x2x128.Idx → EReal)
    (G : Fin 512) (b : Fin 4) (p : Fin 2) (n : Fin 128) :
    (zAll (B := BI) fs e fz : S2048x2x128.Idx → EReal) (ix3 ⟨4 * G.val + b.val, by omega⟩ p n)
      = ∑ k : Fin 256, at2 fs G.val k.val * e b (ix2 k ⟨128 * p.val + n.val, by omega⟩) := by
  unfold zAll zRes
  obtain ⟨A, a, hA, hG⟩ : ∃ (A : Fin 4) (a : Fin 128), G.val / 128 = A.val ∧ G.val = 128 * A.val + a.val :=
    ⟨⟨G.val / 128, by omega⟩, ⟨G.val % 128, by omega⟩, rfl, by show _ = 128 * (G.val / 128) + G.val % 128; omega⟩
  have h1 : (4 * G.val + b.val) / 512 = A.val := by omega
  have h2 : (4 * G.val + b.val) % 4 = b.val := by omega
  have key : ∀ q : Fin 128, q.val = a.val → prod (rdS (B := BI) fs A) (e b) (ix2 q ⟨128 * p.val + n.val, by omega⟩)
      = ∑ k : Fin 256, at2 fs G.val k.val * e b (ix2 k ⟨128 * p.val + n.val, by omega⟩) := by
    intro q hq
    rw [prod_at]
    refine Finset.sum_congr rfl fun k _ => ?_
    rw [rdS_at, hG, hq]
  have hq : (4 * G.val + b.val) % 512 / 4 = a.val := by omega
  show (zP (zP (zP (zP (zP (zP (zP (zP (zP (zP (zP (zP (zP (zP (zP (zP fz 0 (prod (rdS (B := BI) fs 0) (e 0))) 1 (prod (rdS (B := BI) fs 1) (e 0))) 2 (prod (rdS (B := BI) fs 2) (e 0))) 3 (prod (rdS (B := BI) fs 3) (e 0))) 4 (prod (rdS (B := BI) fs 0) (e 1))) 5 (prod (rdS (B := BI) fs 1) (e 1))) 6 (prod (rdS (B := BI) fs 2) (e 1))) 7 (prod (rdS (B := BI) fs 3) (e 1))) 8 (prod (rdS (B := BI) fs 0) (e 2))) 9 (prod (rdS (B := BI) fs 1) (e 2))) 10 (prod (rdS (B := BI) fs 2) (e 2))) 11 (prod (rdS (B := BI) fs 3) (e 2))) 12 (prod (rdS (B := BI) fs 0) (e 3))) 13 (prod (rdS (B := BI) fs 1) (e 3))) 14 (prod (rdS (B := BI) fs 2) (e 3))) 15 (prod (rdS (B := BI) fs 3) (e 3))) (ix3 ⟨4 * G.val + b.val, by omega⟩ p n) = _
  rw [zP_at, zP_at, zP_at, zP_at, zP_at, zP_at, zP_at, zP_at, zP_at, zP_at, zP_at, zP_at, zP_at, zP_at, zP_at, zP_at]
  simp only [h1, h2]
  have hA4 : A = 0 ∨ A = 1 ∨ A = 2 ∨ A = 3 := (by decide : ∀ q : Fin 4, q = 0 ∨ q = 1 ∨ q = 2 ∨ q = 3) A
  have hb4 : b = 0 ∨ b = 1 ∨ b = 2 ∨ b = 3 := (by decide : ∀ q : Fin 4, q = 0 ∨ q = 1 ∨ q = 2 ∨ q = 3) b
  rcases hA4 with rfl | rfl | rfl | rfl <;> rcases hb4 with rfl | rfl | rfl | rfl <;> exact key _ hq

theorem fits_place : ∀ (b : Fin 4) (p : Fin 2) (v : Fin 4) (g : Fin 11), (43 * p.val + wo v.val b.val + g.val) / 2 < 256 := by decide +kernel

theorem placeE_at (b : Fin 4) (p : Fin 2) (v : Fin 4) (g : Fin 11) (k L : Fin 256) (hL : L.val = 128 * p.val + (11 * v.val + g.val)) :
    placeE (BitVec.ofNat 32 b.val) (ix2 k L) = BitVec.ofNat 32 ((43 * p.val + wo v.val b.val + g.val) / 2) := by
  obtain ⟨L, hL'⟩ := L
  dsimp only at hL
  subst hL
  pointwise [placeE, laneE, groupE, withinE, floorDiv, floorMod]
  clear hL' k
  revert b p v g
  decide +kernel

theorem eq_same (a : BitVec 32) : IntOp.cmpi .eq a a = 1#1 := by simp [IntOp.cmpi]
theorem eq_ne (a b : BitVec 32) (h : a ≠ b) : IntOp.cmpi .eq a b = 0#1 := by
  show BitVec.ofBool (a == b) = 0#1
  rw [beq_eq_false_iff_ne.mpr h]
  rfl

theorem rowE_at (k L : Fin 256) : rowE (ix2 k L) = BitVec.ofNat 32 k.val := by
  pointwise [rowE]

theorem placing_at (b : Fin 4) (p : Fin 2) (v : Fin 4) (g : Fin 11) (k L : Fin 256) (hL : L.val = 128 * p.val + (11 * v.val + g.val)) :
    placing (F := Ideal) (BitVec.ofNat 32 b.val) (ix2 k L) = if k.val = (43 * p.val + wo v.val b.val + g.val) / 2 then (1 : EReal) else 0 := by
  have h : placing (F := Ideal) (BitVec.ofNat 32 b.val) (ix2 k L)
      = ((((IntOp.cmpi .eq (rowE (ix2 k L)) (placeE (BitVec.ofNat 32 b.val) (ix2 k L))).setWidth 32).toInt : ℝ) : EReal) := rfl
  rw [h, placeE_at b p v g k L hL, rowE_at]
  have hlt := fits_place b p v g
  generalize (43 * p.val + wo v.val b.val + g.val) / 2 = K at hlt
  by_cases hk : k.val = K
  · rw [if_pos hk, hk, eq_same]
    show ((((1 : ℤ) : ℝ)) : EReal) = 1
    norm_num
  · rw [if_neg hk, eq_ne]
    · show ((((0 : ℤ) : ℝ)) : EReal) = 0
      norm_num
    · intro he
      have := congrArg BitVec.toNat he
      rw [BitVec.toNat_ofNat, BitVec.toNat_ofNat] at this
      omega

/-- The scales as the passes read them. -/
theorem zs_at (fs : S512x256.Idx → EReal) (fz : S2048x2x128.Idx → EReal) (G : Fin 512) (b : Fin 4) (p : Fin 2) (v : Fin 4) (g : Fin 11) (n : Fin 128)
    (hn : n.val = 11 * v.val + g.val) :
    (zAll (B := BI) fs placings fz : S2048x2x128.Idx → EReal) (ix3 ⟨4 * G.val + b.val, by omega⟩ p n)
      = at2 fs G.val ((43 * p.val + wo v.val b.val + g.val) / 2) := by
  rw [zAll_at]
  have hb4 : placings (F := Ideal) b = placing (F := Ideal) (BitVec.ofNat 32 b.val) := by
    have hb4 : b = 0 ∨ b = 1 ∨ b = 2 ∨ b = 3 := (by decide : ∀ q : Fin 4, q = 0 ∨ q = 1 ∨ q = 2 ∨ q = 3) b
    rcases hb4 with rfl | rfl | rfl | rfl <;> rfl
  rw [hb4]
  have hlt := fits_place b p v g
  rw [Finset.sum_eq_single (⟨(43 * p.val + wo v.val b.val + g.val) / 2, hlt⟩ : Fin 256)]
  · rw [placing_at b p v g _ _ (by show 128 * p.val + n.val = _; omega), if_pos rfl, mul_one]
  · intro k _ hk
    rw [placing_at b p v g _ _ (by show 128 * p.val + n.val = _; omega), if_neg (fun h => hk (Fin.ext h)), mul_zero]
  · intro h; exact absurd (Finset.mem_univ _) h

/-- One pass' rows of the scales. -/
theorem rdZ_at (fz : S2048x2x128.Idx → EReal) (r : ℕ) (hr : r < 64) (i : Fin 64) (n : Fin 128) :
    (rdZ (B := BI) fz r : S64x128.Idx → EReal) (ix2 i n) = fz (ix3 ⟨32 * r + i.val / 2, by omega⟩ ⟨i.val % 2, by omega⟩ n) := by
  unfold rdZ
  rw [dif_pos hr]
  show interleaveRows S64x128
      (shapeCast S32x128 (rowsOfParity 0 S32x1x128 (BI.z.m.view.readAt (Elt Ideal) (BI.z.rd r hr) fz : S32x2x128.Idx → EReal) bitcasts_S32x2x128_w16_S32x1x128_w32) shapeCasts_S32x1x128_S32x128)
      (shapeCast S32x128 (rowsOfParity 1 S32x1x128 (BI.z.m.view.readAt (Elt Ideal) (BI.z.rd r hr) fz : S32x2x128.Idx → EReal) bitcasts_S32x2x128_w16_S32x1x128_w32) shapeCasts_S32x1x128_S32x128)
      bitcasts_S64x128_w16_S32x128_w32 (ix2 i n) = _
  have e : ∀ (p : Fin 2) (q : S32x128.Idx), (q 0).val = i.val / 2 → (q 1).val = n.val → p.val = i.val % 2 →
      shapeCast S32x128 (rowsOfParity p S32x1x128 (BI.z.m.view.readAt (Elt Ideal) (BI.z.rd r hr) fz : S32x2x128.Idx → EReal) bitcasts_S32x2x128_w16_S32x1x128_w32) shapeCasts_S32x1x128_S32x128 q
        = fz (ix3 ⟨32 * r + i.val / 2, by omega⟩ ⟨i.val % 2, by omega⟩ n) := by
    intro p q h0 h1 hp
    have hq : q = ix2 ⟨i.val / 2, by omega⟩ n := by
      funext d
      match d with
      | ⟨0, _⟩ => exact Fin.ext h0
      | ⟨1, _⟩ => exact Fin.ext h1
    rw [hq]
    generalize hY : rowsOfParity p S32x1x128 (BI.z.m.view.readAt (Elt Ideal) (BI.z.rd r hr) fz : S32x2x128.Idx → EReal) bitcasts_S32x2x128_w16_S32x1x128_w32 = Y
    pointwise
    subst hY
    show fz _ = fz _
    congr 1
    funext d
    match d with
    | ⟨0, _⟩ => exact Fin.ext (by show 32 * r + 1 * (i.val / 2) = 32 * r + i.val / 2; omega)
    | ⟨1, _⟩ => exact Fin.ext (by show 0 + 1 * (2 * 0 + p.val) = i.val % 2; omega)
    | ⟨2, _⟩ => exact Fin.ext (by show 0 + 1 * n.val = n.val; omega)
  unfold interleaveRows
  have hr' : (S64x128.row (ix2 i n)) = i.val := rfl
  dsimp only
  rw [hr']
  by_cases hp : i.val % 2 = 0
  · rw [if_pos hp]
    exact e 0 _ rfl rfl hp.symm
  · rw [if_neg hp]
    exact e 1 _ rfl rfl (by show 1 = _; omega)

end Cert.Proof.Val
end
-- ==== Proof.Val.Tile.lean ====
/-
  An element of a weight tile.
-/
module

public import proofs.«01_k».proof.Proof.Val.Nib
public import proofs.«01_k».proof.Proof.Val.Zs

@[expose] public section

noncomputable section

namespace Cert.Proof.Val

open Cert.KernelIdeal Cert.KernelIdeal.Gen Cert.Proof.Str Cert.Proof.KI
open Idealize.ShloMosaic Idealize.ShloMosaic.TcCoe Idealize.SL.Sem

theorem shift_of (i : Fin 8) : 28#32 - 4#32 * BitVec.ofNat 32 i.val = BitVec.ofNat 32 (28 - 4 * i.val) := by
  revert i; decide

theorem nib_bits (x : BitVec 32) (i : Fin 8) :
    IntOp.shrsi .vector (IntOp.shli .vector x (IntOp.subi 28#32 (IntOp.muli 4#32 (BitVec.ofNat 32 i.val)))) 28#32
      = (x <<< (28 - 4 * i.val)).sshiftRight 28 := by
  fin_cases i <;> rfl

/-- Row 8·s + i of the nibbles of a matrix of words. -/
theorem nib_at (w : IVec S8x128 32) (r : Fin 64) (l : Fin 128) (s : Fin 8) (i : Fin 8) (h : r.val = 8 * s.val + i.val) :
    nib (F := Ideal) w (ix2 r l) = ((((w (ix2 s l) <<< (28 - 4 * i.val)).sshiftRight 28).toInt : ℝ) : EReal) := by
  obtain ⟨r, hr⟩ := r
  dsimp only at h
  subst h
  pointwise [nib]
  exact congrArg (fun b : BitVec 32 => ((b.toInt : ℝ) : EReal)) (nib_bits (w (ix2 s l)) i)

theorem evenWord_at (a b : IVec S8x128 32) (j : S8x128.Idx) : evenWord a b j = evenW (a j) (b j) := by
  rfl
theorem oddWord_at (a b : IVec S8x128 32) (j : S8x128.Idx) : oddWord a b j = oddW (a j) (b j) := by
  rfl

theorem fin4 : ∀ j : Fin 4, j = 0 ∨ j = 1 ∨ j = 2 ∨ j = 3 := by decide
theorem fin2' : ∀ j : Fin 2, j = 0 ∨ j = 1 := by decide
theorem ix2c {a b : ℕ} (i i' : Fin a) (j j' : Fin b) (hi : i.val = i'.val) (hj : j.val = j'.val) : (ix2 i j : (⟨2, ![a, b]⟩ : Shape).Idx) = ix2 i' j' := by
  rw [Fin.ext hi, Fin.ext hj]

theorem tile_at (w : Fin 4 → Pair) (z : Fin 4 → FVec Ideal S64x128 .bf16) (j : Fin 4) (ρ : Fin 2) (i : Fin 256) (L : Fin 256) (r : Fin 64) (l : Fin 128)
    (hi : i.val = 64 * j.val + r.val) (hL : L.val = 128 * ρ.val + l.val) :
    tile (F := Ideal) (w 0) (w 1) (w 2) (w 3) (z 0) (z 1) (z 2) (z 3) (ix2 i L)
      = (if ρ.val = 0 then nib (F := Ideal) (evenWord (w j).1 (w j).2) (ix2 r l) else nib (F := Ideal) (oddWord (w j).1 (w j).2) (ix2 r l)) * z j (ix2 r l) := by
  obtain ⟨i, hi'⟩ := i
  obtain ⟨L, hL'⟩ := L
  dsimp only at hi hL
  subst hi; subst hL
  unfold tile
  pointwise
  have c0 : (0 : Fin 4).val = 0 := rfl
  have c1 : (1 : Fin 4).val = 1 := rfl
  have c2 : (2 : Fin 4).val = 2 := rfl
  have c3 : (3 : Fin 4).val = 3 := rfl
  have d0 : (0 : Fin 2).val = 0 := rfl
  have d1 : (1 : Fin 2).val = 1 := rfl
  have hr := r.isLt
  have hl := l.isLt
  rcases fin4 j with rfl | rfl | rfl | rfl <;> rcases fin2' ρ with rfl | rfl <;> split_ifs <;>
    first
    | (exfalso; omega)
    | exact congrArg₂ (fun a b : EReal => a * b) (congrArg _ (ix2c _ _ _ _ (by dsimp only; omega) (by dsimp only; omega)))
        (congrArg _ (ix2c _ _ _ _ (by dsimp only; omega) (by dsimp only; omega)))

theorem scale_at (ix : IVec S64x128 32) (z : FVec Ideal S64x128 .bf16) (r : Fin 64) (l : Fin 128) (n : Fin 128) (h : ix (ix2 r l) = BitVec.ofNat 32 n.val) :
    scale (F := Ideal) ix z (ix2 r l) = z (ix2 r n) := by
  have hw : wrapped64 ix (ix2 r l) = BitVec.ofNat 32 n.val := by
    pointwise [wrapped64]
    rw [h]
    exact wrap_ok n
  show z _ = _
  congr 1
  funext c
  match c with
  | ⟨0, _⟩ => rfl
  | ⟨1, _⟩ =>
    refine Fin.ext ?_
    show (wrapped64 ix (ix2 r l)).toNat % 128 = n.val
    rw [hw, BitVec.toNat_ofNat]; omega

end Cert.Proof.Val
end
-- ==== Proof.Val.Xs.lean ====
/-
  The rows laid out for the passes.
-/
module

public import proofs.«01_k».proof.Proof.Val.Zs

@[expose] public section

noncomputable section

namespace Cert.Proof.Val

open Cert.KernelIdeal Cert.KernelIdeal.Gen Cert.Proof.Str Cert.Proof.KI
open Idealize.ShloMosaic Idealize.ShloMosaic.TcCoe Idealize.SL.Sem

/-- Where lane `l` of a tile of rows comes from. -/
def permL (v l : ℕ) : ℕ := 8 * (l / 8) + 4 * (l % 2) + (v + 4 - l % 8 / 2) % 4

theorem permL_lt : ∀ (v : Fin 4) (l : Fin 128), permL v.val l.val < 128 := by decide +kernel

theorem permOf_at (v : Fin 4) (r l : Fin 128) : permOf (BitVec.ofNat 32 v.val) (ix2 r l) = BitVec.ofNat 32 (permL v.val l.val) := by
  pointwise [permOf, lane]
  clear r
  revert v l
  decide +kernel

theorem wrapped128_at (ix : IVec S128x128 32) (r l : Fin 128) (n : ℕ) (hn : n < 128) (h : ix (ix2 r l) = BitVec.ofNat 32 n) :
    wrapped128 ix (ix2 r l) = BitVec.ofNat 32 n := by
  pointwise [wrapped128]
  rw [h]
  exact wrap_ok ⟨n, hn⟩

theorem gather128_at (z : S128x128.Idx → EReal) (ix : IVec S128x128 32) (r l : Fin 128) (n : Fin 128) (h : ix (ix2 r l) = BitVec.ofNat 32 n.val) :
    dynamicGather (s := S128x128) 1 z ix (ix2 r l) = z (ix2 r n) := by
  unfold dynamicGather
  congr 1
  funext d
  match d with
  | ⟨0, _⟩ => rfl
  | ⟨1, _⟩ =>
    refine Fin.ext ?_
    show (ix (ix2 r l)).toNat % 128 = n.val
    rw [h, BitVec.toNat_ofNat]; omega

theorem rdI_at (fi : S128x4096.Idx → EReal) (t : ℕ) (ht : t < 32) (r l : Fin 128) :
    rdI (B := BI) fi t ht (ix2 r l) = at2 fi r.val (128 * t + l.val) := by
  unfold rdI
  refine at2_of fi _ _ _ ?_ ?_
  · show 0 + 1 * r.val = _; omega
  · show 128 * t + 1 * l.val = _; omega

theorem tileX_at (fi : S128x4096.Idx → EReal) (v : Fin 4) (t : ℕ) (ht : t < 32) (r l : Fin 128) :
    (shapeCast S1x128x128 (permuted (F := Ideal) (permOf (BitVec.ofNat 32 v.val)) (rdI (B := BI) fi t ht)) shapeCasts_S128x128_S1x128x128) (ix3 0 r l)
      = at2 fi r.val (128 * t + permL v.val l.val) := by
  have h : (shapeCast S1x128x128 (permuted (F := Ideal) (permOf (BitVec.ofNat 32 v.val)) (rdI (B := BI) fi t ht)) shapeCasts_S128x128_S1x128x128) (ix3 0 r l)
      = permuted (F := Ideal) (permOf (BitVec.ofNat 32 v.val)) (rdI (B := BI) fi t ht) (ix2 r l) := by
    generalize permuted (F := Ideal) (permOf (BitVec.ofNat 32 v.val)) (rdI (B := BI) fi t ht) = Y
    pointwise
  rw [h]
  have hl := permL_lt v l
  refine (gather128_at (rdI (B := BI) fi t ht) _ r l ⟨_, hl⟩ (wrapped128_at _ r l _ hl (permOf_at v r l))).trans ?_
  exact rdI_at fi t ht r _

theorem xPut_at (fi : S128x4096.Idx → EReal) (v : Fin 4) (t : ℕ) (ht : t < 32) (fx : S4x128x4096.Idx → EReal) (u : Fin 4) (r : Fin 128) (c : Fin 4096) :
    (xPut (B := BI) fi v.val v.isLt t ht fx : S4x128x4096.Idx → EReal) (ix3 u r c)
      = if u.val = v.val ∧ c.val / 128 = t then at2 fi r.val (128 * (c.val / 128) + permL v.val (c.val % 128)) else fx (ix3 u r c) := by
  by_cases h : u.val = v.val ∧ c.val / 128 = t
  · rw [if_pos h]
    have hy : (ix3 u r c : S4x128x4096.Idx) = (xpRect v.val v.isLt t ht).emb (ix3 0 r ⟨c.val % 128, by omega⟩ : S1x128x128.Idx) := by
      funext d
      match d with
      | ⟨0, _⟩ => exact Fin.ext (by show u.val = v.val + 1 * 0; omega)
      | ⟨1, _⟩ => exact Fin.ext (by show r.val = 0 + 1 * r.val; omega)
      | ⟨2, _⟩ => exact Fin.ext (by show c.val = 128 * t + 1 * (c.val % 128); omega)
    refine (congrArg (xPut (B := BI) fi v.val v.isLt t ht fx : S4x128x4096.Idx → EReal) hy).trans ?_
    refine (put_in cc0_scratch4 (xpRect v.val v.isLt t ht) fx _ (ix3 0 r ⟨c.val % 128, by omega⟩ : S1x128x128.Idx)).trans ?_
    refine (tileX_at fi v t ht r _).trans ?_
    rw [h.2]
  · rw [if_neg h]
    refine put_out cc0_scratch4 (xpRect v.val v.isLt t ht) fx _ (ix3 u r c) ?_
    intro x hx
    have h0 : v.val + 1 * (x (0 : Fin 3)).val = u.val := congrArg Fin.val (congrFun hx (0 : Fin 3))
    have h2 : 128 * t + 1 * (x (2 : Fin 3)).val = c.val := congrArg Fin.val (congrFun hx (2 : Fin 3))
    have x0 : (x (0 : Fin 3)).val < 1 := (x (0 : Fin 3)).isLt
    have x2 : (x (2 : Fin 3)).val < 128 := (x (2 : Fin 3)).isLt
    exact h ⟨by omega, by omega⟩

theorem xPuts_at (fi : S128x4096.Idx → EReal) (v : Fin 4) (u : Fin 4) (r : Fin 128) (c : Fin 4096) : ∀ (n t : ℕ) (h : t + n ≤ 32) (fx : S4x128x4096.Idx → EReal),
    (xPuts (B := BI) fi v.val v.isLt n t h fx : S4x128x4096.Idx → EReal) (ix3 u r c)
      = if u.val = v.val ∧ t ≤ c.val / 128 ∧ c.val / 128 < t + n then at2 fi r.val (128 * (c.val / 128) + permL v.val (c.val % 128)) else fx (ix3 u r c)
  | 0, t, h, fx => by rw [if_neg (by omega)]; rfl
  | n + 1, t, h, fx => by
    refine (xPuts_at fi v u r c n (t + 1) (by omega) (xPut (B := BI) fi v.val v.isLt t (by omega) fx)).trans ?_
    rw [xPut_at]
    by_cases hu : u.val = v.val
    · by_cases h1 : c.val / 128 = t
      · rw [if_neg (by omega), if_pos ⟨hu, h1⟩, if_pos (by omega)]
      · by_cases h2 : t + 1 ≤ c.val / 128 ∧ c.val / 128 < t + 1 + n
        · rw [if_pos ⟨hu, h2⟩, if_pos (by omega)]
        · rw [if_neg (by omega), if_neg (by omega), if_neg (by omega)]
    · rw [if_neg (by omega), if_neg (by omega), if_neg (by omega)]

theorem xAll_at (fi : S128x4096.Idx → EReal) (fx : S4x128x4096.Idx → EReal) (u : Fin 4) (r : Fin 128) (c : Fin 4096) :
    (xAll (B := BI) fi fx : S4x128x4096.Idx → EReal) (ix3 u r c) = at2 fi r.val (128 * (c.val / 128) + permL u.val (c.val % 128)) := by
  unfold xAll
  by_cases h3 : u = 3
  · subst h3; exact (xPuts_at fi 3 3 r c 32 0 (by decide) _).trans (if_pos ⟨rfl, by omega, by omega⟩)
  refine ((xPuts_at fi 3 u r c 32 0 (by decide) _).trans (if_neg (fun h => h3 (Fin.ext h.1)))).trans ?_
  by_cases h2 : u = 2
  · subst h2; exact (xPuts_at fi 2 2 r c 32 0 (by decide) _).trans (if_pos ⟨rfl, by omega, by omega⟩)
  refine ((xPuts_at fi 2 u r c 32 0 (by decide) _).trans (if_neg (fun h => h2 (Fin.ext h.1)))).trans ?_
  by_cases h1 : u = 1
  · subst h1; exact (xPuts_at fi 1 1 r c 32 0 (by decide) _).trans (if_pos ⟨rfl, by omega, by omega⟩)
  refine ((xPuts_at fi 1 u r c 32 0 (by decide) _).trans (if_neg (fun h => h1 (Fin.ext h.1)))).trans ?_
  have h0 : u = 0 := by revert u; decide
  subst h0; exact (xPuts_at fi 0 0 r c 32 0 (by decide) _).trans (if_pos ⟨rfl, by omega, by omega⟩)

/-- The rows as the passes read them. -/
theorem xs_at (fi : S128x4096.Idx → EReal) (fx : S4x128x4096.Idx → EReal) (v kt : ℕ) (hv : v < 4) (hk : kt < 16) (r : Fin 128) (i : Fin 256) :
    rdX (B := BI) (xAll (B := BI) fi fx) v kt (ix3 0 r i) = at2 fi r.val (kOf v kt i.val) := by
  refine (rdX_at _ v kt hv hk r i).trans ?_
  unfold at3
  have e : ∀ (a : Fin 4) (b : Fin 128) (c : Fin 4096), a.val = v → b.val = r.val → c.val = 256 * kt + i.val →
      (xAll (B := BI) fi fx : S4x128x4096.Idx → EReal) (ix3 a b c) = at2 fi r.val (kOf v kt i.val) := by
    intro a b c ha hb hc
    refine (xAll_at fi fx a b c).trans ?_
    rw [ha, hb, hc]
    congr 1
    unfold permL kOf
    omega
  exact e _ _ _ (Nat.mod_eq_of_lt hv) (Nat.mod_eq_of_lt r.isLt) (Nat.mod_eq_of_lt (by omega))

end Cert.Proof.Val
end
-- ==== Proof.Val.MemA.lean ====
/-
  The running sums written at numbers.
-/
module

public import proofs.«01_k».proof.Proof.Val.Mem

@[expose] public section

noncomputable section

namespace Cert.Proof.Val

open Cert.KernelIdeal Cert.KernelIdeal.Gen Cert.Proof.Str Cert.Proof.KI
open Idealize.ShloMosaic Idealize.ShloMosaic.TcCoe Idealize.SL.Sem

section
variable (bw : Memref sig .tc .vmem S44032x128 .i32) (bz : ZBuf sig Ideal) (bx : Memref sig .tc .vmem S4x128x4096 .bf16)
  (bi : Memref sig .tc .vmem S128x4096 .bf16) (bs : Memref sig .tc .vmem S512x256 .bf16)

set_option maxHeartbeats 4000000 in
theorem wrA_gen (m : Mem (Bufs.mk bw bz bx (Memref.whole cc0_scratch5) (Memref.whole cc0_scratch6) bi bs)) (o : AccAt) (C H : ℕ)
    (ho : o.off = ![C, H, 0, 0]) (v : FVec Ideal S128x128 .f32) (c : Fin 43) (h : Fin 2) (r l : Fin 128) :
    ((wrA m o v).a : S43x2x128x128.Idx → EReal) (ix4 c h r l)
      = if c.val = C ∧ h.val = H then v (ix2 r l) else (m.a : S43x2x128x128.Idx → EReal) (ix4 c h r l) := by
  obtain ⟨ma, mo⟩ := m
  unfold wrA
  refine (putA o.off o.inb C H ho ma (shapeCast S1x1x128x128 v shapeCasts_S128x128_S1x1x128x128) c h r l).trans ?_
  exact if_congr Iff.rfl (cast4_at v r l) rfl

end

theorem wrA_at (m : Mem BI) (o : AccAt) (C H : ℕ) (ho : o.off = ![C, H, 0, 0]) (v : FVec Ideal S128x128 .f32) (c : Fin 43) (h : Fin 2) (r l : Fin 128) :
    ((wrA m o v).a : S43x2x128x128.Idx → EReal) (ix4 c h r l)
      = if c.val = C ∧ h.val = H then v (ix2 r l) else (m.a : S43x2x128x128.Idx → EReal) (ix4 c h r l) :=
  wrA_gen _ BI.z _ _ _ m o C H ho v c h r l

end Cert.Proof.Val
end
-- ==== Proof.Val.MemO.lean ====
/-
  The results written at numbers.
-/
module

public import proofs.«01_k».proof.Proof.Val.Mem

@[expose] public section

noncomputable section

namespace Cert.Proof.Val

open Cert.KernelIdeal Cert.KernelIdeal.Gen Cert.Proof.Str Cert.Proof.KI
open Idealize.ShloMosaic Idealize.ShloMosaic.TcCoe Idealize.SL.Sem

section
variable (bw : Memref sig .tc .vmem S44032x128 .i32) (bz : ZBuf sig Ideal) (bx : Memref sig .tc .vmem S4x128x4096 .bf16)
  (bi : Memref sig .tc .vmem S128x4096 .bf16) (bs : Memref sig .tc .vmem S512x256 .bf16)

set_option maxHeartbeats 4000000 in
theorem wrO_gen (m : Mem (Bufs.mk bw bz bx (Memref.whole cc0_scratch5) (Memref.whole cc0_scratch6) bi bs)) (o : OutAt (Memref.whole cc0_scratch6)) (C H : ℕ)
    (ho : o.off = ![C, H, 0, 0]) (v : FVec Ideal S128x128 .bf16) (c : Fin 43) (h : Fin 2) (r l : Fin 128) :
    ((wrO m o v).o : S43x2x128x128.Idx → EReal) (ix4 c h r l)
      = if c.val = C ∧ h.val = H then v (ix2 r l) else (m.o : S43x2x128x128.Idx → EReal) (ix4 c h r l) := by
  obtain ⟨ma, mo⟩ := m
  unfold wrO
  refine (putO o.off o.inb C H ho mo (shapeCast S1x1x128x128 v shapeCasts_S128x128_S1x1x128x128) c h r l).trans ?_
  exact if_congr Iff.rfl (cast4_at v r l) rfl
end

theorem wrO_at (m : Mem BI) (o : OutAt BI.out) (C H : ℕ) (ho : o.off = ![C, H, 0, 0]) (v : FVec Ideal S128x128 .bf16) (c : Fin 43) (h : Fin 2) (r l : Fin 128) :
    ((wrO m o v).o : S43x2x128x128.Idx → EReal) (ix4 c h r l)
      = if c.val = C ∧ h.val = H then v (ix2 r l) else (m.o : S43x2x128x128.Idx → EReal) (ix4 c h r l) :=
  wrO_gen _ BI.z _ _ _ m o C H ho v c h r l

end Cert.Proof.Val
end
-- ==== Proof.Val.Step.lean ====
/-
  One set of four chunks, and the running sums after it.
-/
module

public import proofs.«01_k».proof.Proof.Val.Zs
public import proofs.«01_k».proof.Proof.Val.MemA
public import proofs.«01_k».proof.Proof.Val.MemO

@[expose] public section

noncomputable section

namespace Cert.Proof.Val

open Cert.KernelIdeal Cert.KernelIdeal.Gen Cert.Proof.Str Cert.Proof.KI
open Idealize.ShloMosaic Idealize.ShloMosaic.TcCoe Idealize.SL.Sem

/-- A half of a product's columns. -/
def halfAt (e : FVec Ideal S128x256 .f32) (h : Fin 2) (r l : Fin 128) : EReal := e (ix2 r ⟨128 * h.val + l.val, by omega⟩)

theorem evenHalf_at (e : FVec Ideal S128x256 .f32) (r l : Fin 128) : evenHalf e (ix2 r l) = halfAt e 0 r l := halves_at e 0 r l
theorem oddHalf_at (e : FVec Ideal S128x256 .f32) (r l : Fin 128) : oddHalf e (ix2 r l) = halfAt e 1 r l := halves_at e 1 r l

/-- The running sums, -/
def aA (m : Mem BI) (c : Fin 43) (h : Fin 2) (r l : Fin 128) : EReal := (m.a : S43x2x128x128.Idx → EReal) (ix4 c h r l)
/-- and the results, at their places. -/
def oA (m : Mem BI) (c : Fin 43) (h : Fin 2) (r l : Fin 128) : EReal := (m.o : S43x2x128x128.Idx → EReal) (ix4 c h r l)

theorem fin2 : ∀ h : Fin 2, h = 0 ∨ h = 1 := by decide

theorem aA_wrA (m : Mem BI) (o : AccAt) (C H : ℕ) (ho : o.off = ![C, H, 0, 0]) (v : FVec Ideal S128x128 .f32) (c : Fin 43) (h : Fin 2) (r l : Fin 128) :
    aA (wrA m o v) c h r l = if c.val = C ∧ h.val = H then v (ix2 r l) else aA m c h r l := wrA_at m o C H ho v c h r l
theorem oA_wrO (m : Mem BI) (o : OutAt BI.out) (C H : ℕ) (ho : o.off = ![C, H, 0, 0]) (v : FVec Ideal S128x128 .bf16) (c : Fin 43) (h : Fin 2) (r l : Fin 128) :
    oA (wrO m o v) c h r l = if c.val = C ∧ h.val = H then v (ix2 r l) else oA m c h r l := wrO_at m o C H ho v c h r l
theorem mk_a {B : Bufs sig Ideal} (a : B.acc.view.ty.Contents (Elt Ideal)) (o : B.out.view.ty.Contents (Elt Ideal)) : (Mem.mk a o : Mem B).a = a := rfl
theorem wrO_a {B : Bufs sig Ideal} (m : Mem B) (o : OutAt B.out) (v : FVec Ideal S128x128 .bf16) : (wrO m o v).a = m.a := by
  unfold wrO
  exact mk_a _ _
theorem aA_of (m m' : Mem BI) (h : m'.a = m.a) : aA m' = aA m := by unfold aA; rw [h]

theorem wrA2 (m : Mem BI) (o0 o1 : AccAt) (v0 v1 : FVec Ideal S128x128 .f32) (C : ℕ) (h0 : o0.off = ![C, 0, 0, 0]) (h1 : o1.off = ![C, 1, 0, 0])
    (c : Fin 43) (h : Fin 2) (r l : Fin 128) :
    aA (wrA (wrA m o0 v0) o1 v1) c h r l = if c.val = C then (if h.val = 0 then v0 (ix2 r l) else v1 (ix2 r l)) else aA m c h r l := by
  rw [aA_wrA _ _ C 1 h1, aA_wrA _ _ C 0 h0]
  have := h.isLt
  split_ifs <;> first | rfl | (exfalso; omega)

theorem wrO2 (m : Mem BI) (o0 o1 : OutAt BI.out) (v0 v1 : FVec Ideal S128x128 .bf16) (C : ℕ) (h0 : o0.off = ![C, 0, 0, 0]) (h1 : o1.off = ![C, 1, 0, 0])
    (c : Fin 43) (h : Fin 2) (r l : Fin 128) :
    oA (wrO (wrO m o0 v0) o1 v1) c h r l = if c.val = C then (if h.val = 0 then v0 (ix2 r l) else v1 (ix2 r l)) else oA m c h r l := by
  rw [oA_wrO _ _ C 1 h1, oA_wrO _ _ C 0 h0]
  have := h.isLt
  split_ifs <;> first | rfl | (exfalso; omega)

theorem stepFirst_at (o : Fin 4 → Fin 2 → AccAt) (st : Mem BI) (v : Fin 4) (e : FVec Ideal S128x256 .f32) (C : ℕ)
    (ho : ∀ h, (o v h).off = ![C, h.val, 0, 0]) (c : Fin 43) :
    aA (stepFirst wrA o st v e) c = if c.val = C then halfAt e else aA st c := by
  funext h r l
  unfold stepFirst
  refine (wrA2 st (o v 0) (o v 1) _ _ C (ho 0) (ho 1) c h r l).trans ?_
  by_cases hc : c.val = C
  · rw [if_pos hc, if_pos hc]
    rcases fin2 h with rfl | rfl
    · exact evenHalf_at e r l
    · exact oddHalf_at e r l
  · rw [if_neg hc, if_neg hc]

theorem stepMid_at (o : Fin 4 → Fin 2 → AccAt) (st : Mem BI) (v : Fin 4) (e : FVec Ideal S128x256 .f32) (C : ℕ)
    (ho : ∀ h, (o v h).off = ![C, h.val, 0, 0]) (c : Fin 43) :
    aA (stepMid rdA wrA o st v e) c = if c.val = C then (fun h r l => halfAt e h r l + aA st c h r l) else aA st c := by
  funext h r l
  unfold stepMid
  refine (wrA2 st (o v 0) (o v 1) _ _ C (ho 0) (ho 1) c h r l).trans ?_
  by_cases hc : c.val = C
  · rw [if_pos hc, if_pos hc]
    rcases fin2 h with rfl | rfl
    · exact congrArg₂ (fun a b : EReal => a + b) (evenHalf_at e r l) (rdA_at st _ C 0 (ho 0) c 0 hc rfl r l)
    · exact congrArg₂ (fun a b : EReal => a + b) (oddHalf_at e r l) (rdA_at st _ C 1 (ho 1) c 1 hc rfl r l)
  · rw [if_neg hc, if_neg hc]

/-- A half chunk's results. -/
def wv (E : Fin 2 → Fin 128 → Fin 128 → EReal) (h : Fin 2) (r l : Fin 128) : EReal :=
  E ⟨l.val % 2, by omega⟩ r ⟨l.val / 2 + 64 * h.val, by omega⟩

theorem woven_lane (h : Fin 2) (r l : Fin 128) :
    (addi (shrsi lane (broadcast S128x128 1#32)) (broadcast S128x128 (BitVec.ofNat 32 (64 * h.val)))) (ix2 r l) = BitVec.ofNat 32 (l.val / 2 + 64 * h.val) := by
  pointwise [lane]
  clear r
  revert h l
  decide +kernel

theorem woven_bit (r l : Fin 128) :
    (cmpi .eq (andi lane (broadcast S128x128 1#32)) (broadcast S128x128 0#32)) (ix2 r l) = if l.val % 2 = 0 then 1#1 else 0#1 := by
  pointwise [lane]
  clear r
  revert l
  decide +kernel

theorem wrapped128_at' (ix : IVec S128x128 32) (r l : Fin 128) (n : ℕ) (hn : n < 128) (h : ix (ix2 r l) = BitVec.ofNat 32 n) :
    wrapped128 ix (ix2 r l) = BitVec.ofNat 32 n := by
  pointwise [wrapped128]
  rw [h]
  exact wrap_ok ⟨n, hn⟩

theorem gather128_at' (z : S128x128.Idx → EReal) (ix : IVec S128x128 32) (r l : Fin 128) (n : Fin 128) (h : ix (ix2 r l) = BitVec.ofNat 32 n.val) :
    dynamicGather (s := S128x128) 1 z ix (ix2 r l) = z (ix2 r n) := by
  unfold dynamicGather
  congr 1
  funext d
  match d with
  | ⟨0, _⟩ => rfl
  | ⟨1, _⟩ =>
    refine Fin.ext ?_
    show (ix (ix2 r l)).toNat % 128 = n.val
    rw [h, BitVec.toNat_ofNat]; omega

theorem woven_at (E : Fin 2 → Fin 128 → Fin 128 → EReal) (e o : FVec Ideal S128x128 .f32) (he : ∀ r l, e (ix2 r l) = E 0 r l) (ho : ∀ r l, o (ix2 r l) = E 1 r l)
    (h : Fin 2) (r l : Fin 128) : woven (F := Ideal) (BitVec.ofNat 32 (64 * h.val)) e o (ix2 r l) = wv E h r l := by
  have hl : l.val / 2 + 64 * h.val < 128 := by omega
  have hw := wrapped128_at' _ r l _ hl (woven_lane h r l)
  have e1 := gather128_at' e _ r l ⟨_, hl⟩ hw
  have e2 := gather128_at' o _ r l ⟨_, hl⟩ hw
  have hb := woven_bit r l
  show Scalar.select ((cmpi .eq (andi lane (broadcast S128x128 1#32)) (broadcast S128x128 0#32)) (ix2 r l)) (dynamicGather (s := S128x128) 1 e _ (ix2 r l)) (dynamicGather (s := S128x128) 1 o _ (ix2 r l)) = _
  rw [hb, e1, e2, he, ho]
  unfold wv
  by_cases h2 : l.val % 2 = 0
  · rw [if_pos h2, show (⟨l.val % 2, by omega⟩ : Fin 2) = 0 from Fin.ext h2]; rfl
  · rw [if_neg h2, show (⟨l.val % 2, by omega⟩ : Fin 2) = 1 from Fin.ext (by show l.val % 2 = 1; omega)]; rfl

theorem stepLast_at (o : Fin 4 → Fin 2 → AccAt) (p : Fin 4 → Fin 2 → OutAt BI.out) (st : Mem BI) (v : Fin 4) (e : FVec Ideal S128x256 .f32) (C : ℕ)
    (ho : ∀ h, (o v h).off = ![C, h.val, 0, 0]) (hp : ∀ h, (p v h).off = ![C, h.val, 0, 0]) (c : Fin 43) :
    oA (stepLast BI rdA wrO o p st v e) c
      = if c.val = C then wv (fun ρ r l => halfAt e ρ r l + aA st c ρ r l) else oA st c := by
  funext h r l
  unfold stepLast
  refine (wrO2 st (p v 0) (p v 1) _ _ C (hp 0) (hp 1) c h r l).trans ?_
  by_cases hc : c.val = C
  · rw [if_pos hc, if_pos hc]
    have E0 : ∀ r l, addf (F := Ideal) (evenHalf e) (sumOf (rdA st (o v 0))) (ix2 r l) = halfAt e 0 r l + aA st c 0 r l := fun r l =>
      congrArg₂ (fun a b : EReal => a + b) (evenHalf_at e r l) (rdA_at st _ C 0 (ho 0) c 0 hc rfl r l)
    have E1 : ∀ r l, addf (F := Ideal) (oddHalf e) (sumOf (rdA st (o v 1))) (ix2 r l) = halfAt e 1 r l + aA st c 1 r l := fun r l =>
      congrArg₂ (fun a b : EReal => a + b) (oddHalf_at e r l) (rdA_at st _ C 1 (ho 1) c 1 hc rfl r l)
    rcases fin2 h with rfl | rfl
    · exact woven_at (fun ρ r l => halfAt e ρ r l + aA st c ρ r l) _ _ E0 E1 0 r l
    · exact woven_at (fun ρ r l => halfAt e ρ r l + aA st c ρ r l) _ _ E0 E1 1 r l
  · rw [if_neg hc, if_neg hc]

theorem stepLast_a (o : Fin 4 → Fin 2 → AccAt) (p : Fin 4 → Fin 2 → OutAt BI.out) (st : Mem BI) (v : Fin 4) (e : FVec Ideal S128x256 .f32) :
    aA (stepLast BI rdA wrO o p st v e) = aA st := by
  unfold stepLast
  exact (aA_of _ _ (wrO_a _ _ _)).trans (aA_of _ _ (wrO_a _ _ _))

end Cert.Proof.Val
end
-- ==== Proof.Val.Bits.lean ====
/-
  The bits of the words the kernel selects, and of the nibbles it cuts out of them.
-/
module

public import proofs.«01_k».proof.Proof.Val.Base
public import Idealize.ShloMosaic.Lib.Pointwise
public import Idealize.ShloMosaic.Lib.BitcastPair

@[expose] public section

noncomputable section

namespace Cert.Proof.Val

open Cert.KernelIdeal Cert.KernelIdeal.Gen Cert.Proof.Str
open Idealize.ShloMosaic Idealize.ShloMosaic.TcCoe Idealize.SL.Sem

/-- A reinterpretation of a matrix along its columns, bit by bit. -/
theorem bitcast_bit {R R' n v w : ℕ} (x : (⟨2, ![R, n]⟩ : Shape).Idx → BitVec v) (h : (⟨2, ![R, n]⟩ : Shape).Bitcasts v ⟨2, ![R', n]⟩ w)
    (a : Fin R') (l : Fin n) (q : ℕ) (hq : q < w) (hv : 0 < v) (p : Fin R) (hp : p.val = (a.val * w + q) / v) :
    (bitcast ⟨2, ![R', n]⟩ w x h (ix2 a l)).getLsbD q = (x (ix2 p l)).getLsbD ((a.val * w + q) % v) := by
  rw [bitcast_getLsbD x h _ q hq hv]
  congr 2
  funext c
  match c with
  | ⟨0, _⟩ => exact Fin.ext hp.symm
  | ⟨1, _⟩ => rfl

theorem select_at {s : Shape} {α : Type} (c : IVec s 1) (a b : s.Idx → α) (i : s.Idx) : select c a b i = if c i = 1#1 then a i else b i := by
  rfl

theorem mask8_at (s : Fin 8) (t : Fin 4) (l : Fin 128) (h : 4 * s.val + t.val < 32) :
    mask8 (ix2 ⟨4 * s.val + t.val, h⟩ l) = if t.val % 2 = 0 then 1#1 else 0#1 := by
  have e : bitcast S32x128 8 (broadcast S8x128 16711935#32) bitcasts_S8x128_w32_S32x128_w8 (ix2 ⟨4 * s.val + t.val, h⟩ l)
      = if t.val % 2 = 0 then 255#8 else 0#8 := by
    refine BitVec.eq_of_getLsbD_eq fun i hi => ?_
    rw [bitcast_bit (R := 8) (R' := 32) _ bitcasts_S8x128_w32_S32x128_w8 _ l i hi (by decide) s (by show s.val = ((4 * s.val + t.val) * 8 + i) / 32; omega)]
    rw [show ((4 * s.val + t.val) * 8 + i) % 32 = t.val * 8 + i from by omega]
    show (16711935#32).getLsbD _ = _
    clear h
    revert i; revert t; decide
  unfold mask8 cmpi
  rw [e]
  revert t; decide +revert

/-- Bit `q` of a selection by bytes. -/
theorem sel8_bit (a b : IVec S8x128 32) (s : Fin 8) (l : Fin 128) (q : ℕ) (hq : q < 32) :
    (sel8 mask8 a b (ix2 s l)).getLsbD q = if q / 8 % 2 = 0 then (a (ix2 s l)).getLsbD q else (b (ix2 s l)).getLsbD q := by
  have hr : 4 * s.val + q / 8 < 32 := by omega
  unfold sel8
  rw [bitcast_bit (R := 32) (R' := 8) _ bitcasts_S32x128_w8_S8x128_w32 s l q hq (by decide) ⟨4 * s.val + q / 8, hr⟩ (by show 4 * s.val + q / 8 = (s.val * 32 + q) / 8; omega),
    select_at, mask8_at s ⟨q / 8, by omega⟩ l hr]
  have k : ∀ x : IVec S8x128 32, (bitcast S32x128 8 x bitcasts_S8x128_w32_S32x128_w8 (ix2 ⟨4 * s.val + q / 8, hr⟩ l)).getLsbD ((s.val * 32 + q) % 8)
      = (x (ix2 s l)).getLsbD q := fun x => by
    rw [bitcast_bit (R := 8) (R' := 32) _ bitcasts_S8x128_w32_S32x128_w8 _ l _ (by omega) (by decide) s (by show s.val = ((4 * s.val + q / 8) * 8 + (s.val * 32 + q) % 8) / 32; omega)]
    congr 1
    show ((4 * s.val + q / 8) * 8 + (s.val * 32 + q) % 8) % 32 = q
    omega
  by_cases h : q / 8 % 2 = 0
  · rw [if_pos (show (⟨q / 8, by omega⟩ : Fin 4).val % 2 = 0 from h), if_pos rfl, if_pos h]; exact k a
  · rw [if_neg (show ¬ (⟨q / 8, by omega⟩ : Fin 4).val % 2 = 0 from h), if_neg (by decide), if_neg h]; exact k b

theorem mask16_at (s : Fin 8) (t : Fin 2) (l : Fin 128) (h : 2 * s.val + t.val < 16) :
    mask16 (ix2 ⟨2 * s.val + t.val, h⟩ l) = if t.val = 0 then 1#1 else 0#1 := by
  have e : bitcast S16x128 16 (broadcast S8x128 65535#32) bitcasts_S8x128_w32_S16x128_w16 (ix2 ⟨2 * s.val + t.val, h⟩ l)
      = if t.val = 0 then 65535#16 else 0#16 := by
    refine BitVec.eq_of_getLsbD_eq fun i hi => ?_
    rw [bitcast_bit (R := 8) (R' := 16) _ bitcasts_S8x128_w32_S16x128_w16 _ l i hi (by decide) s (by show s.val = ((2 * s.val + t.val) * 16 + i) / 32; omega)]
    rw [show ((2 * s.val + t.val) * 16 + i) % 32 = t.val * 16 + i from by omega]
    show (65535#32).getLsbD _ = _
    clear h
    revert i; revert t; decide
  unfold mask16 cmpi
  rw [e]
  revert t; decide +revert

/-- Bit `q` of a selection by half words. -/
theorem sel16_bit (a b : IVec S8x128 32) (s : Fin 8) (l : Fin 128) (q : ℕ) (hq : q < 32) :
    (sel16 mask16 a b (ix2 s l)).getLsbD q = if q / 16 = 0 then (a (ix2 s l)).getLsbD q else (b (ix2 s l)).getLsbD q := by
  have hr : 2 * s.val + q / 16 < 16 := by omega
  unfold sel16
  rw [bitcast_bit (R := 16) (R' := 8) _ bitcasts_S16x128_w16_S8x128_w32 s l q hq (by decide) ⟨2 * s.val + q / 16, hr⟩ (by show 2 * s.val + q / 16 = (s.val * 32 + q) / 16; omega),
    select_at, mask16_at s ⟨q / 16, by omega⟩ l hr]
  have k : ∀ x : IVec S8x128 32, (bitcast S16x128 16 x bitcasts_S8x128_w32_S16x128_w16 (ix2 ⟨2 * s.val + q / 16, hr⟩ l)).getLsbD ((s.val * 32 + q) % 16)
      = (x (ix2 s l)).getLsbD q := fun x => by
    rw [bitcast_bit (R := 8) (R' := 16) _ bitcasts_S8x128_w32_S16x128_w16 _ l _ (by omega) (by decide) s (by show s.val = ((2 * s.val + q / 16) * 16 + (s.val * 32 + q) % 16) / 32; omega)]
    congr 1
    show ((2 * s.val + q / 16) * 16 + (s.val * 32 + q) % 16) % 32 = q
    omega
  by_cases h : q / 16 = 0
  · rw [if_pos (show (⟨q / 16, by omega⟩ : Fin 2).val = 0 from h), if_pos rfl, if_pos h]; exact k a
  · rw [if_neg (show ¬ (⟨q / 16, by omega⟩ : Fin 2).val = 0 from h), if_neg (by decide), if_neg h]; exact k b

/-- Byte `b` of the words a residue selects is byte `b` of the `b`-th row it reads. -/
theorem wsel_byte (wv : ℕ → IVec S8x128 32) (v n : ℕ) (b : Fin 4) (s : Fin 8) (l : Fin 128) :
    byteOf b.val (wsel masks (F := Ideal) wv v n (ix2 s l)) = byteOf b.val (wv (n + wo v b.val) (ix2 s l)) := by
  unfold byteOf wsel masks
  refine BitVec.eq_of_getLsbD_eq fun i hi => ?_
  rw [BitVec.getLsbD_extractLsb', BitVec.getLsbD_extractLsb', sel16_bit _ _ s l _ (by omega), sel8_bit _ _ s l _ (by omega), sel8_bit _ _ s l _ (by omega)]
  have h1 : (8 * b.val + i) / 8 = b.val := by omega
  have h2 : (8 * b.val + i) / 16 = b.val / 2 := by omega
  rw [h1, h2]
  fin_cases b <;> rfl

end Cert.Proof.Val
end
-- ==== Proof.Val.RefAt.lean ====
/-
  The reference's result at an index.
-/
module

public import proofs.«01_k».proof.Proof.Val.Base
public import proofs.«01_k».proof.Proof.Ref

@[expose] public section

noncomputable section

namespace Cert.Proof.Val

open Cert.ReferenceIdeal Cert.ReferenceIdeal.Gen Cert.Proof.Ref
open Idealize.ShloMosaic Idealize.ShloMosaic.TcCoe Idealize.SL.Sem

theorem signed_low : ∀ b : BitVec 8, ((b.zeroExtend 32 &&& 15#32) - 16#32 * (BitVec.ofBool (BitVec.sle 8#32 (b.zeroExtend 32 &&& 15#32))).zeroExtend 32) = nibOf 0 b := by
  decide +kernel
theorem signed_high : ∀ b : BitVec 8, ((b.zeroExtend 32).sshiftRight 4 - 16#32 * (BitVec.ofBool (BitVec.sle 8#32 ((b.zeroExtend 32).sshiftRight 4))).zeroExtend 32) = nibOf 1 b := by
  decide +kernel

/-- The weight of row `k`, column `2 n + ρ`. -/
def wt (w : S22544384.Idx → BitVec 8) (s : S22016.Idx → EReal) (ρ k n : ℕ) : EReal :=
  (((nibOf ρ (at1 w (5504 * k + n))).toInt : ℝ) : EReal) * at1 s ((5504 * k + n) / 1024)

theorem weights_at (v : IVec S22544384 32) (s : FVec Ideal S22016 .f32) (k : Fin 4096) (n : Fin 5504) :
    weights (F := Ideal) v s (ix2 k n) = ((signed (F := Ideal) v) (ix1 ⟨5504 * k.val + n.val, by omega⟩)) * at1 s ((5504 * k.val + n.val) / 1024) := by
  pointwise [weights]
  exact congrArg₂ (fun a b : EReal => a * b) (congrArg _ (congrArg ix1 (Fin.ext (by show _ = 5504 * k.val + n.val; dsimp only; omega))))
    (at1_of s _ _ (by show (k.val * 5504 + n.val) / 1024 = _; congr 1; omega))

theorem low_at (w : IVec S22544384 8) (p : Fin 22544384) :
    signed (F := Ideal) (andi (extui 32 w natLt_8_32) (broadcastInDim S22544384 ![] bcast_S_S22544384 (constantI S_ 32 15#32))) (ix1 p)
      = (((nibOf 0 (w (ix1 p))).toInt : ℝ) : EReal) :=
  congrArg (fun b : BitVec 32 => ((b.toInt : ℝ) : EReal)) (signed_low (w (ix1 p)))

theorem high_at (w : IVec S22544384 8) (p : Fin 22544384) :
    signed (F := Ideal) (Host.shrsi (extui 32 w natLt_8_32) (broadcastInDim S22544384 ![] bcast_S_S22544384 (constantI S_ 32 4#32))) (ix1 p)
      = (((nibOf 1 (w (ix1 p))).toInt : ℝ) : EReal) :=
  congrArg (fun b : BitVec 32 => ((b.toInt : ℝ) : EReal)) (signed_high (w (ix1 p)))

theorem even_at (x : FVec Ideal S1x128x4096 .bf16) (w : IVec S22544384 8) (s : FVec Ideal S22016 .f32) (R : Fin 128) (n : Fin 5504) :
    even (F := Ideal) x w s (ix3 0 R n) = ∑ k : Fin 4096, x (ix3 0 R k) * wt w s 0 k.val n.val := by
  unfold even
  pointwise
  refine Finset.sum_congr rfl fun k _ => congrArg _ ?_
  rw [weights_at, low_at]
  unfold wt
  rw [at1_of w (ix1 ⟨5504 * k.val + n.val, by omega⟩) (5504 * k.val + n.val) rfl]

theorem odd_at (x : FVec Ideal S1x128x4096 .bf16) (w : IVec S22544384 8) (s : FVec Ideal S22016 .f32) (R : Fin 128) (n : Fin 5504) :
    odd (F := Ideal) x w s (ix3 0 R n) = ∑ k : Fin 4096, x (ix3 0 R k) * wt w s 1 k.val n.val := by
  unfold odd
  pointwise
  refine Finset.sum_congr rfl fun k _ => congrArg _ ?_
  rw [weights_at, high_at]
  unfold wt
  rw [at1_of w (ix1 ⟨5504 * k.val + n.val, by omega⟩) (5504 * k.val + n.val) rfl]

theorem out_at (x : FVec Ideal S1x128x4096 .bf16) (w : IVec S22544384 8) (s : FVec Ideal S22016 .f32) (R : Fin 128) (L : Fin 11008) :
    out (F := Ideal) x w s (ix3 0 R L) = ∑ k : Fin 4096, x (ix3 0 R k) * wt w s (L.val % 2) k.val (L.val / 2) := by
  unfold out
  pointwise
  by_cases h : L.val % 2 < 1
  · rw [dif_pos h, even_at]
    have e : L.val % 2 = 0 := by omega
    exact congrArg (fun q => ∑ k : Fin 4096, x (ix3 0 R k) * wt w s q k.val (L.val / 2)) e.symm
  · rw [dif_neg h, odd_at]
    have e : L.val % 2 = 1 := by omega
    exact congrArg (fun q => ∑ k : Fin 4096, x (ix3 0 R k) * wt w s q k.val (L.val / 2)) e.symm

end Cert.Proof.Val
end
-- ==== Proof.Val.Acc.lean ====
/-
  One product of a phase, as a part of the contraction.
-/
module

public import proofs.«01_k».proof.Proof.Val.Tile
public import proofs.«01_k».proof.Proof.Val.Xs
public import proofs.«01_k».proof.Proof.Val.Step
public import proofs.«01_k».proof.Proof.Val.Bits
public import proofs.«01_k».proof.Proof.Val.RefAt

@[expose] public section

noncomputable section

namespace Cert.Proof.Val

open Cert.KernelIdeal Cert.KernelIdeal.Gen Cert.Proof.Str Cert.Proof.KI
open Idealize.ShloMosaic Idealize.ShloMosaic.TcCoe Idealize.SL.Sem

variable (X : S1x128x4096.Idx → EReal) (W : S22544384.Idx → BitVec 8) (S : S22016.Idx → EReal)

/-- The part of chunk `c`'s contraction over rows 256·kt … 256·kt + 255. -/
def D (c kt : ℕ) (ρ : Fin 2) (r l : Fin 128) : EReal :=
  ∑ i : Fin 256, at3 X 0 r.val (kOf (c % 4) kt i.val) * wt W S ρ.val (kOf (c % 4) kt i.val) (128 * c + l.val)

/-- Its parts from `lo` on, `n` of them. -/
def P (c lo n : ℕ) (ρ : Fin 2) (r l : Fin 128) : EReal := ∑ q ∈ Finset.range n, D X W S c (lo + q) ρ r l

/-- The arrays hold the arguments. -/
structure Holds (vx : S128x4096.Idx → EReal) (vw : S44032x128.Idx → BitVec 32) (vs : S512x256.Idx → EReal) : Prop where
  x : ∀ R K, R < 128 → K < 4096 → at2 vx R K = at3 X 0 R K
  s : ∀ G K, G < 512 → K < 43 → at2 vs G K = at1 S (43 * G + K)
  w : ∀ r l b, r < 44032 → l < 128 → b < 4 → byteOf b (at2 vw r l) = at1 W ((4 * r + b) * 128 + l)

/-- What one product of a phase reads its words and its scales' lanes by. -/
structure Reads1 (vw : S44032x128.Idx → BitVec 32) (wv : ℕ → IVec S8x128 32) (index : ℕ → BitVec 32) (g kt : ℕ) : Prop where
  w : ∀ n (s : Fin 8) (l : Fin 128), 2752 * kt ≤ n → n ≤ 2752 * kt + 2140 → n + g ≤ 2752 * kt + 2149 → wv n (ix2 s l) = at2 vw (n + g + 86 * s.val) l.val
  e : ∀ v : Fin 4, index v.val = BitVec.ofNat 32 (11 * v.val + g)

variable {X W S} {vx : S128x4096.Idx → EReal} {vw : S44032x128.Idx → BitVec 32} {vs : S512x256.Idx → EReal}
  {wv : ℕ → IVec S8x128 32} {index : ℕ → BitVec 32}

theorem castX_at (y : S1x128x256.Idx → EReal) (r : Fin 128) (i : Fin 256) :
    shapeCast S128x256 y shapeCasts_S1x128x256_S128x256 (ix2 r i) = y (ix3 0 r i) := by pointwise

theorem wsel_at (H : Holds X W S vx vw vs) {g kt : ℕ} (hk : kt < 16) (R : Reads1 vw wv index g kt) (v : Fin 4) (hg : g < 11) (hc : 4 * g + v.val < 43)
    (n : ℕ) (h0 : 2752 * kt ≤ n) (h1 : n ≤ 2752 * kt + 2107) (b : Fin 4) (s : Fin 8) (l : Fin 128) :
    byteOf b.val (wsel masks (F := Ideal) wv v.val n (ix2 s l)) = at1 W ((4 * (n + wo v.val b.val + g + 86 * s.val) + b.val) * 128 + l.val) := by
  have h2 : wo v.val b.val ≤ 33 ∧ wo v.val b.val + g ≤ 42 := by
    unfold wo
    split_ifs <;> omega
  have hs := s.isLt
  refine (wsel_byte wv v.val n b s l).trans ?_
  refine (congrArg (byteOf b.val) (R.w (n + wo v.val b.val) s l (by omega) (by omega) (by omega))).trans ?_
  exact H.w _ _ _ (by omega) l.isLt b.isLt

theorem code_eq (v b p j s g kt l k : ℕ) (hb : b < 4) (hp : p < 2) (hs : s < 8) (hj : j < 4) (hv : v < 4) (hg : 4 * g + v < 43)
    (hk : k = kOf v kt (64 * j + 8 * s + (2 * b + p))) :
    4 * (2752 * kt + 688 * j + 43 * p + wo v b + g + 86 * s) + b = 43 * k + (4 * g + v) := by
  subst hk
  have e1 : (64 * j + 8 * s + (2 * b + p)) / 8 = 8 * j + s := by omega
  have e2 : (64 * j + 8 * s + (2 * b + p)) % 2 = p := by omega
  have e3 : (64 * j + 8 * s + (2 * b + p)) % 8 / 2 = b := by omega
  unfold kOf wo
  rw [e1, e2, e3]
  split_ifs <;> omega

theorem weight_at (H : Holds X W S vx vw vs) {g kt : ℕ} (hk : kt < 16) (R : Reads1 vw wv index g kt) (hg : g < 11) (v : Fin 4) (hc : 4 * g + v.val < 43)
    (fz : S2048x2x128.Idx → EReal) (i : Fin 256) (ρ : Fin 2) (l : Fin 128) :
    tileOf masks (F := Ideal) wv (rdZ (B := BI) (zAll (B := BI) vs placings fz)) (fun v => broadcast S64x128 (index v)) v.val kt
        (ix2 i ⟨128 * ρ.val + l.val, by omega⟩)
      = wt W S ρ.val (kOf v.val kt i.val) (128 * (4 * g + v.val) + l.val) := by
  obtain ⟨j, s, b, p, hi⟩ : ∃ (j : Fin 4) (s : Fin 8) (b : Fin 4) (p : Fin 2), i.val = 64 * j.val + 8 * s.val + (2 * b.val + p.val) :=
    ⟨⟨i.val / 64, by omega⟩, ⟨i.val % 64 / 8, by omega⟩, ⟨i.val % 8 / 2, by omega⟩, ⟨i.val % 2, by omega⟩, by dsimp only; omega⟩
  have hj := j.isLt
  have hs := s.isLt
  have hb := b.isLt
  have hp := p.isLt
  have hl := l.isLt
  have hv := v.isLt
  have hcode := code_eq v.val b.val p.val j.val s.val g kt l.val (kOf v.val kt i.val) hb hp hs hj hv hc (by rw [hi])
  have hwo : wo v.val b.val ≤ 33 ∧ wo v.val b.val + g ≤ 42 := by
    unfold wo
    split_ifs <;> omega
  generalize kOf v.val kt i.val = k at hcode
  have hr : 8 * s.val + (2 * b.val + p.val) < 64 := by omega
  refine (tile_at (fun j => wpair masks (F := Ideal) wv v.val (2752 * kt + 688 * j.val))
    (fun j => scale (F := Ideal) (broadcast S64x128 (index v.val)) (rdZ (B := BI) (zAll (B := BI) vs placings fz) (4 * kt + j.val)))
    j ρ i ⟨128 * ρ.val + l.val, by omega⟩ ⟨8 * s.val + (2 * b.val + p.val), hr⟩ l (by dsimp only; omega) rfl).trans ?_
  have hbyte : byteOf ((2 * b.val + p.val) / 2) (if (2 * b.val + p.val) % 2 = 0 then (wpair masks (F := Ideal) wv v.val (2752 * kt + 688 * j.val)).1 (ix2 s l)
      else (wpair masks (F := Ideal) wv v.val (2752 * kt + 688 * j.val)).2 (ix2 s l)) = at1 W (5504 * k + (128 * (4 * g + v.val) + l.val)) := by
    have e1 : (2 * b.val + p.val) / 2 = b.val := by omega
    rw [e1]
    by_cases h0 : (2 * b.val + p.val) % 2 = 0
    · rw [if_pos h0]
      refine (wsel_at H hk R v hg hc (2752 * kt + 688 * j.val) (by omega) (by omega) b s l).trans ?_
      congr 1
      have : p.val = 0 := by omega
      omega
    · rw [if_neg h0]
      refine (wsel_at H hk R v hg hc (2752 * kt + 688 * j.val + 43) (by omega) (by omega) b s l).trans ?_
      congr 1
      have : p.val = 1 := by omega
      omega
  unfold wt
  refine congrArg₂ (fun a b : EReal => a * b) ?_ ?_
  · have hval : (⟨8 * s.val + (2 * b.val + p.val), hr⟩ : Fin 64).val = 8 * s.val + (⟨2 * b.val + p.val, by omega⟩ : Fin 8).val := rfl
    rcases fin2' ρ with rfl | rfl
    · refine (if_pos rfl).trans ?_
      refine (nib_at _ _ l s ⟨2 * b.val + p.val, by omega⟩ hval).trans ?_
      exact congrArg (fun b : BitVec 32 => ((b.toInt : ℝ) : EReal)) ((even_nib _ _ _ (by omega)).trans (congrArg (nibOf 0) hbyte))
    · refine (if_neg (by decide)).trans ?_
      refine (nib_at _ _ l s ⟨2 * b.val + p.val, by omega⟩ hval).trans ?_
      exact congrArg (fun b : BitVec 32 => ((b.toInt : ℝ) : EReal)) ((odd_nib _ _ _ (by omega)).trans (congrArg (nibOf 1) hbyte))
  · refine (scale_at (broadcast S64x128 (index v.val)) _ _ l ⟨11 * v.val + g, by omega⟩ (R.e v)).trans ?_
    refine (rdZ_at (zAll (B := BI) vs placings fz) (4 * kt + j.val) (by omega) _ _).trans ?_
    have hG : 32 * kt + 8 * j.val + s.val < 512 := by omega
    have e : ∀ (q : Fin 2048) (u : Fin 2), q.val = 4 * (32 * kt + 8 * j.val + s.val) + b.val → u.val = p.val →
        (zAll (B := BI) vs placings fz : S2048x2x128.Idx → EReal) (ix3 q u ⟨11 * v.val + g, by omega⟩)
          = at2 vs (32 * kt + 8 * j.val + s.val) ((43 * p.val + wo v.val b.val + g) / 2) := by
      intro q u hq hu
      rw [show q = ⟨4 * (32 * kt + 8 * j.val + s.val) + b.val, by omega⟩ from Fin.ext hq, show u = p from Fin.ext hu]
      exact zs_at vs fz ⟨32 * kt + 8 * j.val + s.val, hG⟩ b p v ⟨g, hg⟩ ⟨11 * v.val + g, by omega⟩ rfl
    refine (e _ _ (by dsimp only; omega) (by dsimp only; omega)).trans ?_
    refine (H.s _ _ hG (by omega)).trans ?_
    congr 1
    omega

theorem prodOf_at (H : Holds X W S vx vw vs) {g kt : ℕ} (hk : kt < 16) (R : Reads1 vw wv index g kt) (hg : g < 11) (v : Fin 4) (hc : 4 * g + v.val < 43)
    (fz : S2048x2x128.Idx → EReal) (fx : S4x128x4096.Idx → EReal) (ρ : Fin 2) (r l : Fin 128) :
    prodOf masks (F := Ideal) wv (rdZ (B := BI) (zAll (B := BI) vs placings fz)) (rdX (B := BI) (xAll (B := BI) vx fx))
        (fun v => broadcast S64x128 (index v)) v.val kt (ix2 r ⟨128 * ρ.val + l.val, by omega⟩)
      = D X W S (4 * g + v.val) kt ρ r l := by
  unfold prodOf D
  refine (prod_at _ _ r _).trans (Finset.sum_congr rfl fun i _ => ?_)
  have hm : (4 * g + v.val) % 4 = v.val := by omega
  rw [hm]
  refine congrArg₂ (fun a b : EReal => a * b) ?_ (weight_at H hk R hg v hc fz i ρ l)
  refine (castX_at _ r i).trans ((xs_at vx fx v.val kt v.isLt hk r i).trans (H.x _ _ r.isLt ?_))
  exact kOf_lt _ _ _ hk i.isLt

theorem accumS_at (wv : ℕ → IVec S8x128 32) (zv : ℕ → FVec Ideal S64x128 .bf16) (xv : ℕ → ℕ → FVec Ideal S1x128x256 .bf16) (idx : ℕ → IVec S64x128 32) (v : ℕ)
    (j : S128x256.Idx) : ∀ (n kt : ℕ) (o : FVec Ideal S128x256 .f32),
    accumS masks wv zv xv idx n kt v o j = o j + ∑ q ∈ Finset.range n, prodOf masks wv zv xv idx v (kt + q) j
  | 0, kt, o => by
    rw [Finset.range_zero, Finset.sum_empty, add_zero]
    rfl
  | n + 1, kt, o => by
    have h : accumS masks wv zv xv idx (n + 1) kt v o j = accumS masks wv zv xv idx n (kt + 1) v (addf o (prodOf masks wv zv xv idx v kt)) j := rfl
    have h2 : addf o (prodOf masks wv zv xv idx v kt) j = o j + prodOf masks wv zv xv idx v kt j := rfl
    rw [h, accumS_at wv zv xv idx v j n (kt + 1), h2, Finset.sum_range_succ', add_zero]
    have e : ∀ q, kt + 1 + q = kt + (q + 1) := fun q => by omega
    simp only [e]
    rw [add_assoc, add_comm (prodOf masks wv zv xv idx v kt j)]

/-- The partial sum of a phase. -/
theorem tot_at (H : Holds X W S vx vw vs) {g n kt : ℕ} (hn : 0 < n) (hk : kt + n ≤ 16) (R : ∀ q, q < n → Reads1 vw wv index g (kt + q)) (hg : g < 11)
    (v : Fin 4) (hc : 4 * g + v.val < 43) (fz : S2048x2x128.Idx → EReal) (fx : S4x128x4096.Idx → EReal) :
    halfAt (tot masks (F := Ideal) wv (rdZ (B := BI) (zAll (B := BI) vs placings fz)) (rdX (B := BI) (xAll (B := BI) vx fx)) index n kt v.val)
      = P X W S (4 * g + v.val) kt n := by
  funext ρ r l
  unfold halfAt tot total P
  refine (accumS_at _ _ _ _ _ _ _ _ _).trans ?_
  obtain ⟨n, rfl⟩ : ∃ q, n = q + 1 := ⟨n - 1, by omega⟩
  rw [Finset.sum_range_succ', add_comm]
  refine congrArg₂ (fun a b : EReal => a + b) ?_ (prodOf_at H (by omega) (R 0 (by omega)) hg v hc fz fx ρ r l)
  refine Finset.sum_congr rfl fun q hq => ?_
  have hq' : q < n := Finset.mem_range.mp hq
  have e : kt + 1 + q = kt + (q + 1) := by omega
  rw [e]
  exact prodOf_at H (by omega) (R (q + 1) (by omega)) hg v hc fz fx ρ r l

end Cert.Proof.Val
end
-- ==== Proof.Val.Phase.lean ====
/-
  The running sums and the results after each phase.
-/
module

public import proofs.«01_k».proof.Proof.Val.Acc

@[expose] public section

noncomputable section

namespace Cert.Proof.Val

open Cert.KernelIdeal Cert.KernelIdeal.Gen Cert.Proof.Str Cert.Proof.KI
open Idealize.ShloMosaic Idealize.ShloMosaic.TcCoe Idealize.SL.Sem

/-- One chunk's numbers. -/
abbrev E3 : Type := Fin 2 → Fin 128 → Fin 128 → EReal

section Order

variable (step : Mem BI → Fin 4 → FVec Ideal S128x256 .f32 → Mem BI) (t : ℕ → FVec Ideal S128x256 .f32) (m : Mem BI) (g : ℕ) (c : Fin 43)

theorem seq4_a (U : E3 → E3)
    (h : ∀ (v : Fin 4) (m : Mem BI), aA (step m v (t v.val)) c = if c.val = 4 * g + v.val then U (aA m c) else aA m c) :
    aA (seq4 step m t) c = if c.val / 4 = g then U (aA m c) else aA m c := by
  have h0 : ∀ m, aA (step m 0 (t 0)) c = if c.val = 4 * g + 0 then U (aA m c) else aA m c := h 0
  have h1 : ∀ m, aA (step m 1 (t 1)) c = if c.val = 4 * g + 1 then U (aA m c) else aA m c := h 1
  have h2 : ∀ m, aA (step m 2 (t 2)) c = if c.val = 4 * g + 2 then U (aA m c) else aA m c := h 2
  have h3 : ∀ m, aA (step m 3 (t 3)) c = if c.val = 4 * g + 3 then U (aA m c) else aA m c := h 3
  unfold seq4
  rw [h3, h1, h2, h0]
  split_ifs <;> first | rfl | (exfalso; omega)

theorem seq3_a (U : E3 → E3)
    (h : ∀ (v : Fin 4) (m : Mem BI), v.val < 3 → aA (step m v (t v.val)) c = if c.val = 40 + v.val then U (aA m c) else aA m c) :
    aA (seq3 step m t) c = if c.val / 4 = 10 then U (aA m c) else aA m c := by
  have h0 : ∀ m, aA (step m 0 (t 0)) c = if c.val = 40 + 0 then U (aA m c) else aA m c := fun m => h 0 m (by decide)
  have h1 : ∀ m, aA (step m 1 (t 1)) c = if c.val = 40 + 1 then U (aA m c) else aA m c := fun m => h 1 m (by decide)
  have h2 : ∀ m, aA (step m 2 (t 2)) c = if c.val = 40 + 2 then U (aA m c) else aA m c := fun m => h 2 m (by decide)
  unfold seq3
  rw [h1, h2, h0]
  have := c.isLt
  split_ifs <;> first | rfl | (exfalso; omega)

theorem seq4_o (U : E3 → E3) (ha : ∀ (v : Fin 4) (m : Mem BI), aA (step m v (t v.val)) = aA m)
    (h : ∀ (v : Fin 4) (m : Mem BI), oA (step m v (t v.val)) c = if c.val = 4 * g + v.val then U (aA m c) else oA m c) :
    aA (seq4 step m t) = aA m ∧ oA (seq4 step m t) c = if c.val / 4 = g then U (aA m c) else oA m c := by
  have a0 : ∀ m, aA (step m 0 (t 0)) = aA m := ha 0
  have a1 : ∀ m, aA (step m 1 (t 1)) = aA m := ha 1
  have a2 : ∀ m, aA (step m 2 (t 2)) = aA m := ha 2
  have a3 : ∀ m, aA (step m 3 (t 3)) = aA m := ha 3
  have h0 : ∀ m, oA (step m 0 (t 0)) c = if c.val = 4 * g + 0 then U (aA m c) else oA m c := h 0
  have h1 : ∀ m, oA (step m 1 (t 1)) c = if c.val = 4 * g + 1 then U (aA m c) else oA m c := h 1
  have h2 : ∀ m, oA (step m 2 (t 2)) c = if c.val = 4 * g + 2 then U (aA m c) else oA m c := h 2
  have h3 : ∀ m, oA (step m 3 (t 3)) c = if c.val = 4 * g + 3 then U (aA m c) else oA m c := h 3
  unfold seq4
  refine ⟨by rw [a3, a1, a2, a0], ?_⟩
  rw [h3, h1, h2, h0, a1, a2, a0]
  split_ifs <;> first | rfl | (exfalso; omega)

theorem seq3_o (U : E3 → E3) (ha : ∀ (v : Fin 4) (m : Mem BI), aA (step m v (t v.val)) = aA m)
    (h : ∀ (v : Fin 4) (m : Mem BI), v.val < 3 → oA (step m v (t v.val)) c = if c.val = 40 + v.val then U (aA m c) else oA m c) :
    oA (seq3 step m t) c = if c.val / 4 = 10 then U (aA m c) else oA m c := by
  have a0 : ∀ m, aA (step m 0 (t 0)) = aA m := ha 0
  have a2 : ∀ m, aA (step m 2 (t 2)) = aA m := ha 2
  have h0 : ∀ m, oA (step m 0 (t 0)) c = if c.val = 40 + 0 then U (aA m c) else oA m c := fun m => h 0 m (by decide)
  have h1 : ∀ m, oA (step m 1 (t 1)) c = if c.val = 40 + 1 then U (aA m c) else oA m c := fun m => h 1 m (by decide)
  have h2 : ∀ m, oA (step m 2 (t 2)) c = if c.val = 40 + 2 then U (aA m c) else oA m c := fun m => h 2 m (by decide)
  unfold seq3
  rw [h1, h2, h0, a2, a0]
  have := c.isLt
  split_ifs <;> first | rfl | (exfalso; omega)

variable (f : (g : ℕ) → g < 10 → Mem BI → Mem BI)

theorem iter_a (U : E3 → E3) (h : ∀ g hg m, aA (f g hg m) c = if c.val / 4 = g then U (aA m c) else aA m c) :
    ∀ n, n ≤ 10 → aA (iter f m n) c = if c.val / 4 < n then U (aA m c) else aA m c
  | 0, _ => (if_neg (Nat.not_lt_zero _)).symm
  | n + 1, hn => by
    rw [iter_succ f m n (by omega), h, iter_a U h n (by omega)]
    split_ifs <;> first | rfl | (exfalso; omega)

theorem iter_o (U : E3 → E3) (h : ∀ g hg m, aA (f g hg m) = aA m ∧ oA (f g hg m) c = if c.val / 4 = g then U (aA m c) else oA m c) :
    ∀ n, n ≤ 10 → aA (iter f m n) = aA m ∧ oA (iter f m n) c = if c.val / 4 < n then U (aA m c) else oA m c
  | 0, _ => ⟨rfl, (if_neg (Nat.not_lt_zero _)).symm⟩
  | n + 1, hn => by
    have ih := iter_o U h n (by omega)
    rw [iter_succ f m n (by omega)]
    refine ⟨(h _ _ _).1.trans ih.1, ?_⟩
    rw [(h _ _ _).2, ih.1, ih.2]
    split_ifs <;> first | rfl | (exfalso; omega)

end Order

/-- The words of row steps `lo` to `hi` are in the scratch. -/
def Bro (vw fw : S44032x128.Idx → BitVec 32) (lo hi : ℕ) : Prop :=
  ∀ R l, 2752 * lo ≤ R → R < 2752 * hi → l < 128 → at2 fw R l = at2 vw R l

variable {X : S1x128x4096.Idx → EReal} {W : S22544384.Idx → BitVec 8} {S : S22016.Idx → EReal}
variable {vx : S128x4096.Idx → EReal} {vw : S44032x128.Idx → BitVec 32} {vs : S512x256.Idx → EReal}
variable {fw : S44032x128.Idx → BitVec 32} {lo hi : ℕ}

theorem readsG (hb : Bro vw fw lo hi) (g : ℕ) (hg : g < 10) (kt : ℕ) (h0 : lo ≤ kt) (h1 : kt < hi) (h2 : kt < 16) :
    Reads1 vw (rdW (B := BI) fw (atG g hg)) (idxG g) g kt where
  w n s l a b d := by
    have hs := s.isLt
    have hn : n ≤ 43420 := by omega
    refine (rdW_at fw (atG g hg) n hn s l (n + g) ?_).trans (hb _ _ (by omega) (by omega) l.isLt)
    show ![(Scalar.addi (BitVec.ofNat 32 n) (iv g)).toNat, 0] = _
    rw [addi_toNat n g (by omega) hn]
  e v := by
    unfold idxG
    apply BitVec.eq_of_toNat_eq
    rw [addi_toNat _ g (by omega) (by omega), BitVec.toNat_ofNat]
    omega

theorem readsT (hb : Bro vw fw lo hi) (kt : ℕ) (h0 : lo ≤ kt) (h1 : kt < hi) (h2 : kt < 16) :
    Reads1 vw (rdW (B := BI) fw atT) idxT 10 kt where
  w n s l a b d := by
    have hs := s.isLt
    have hn : n ≤ 43419 := by omega
    exact (rdW_at fw atT n hn s l (n + 10) rfl).trans (hb _ _ (by omega) (by omega) l.isLt)
  e v := rfl

theorem accG_off (g : ℕ) (hg : g < 10) (v : Fin 4) (h : Fin 2) : (accG g hg v h).off = ![4 * g + v.val, h.val, 0, 0] := by
  show ![(chunkW g v).toNat, h.val, 0, 0] = _
  rw [chunkW_toNat g hg v]
theorem outG_off (g : ℕ) (hg : g < 10) (v : Fin 4) (h : Fin 2) : (outG BI O₀ g hg v h).off = ![4 * g + v.val, h.val, 0, 0] := by
  show ![(chunkW g v).toNat, h.val, 0, 0] = _
  rw [chunkW_toNat g hg v]
theorem accT_off (v : Fin 4) (hv : v.val < 3) (h : Fin 2) : (accT v h).off = ![4 * 10 + v.val, h.val, 0, 0] := by
  show ![40 + v.val % 3, h.val, 0, 0] = _
  rw [Nat.mod_eq_of_lt hv]
theorem outT_off (v : Fin 4) (hv : v.val < 3) (h : Fin 2) : (outT BI O₀ v h).off = ![4 * 10 + v.val, h.val, 0, 0] := by
  show ![40 + v.val % 3, h.val, 0, 0] = _
  rw [Nat.mod_eq_of_lt hv]

variable (H : Holds X W S vx vw vs) (fz : S2048x2x128.Idx → EReal) (fx : S4x128x4096.Idx → EReal)

/-- The scratch's scales and rows. -/
abbrev zv (vs : S512x256.Idx → EReal) (fz : S2048x2x128.Idx → EReal) := zAll (B := BI) vs placings fz
abbrev xv (vx : S128x4096.Idx → EReal) (fx : S4x128x4096.Idx → EReal) := xAll (B := BI) vx fx

include H in
theorem totG_at (n kt : ℕ) (hn : 0 < n) (hk : kt + n ≤ 16) (hb : Bro vw fw kt (kt + n)) (g : ℕ) (hg : g < 10) (v : Fin 4) :
    halfAt (totG (B := BI) masks fw (zv vs fz) (xv vx fx) n kt g hg v.val) = P X W S (4 * g + v.val) kt n := by
  unfold totG
  exact tot_at H hn hk (fun q hq => readsG hb g hg (kt + q) (by omega) (by omega) (by omega)) (by omega) v (by omega) fz fx

include H in
theorem totT_at (n kt : ℕ) (hn : 0 < n) (hk : kt + n ≤ 16) (hb : Bro vw fw kt (kt + n)) (v : Fin 4) (hv : v.val < 3) :
    halfAt (totT (B := BI) masks fw (zv vs fz) (xv vx fx) n kt v.val) = P X W S (4 * 10 + v.val) kt n := by
  unfold totT
  exact tot_at H hn hk (fun q hq => readsT hb (kt + q) (by omega) (by omega) (by omega)) (by omega) v (by omega) fz fx

include H in
theorem ph1_at (hb : Bro vw fw 0 1) (m : Mem BI) (c : Fin 43) :
    aA (ph1 (B := BI) masks fw (zv vs fz) (xv vx fx) m) c = P X W S c.val 0 1 := by
  unfold ph1 endFirst
  refine (seq3_a _ _ _ c (fun _ => P X W S c.val 0 1) ?_).trans ?_
  · intro v m hv
    refine (stepFirst_at accT m v _ (4 * 10 + v.val) (accT_off v hv) c).trans ?_
    by_cases hc : c.val = 40 + v.val
    · rw [if_pos hc, if_pos hc, hc]
      exact totT_at H fz fx 1 0 (by omega) (by omega) hb v hv
    · rw [if_neg hc, if_neg hc]
  rw [iter_a m c (tripFirst (B := BI) masks fw (zv vs fz) (xv vx fx)) (fun _ => P X W S c.val 0 1) ?_ 10 (le_refl _)]
  · have := c.isLt
    split_ifs <;> first | rfl | (exfalso; omega)
  · intro g hg m
    unfold tripFirst
    refine seq4_a _ _ m g c (fun _ => P X W S c.val 0 1) ?_
    intro v m
    refine (stepFirst_at (accG g hg) m v _ (4 * g + v.val) (accG_off g hg v) c).trans ?_
    by_cases hc : c.val = 4 * g + v.val
    · rw [if_pos hc, if_pos hc, hc]
      exact totG_at H fz fx 1 0 (by omega) (by omega) hb g hg v
    · rw [if_neg hc, if_neg hc]

/-- A part added to what was there. -/
def plus (p e : E3) : E3 := fun h r l => p h r l + e h r l

include H in
theorem phN_at (n kt : ℕ) (hn : 0 < n) (hk : kt + n ≤ 16) (hb : Bro vw fw kt (kt + n)) (m : Mem BI) (c : Fin 43) :
    aA (phN (B := BI) masks n kt fw (zv vs fz) (xv vx fx) m) c = plus (P X W S c.val kt n) (aA m c) := by
  unfold phN endMid
  refine (seq3_a _ _ _ c (plus (P X W S c.val kt n)) ?_).trans ?_
  · intro v m hv
    refine (stepMid_at accT m v _ (4 * 10 + v.val) (accT_off v hv) c).trans ?_
    by_cases hc : c.val = 40 + v.val
    · rw [if_pos hc, if_pos hc, hc, totT_at H fz fx n kt hn hk hb v hv]
      rfl
    · rw [if_neg hc, if_neg hc]
  rw [iter_a m c (tripMid (B := BI) masks fw (zv vs fz) (xv vx fx) n kt) (plus (P X W S c.val kt n)) ?_ 10 (le_refl _)]
  · have := c.isLt
    split_ifs <;> first | rfl | (exfalso; omega)
  · intro g hg m
    unfold tripMid
    refine seq4_a _ _ m g c (plus (P X W S c.val kt n)) ?_
    intro v m
    refine (stepMid_at (accG g hg) m v _ (4 * g + v.val) (accG_off g hg v) c).trans ?_
    by_cases hc : c.val = 4 * g + v.val
    · rw [if_pos hc, if_pos hc, hc, totG_at H fz fx n kt hn hk hb g hg v]
      rfl
    · rw [if_neg hc, if_neg hc]

include H in
theorem tripLast_at (hb : Bro vw fw 10 16) (c : Fin 43) (g : ℕ) (hg : g < 10) (m : Mem BI) :
    aA (tripLast (B := BI) masks O₀ fw (zv vs fz) (xv vx fx) g hg m) = aA m
      ∧ oA (tripLast (B := BI) masks O₀ fw (zv vs fz) (xv vx fx) g hg m) c
        = if c.val / 4 = g then wv (plus (P X W S c.val 10 6) (aA m c)) else oA m c := by
  unfold tripLast
  refine seq4_o _ _ m g c (fun e => wv (plus (P X W S c.val 10 6) e)) ?_ ?_
  · intro v m
    exact stepLast_a _ _ _ _ _
  intro v m
  refine (stepLast_at (accG g hg) (outG BI O₀ g hg) m v _ (4 * g + v.val) (accG_off g hg v) (outG_off g hg v) c).trans ?_
  by_cases hc : c.val = 4 * g + v.val
  · rw [if_pos hc, if_pos hc, hc, totG_at H fz fx 6 10 (by omega) (by omega) hb g hg v]
    rfl
  · rw [if_neg hc, if_neg hc]

/-- The `o` of a state, chunk by chunk. -/
theorem oA_o (m : Mem BI) (c : Fin 43) (h : Fin 2) (r l : Fin 128) : (m.o : S43x2x128x128.Idx → EReal) (ix4 c h r l) = oA m c h r l := rfl

include H in
theorem valOf_at (hb : Bro vw fw 10 16) (m : Mem BI) (c : Fin 43) (h : Fin 2) (r l : Fin 128) (j : ℕ) (hj : j / 2 = c.val) :
    (valOf (B := BI) masks O₀ fw (zv vs fz) (xv vx fx) m j : S43x2x128x128.Idx → EReal) (ix4 c h r l)
      = wv (plus (P X W S c.val 10 6) (aA m c)) h r l := by
  unfold valOf
  have hi := iter_o m c (tripLast (B := BI) masks O₀ fw (zv vs fz) (xv vx fx)) (fun e => wv (plus (P X W S c.val 10 6) e)) (tripLast_at H fz fx hb c)
  by_cases h80 : j < 80
  · rw [if_pos h80]
    have := (hi (j / 8 + 1) (by omega)).2
    rw [if_pos (by omega)] at this
    exact congrFun (congrFun (congrFun this h) r) l
  · rw [if_neg h80]
    refine (oA_o _ c h r l).trans ?_
    have hl : oA (endLast (B := BI) masks O₀ fw (zv vs fz) (xv vx fx) (iter (tripLast (B := BI) masks O₀ fw (zv vs fz) (xv vx fx)) m 10)) c
        = if c.val / 4 = 10 then wv (plus (P X W S c.val 10 6) (aA (iter (tripLast (B := BI) masks O₀ fw (zv vs fz) (xv vx fx)) m 10) c))
          else oA (iter (tripLast (B := BI) masks O₀ fw (zv vs fz) (xv vx fx)) m 10) c := by
      unfold endLast
      refine seq3_o _ _ _ c (fun e => wv (plus (P X W S c.val 10 6) e)) ?_ ?_
      · intro v m
        exact stepLast_a _ _ _ _ _
      intro v m hv
      refine (stepLast_at accT (outT BI O₀) m v _ (4 * 10 + v.val) (accT_off v hv) (outT_off v hv) c).trans ?_
      by_cases hc : c.val = 40 + v.val
      · rw [if_pos hc, if_pos hc, hc, totT_at H fz fx 6 10 (by omega) (by omega) hb v hv]
        rfl
      · rw [if_neg hc, if_neg hc]
    have hlt := c.isLt
    rw [if_pos (by omega), (hi 10 (le_refl _)).1] at hl
    exact congrFun (congrFun (congrFun hl h) r) l

/-- What the transfers of words brought. -/
theorem brought_at (f v : S44032x128.Idx → BitVec 32) (i : Fin 5) (R : Fin 44032) (l : Fin 128) (h0 : wlo i ≤ R.val) (h1 : R.val < wlo i + wlen i) :
    (brought (B := BI) I₀ f v i : S44032x128.Idx → BitVec 32) (ix2 R l) = v (ix2 R l) := by
  have hy : (ix2 R l : S44032x128.Idx) = (wRect i).emb (ix2 (⟨R.val - wlo i, by omega⟩ : Fin (wlen i)) l) := by
    funext d
    match d with
    | ⟨0, _⟩ => exact Fin.ext (by show R.val = wlo i + 1 * (R.val - wlo i); omega)
    | ⟨1, _⟩ => exact Fin.ext (by show l.val = 0 + 1 * l.val; omega)
  exact (congrArg (brought (B := BI) I₀ f v i : S44032x128.Idx → BitVec 32) hy).trans
    ((put_in cc0_scratch1 (wRect i) f (fun x => v ((wRect i).emb x)) _).trans (congrArg v hy.symm))

theorem bro (f v : S44032x128.Idx → BitVec 32) (i : Fin 5) (lo hi : ℕ) (h0 : wlo i = 2752 * lo) (h1 : wlo i + wlen i = 2752 * hi) (hh : hi ≤ 16) :
    Bro v (brought (B := BI) I₀ f v i) lo hi := by
  intro R l a b d
  unfold at2
  have e : (Fin.ofNat 44032 R).val = R := Nat.mod_eq_of_lt (by omega)
  exact brought_at f v i _ _ (by rw [e]; omega) (by rw [e]; omega)

/-- What the half chunks hold when they are sent, as parts of the contraction. -/
theorem outcome_at (H : Holds X W S vx vw vs) (f0 f1 f2 f3 f4 f5 f6) (c : Fin 43) (h : Fin 2) (r l : Fin 128) (j : ℕ) (hj : j / 2 = c.val) :
    (outcome (B := BI) masks I₀ O₀ vs vx vw f0 f1 f2 f3 f4 f5 f6 j : S43x2x128x128.Idx → EReal) (ix4 c h r l)
      = wv (plus (P X W S c.val 10 6) (plus (P X W S c.val 6 4) (plus (P X W S c.val 3 3) (plus (P X W S c.val 1 2) (P X W S c.val 0 1))))) h r l := by
  have es : sinOf (B := BI) I₀ vs f2 = vs := View.write_whole_univ _ _ _
  have ex : xinOf (B := BI) I₀ vx f0 = vx := View.write_whole_univ _ _ _
  unfold outcome vals
  rw [es, ex]
  refine (valOf_at H f3 f4 (bro f1 vw 4 10 16 rfl rfl (by omega)) _ c h r l j hj).trans ?_
  unfold before
  rw [phN_at H f3 f4 4 6 (by omega) (by omega) (bro f1 vw 3 6 10 rfl rfl (by omega)),
    phN_at H f3 f4 3 3 (by omega) (by omega) (bro f1 vw 2 3 6 rfl rfl (by omega)),
    phN_at H f3 f4 2 1 (by omega) (by omega) (bro f1 vw 1 1 3 rfl rfl (by omega)),
    ph1_at H f3 f4 (bro f1 vw 0 0 1 rfl rfl (by omega))]

end Cert.Proof.Val
end
-- ==== Proof.Val.Final.lean ====
/-
  The result's columns as whole contractions.
-/
module

public import proofs.«01_k».proof.Proof.Val.Phase

@[expose] public section

noncomputable section

namespace Cert.Proof.Val

open Cert.KernelIdeal Cert.KernelIdeal.Gen Cert.Proof.Str Cert.Proof.KI
open Idealize.ShloMosaic Idealize.ShloMosaic.TcCoe Idealize.SL.Sem

/-- The rows of a contraction in the order the kernel takes them. -/
def rowAt (v : Fin 4) (p : Fin 16 × Fin 256) : Fin 4096 :=
  ⟨kOf v.val p.1.val p.2.val, by have := p.1.isLt; have := p.2.isLt; have := v.isLt; unfold kOf; omega⟩

theorem rowAt_inj (v : Fin 4) : Function.Injective (rowAt v) := by
  rintro ⟨q, i⟩ ⟨q', i'⟩ h
  have h : kOf v.val q.val i.val = kOf v.val q'.val i'.val := congrArg Fin.val h
  unfold kOf at h
  have a := q.isLt; have b := i.isLt; have a' := q'.isLt; have b' := i'.isLt; have d := v.isLt
  have e1 : q.val = q'.val := by omega
  have e2 : i.val = i'.val := by omega
  exact Prod.ext (Fin.ext e1) (Fin.ext e2)

theorem rows_sum (v : Fin 4) (f : ℕ → EReal) :
    ∑ q ∈ Finset.range 16, ∑ i : Fin 256, f (kOf v.val q i.val) = ∑ k : Fin 4096, f k.val := by
  have hb : Function.Bijective (rowAt v) :=
    (Fintype.bijective_iff_injective_and_card _).mpr ⟨rowAt_inj v, by simp⟩
  rw [Finset.sum_range, ← Fintype.sum_prod_type' (f := fun (q : Fin 16) (i : Fin 256) => f (kOf v.val q.val i.val))]
  exact hb.sum_comp (fun k : Fin 4096 => f k.val)

variable {X : S1x128x4096.Idx → EReal} {W : S22544384.Idx → BitVec 8} {S : S22016.Idx → EReal}
variable {vx : S128x4096.Idx → EReal} {vw : S44032x128.Idx → BitVec 32} {vs : S512x256.Idx → EReal}

theorem parts_at (c : ℕ) (ρ : Fin 2) (r l : Fin 128) :
    plus (P X W S c 10 6) (plus (P X W S c 6 4) (plus (P X W S c 3 3) (plus (P X W S c 1 2) (P X W S c 0 1)))) ρ r l
      = ∑ k : Fin 4096, at3 X 0 r.val k.val * wt W S ρ.val k.val (128 * c + l.val) := by
  have h : plus (P X W S c 10 6) (plus (P X W S c 6 4) (plus (P X W S c 3 3) (plus (P X W S c 1 2) (P X W S c 0 1)))) ρ r l
      = ∑ q ∈ Finset.range 16, D X W S c q ρ r l := by
    unfold plus P
    generalize hd : (fun q => D X W S c q ρ r l) = d
    have e : ∀ q, D X W S c q ρ r l = d q := fun q => congrFun hd q
    simp only [e, Finset.sum_range_succ, Finset.sum_range_zero, zero_add, Nat.reduceAdd, Nat.add_zero]
    abel
  rw [h]
  exact rows_sum ⟨c % 4, Nat.mod_lt _ (by decide)⟩ (fun k => at3 X 0 r.val k * wt W S ρ.val k (128 * c + l.val))

theorem squeeze_at {α : Type} (w : S1x1x128x128.Idx → α) (hn) (r l : Fin 128) :
    w (Shape.reshapeEquiv (s := S1x1x128x128) (s' := S128x128) hn (ix2 r l)) = w (ix4 0 0 r l) := by
  have h : shapeCast S128x128 w shapeCasts_S1x1x128x128_S128x128 (ix2 r l) = w (ix4 0 0 r l) := by pointwise
  exact h

theorem outSlice_at (f : S43x2x128x128.Idx → EReal) (C H : ℕ) (inb) (c : Fin 43) (h : Fin 2) (hc : c.val = C) (hh : h.val = H) (r l : Fin 128) :
    ((outSlice BI.out ![C, H, 0, 0] inb).view.read (Elt Ideal) f : S128x128.Idx → EReal) (ix2 r l) = f (ix4 c h r l) :=
  (squeeze_at (fun x => f ((Rect.unit (s := S43x2x128x128) ![C, H, 0, 0] S1x1x128x128.size inb).emb x)) _ r l).trans
    (congrArg f (emb4 ![C, H, 0, 0] inb C H rfl c h hc hh r l).symm)

theorem sent_at (fo : S128x11008.Idx → EReal) (f : S43x2x128x128.Idx → EReal) (j : Fin 86) (R : Fin 128) (L : Fin 11008) (hj : L.val / 128 = j.val)
    (c : Fin 43) (h : Fin 2) (l : Fin 128) (hc : c.val = j.val / 2) (hh : h.val = j.val % 2) (hl : l.val = L.val % 128) :
    (sent (B := BI) O₀ fo f j : S128x11008.Idx → EReal) (ix2 R L) = f (ix4 c h R l) := by
  have hy : (ix2 R L : S128x11008.Idx) = (Rect.unit (s := S128x11008) ![0, 128 * j.val] S128x128.size (col_inb j)).emb (ix2 R l : S128x128.Idx) := by
    funext d
    match d with
    | ⟨0, _⟩ => exact Fin.ext (by show R.val = 0 + 1 * R.val; omega)
    | ⟨1, _⟩ => exact Fin.ext (by show L.val = 128 * j.val + 1 * l.val; omega)
  exact (congrArg (sent (B := BI) O₀ fo f j : S128x11008.Idx → EReal) hy).trans
    ((put_in main_v7 (Rect.unit (s := S128x11008) ![0, 128 * j.val] S128x128.size (col_inb j)) fo _ (ix2 R l : S128x128.Idx)).trans
      (outSlice_at f (j.val / 2) (j.val % 2) _ c h hc hh R l))

/-- The result the contraction gives. -/
def spec (X : S1x128x4096.Idx → EReal) (W : S22544384.Idx → BitVec 8) (S : S22016.Idx → EReal) : S128x11008.Idx → EReal :=
  fun p => ∑ k : Fin 4096, at3 X 0 (p 0).val k.val * wt W S ((p 1).val % 2) k.val ((p 1).val / 2)

theorem ends_spec (H : Holds X W S vx vw vs) (c : Dev nD) (g : S128x11008.Idx → EReal) (hg : Ends (F := Ideal) c vx vw vs g) : g = spec X W S := by
  obtain ⟨fo, f0, f1, f2, f3, f4, f5, f6, hw⟩ := hg
  funext p
  obtain ⟨R, L, rfl⟩ : ∃ (R : Fin 128) (L : Fin 11008), p = ix2 R L := ⟨p 0, p 1, by funext d; match d with
    | ⟨0, _⟩ => rfl
    | ⟨1, _⟩ => rfl⟩
  have hL := L.isLt
  have hm : (ix2 R L : S128x11008.Idx) ∈ colBlk (B := BI) O₀ (L.val / 128) := by
    unfold colBlk
    refine (View.mem_setOn (v := View.whole main_v7) (x := (ix2 R L : S128x11008.Idx))).mpr (Finset.mem_filter.mpr ⟨Finset.mem_univ _, ?_⟩)
    show 128 * (L.val / 128) ≤ L.val ∧ L.val < 128 * (L.val / 128 + 1)
    omega
  refine (hw ⟨L.val / 128, by omega⟩ _ hm).trans ?_
  refine (sent_at fo _ ⟨L.val / 128, by omega⟩ R L rfl ⟨L.val / 256, by omega⟩ ⟨L.val / 128 % 2, by omega⟩ ⟨L.val % 128, by omega⟩
    (by show L.val / 256 = L.val / 128 / 2; omega) rfl rfl).trans ?_
  refine (outcome_at H f0 f1 f2 f3 f4 f5 f6 ⟨L.val / 256, by omega⟩ _ R _ (L.val / 128) (by show L.val / 128 / 2 = L.val / 256; omega)).trans ?_
  unfold wv
  refine (parts_at _ _ _ _).trans ?_
  show ∑ k : Fin 4096, at3 X 0 R.val k.val * wt W S (L.val % 128 % 2) k.val (128 * (L.val / 256) + (L.val % 128 / 2 + 64 * (L.val / 128 % 2)))
    = ∑ k : Fin 4096, at3 X 0 R.val k.val * wt W S (L.val % 2) k.val (L.val / 2)
  rw [show L.val % 128 % 2 = L.val % 2 from by omega, show 128 * (L.val / 256) + (L.val % 128 / 2 + 64 * (L.val / 128 % 2)) = L.val / 2 from by omega]

end Cert.Proof.Val
end
-- ==== Proof.Val.Host.lean ====
/-
  What the call is handed, from the arguments.
-/
module

public import proofs.«01_k».proof.Proof.Val.Base
public import Idealize.ShloMosaic.Lib.Claim
public import Idealize.ShloMosaic.Lib.BitcastConvert

@[expose] public section

noncomputable section

namespace Cert.Proof.Val

open Cert.KernelIdeal Cert.KernelIdeal.Gen Cert.Proof.Str Cert.Proof.KI
open Idealize.ShloMosaic Idealize.ShloMosaic.TcCoe Idealize.SL.Sem

variable (m : (ℓ : Loc nD τ sig) → Buf (Elt Ideal) ℓ)

abbrev argX (c : Dev nD) : S1x128x4096.Idx → EReal := m ((c : Thread nD τ).loc main_arg0)
abbrev argW (c : Dev nD) : S22544384.Idx → BitVec 8 := m ((c : Thread nD τ).loc main_arg1)
abbrev argS (c : Dev nD) : S22016.Idx → EReal := m ((c : Thread nD τ).loc main_arg2)

theorem x_at (c : Dev nD) (R K : ℕ) (hR : R < 128) (hK : K < 4096) :
    at2 (V m c main_v6 : S128x4096.Idx → EReal) R K = at3 (argX m c) 0 R K := by
  simp only [V, V0, hostOps0, hostOps0_1, hostOps0_2, List.flatten_cons, List.flatten_nil, List.cons_append, List.nil_append, List.append_nil]
  entry_read
  unfold at2
  pointwise
  exact at3_of (argX m c) _ 0 R K rfl (Nat.mod_eq_of_lt hR) (Nat.mod_eq_of_lt hK)

theorem s_at (c : Dev nD) (G K : ℕ) (hG : G < 512) (hK : K < 43) :
    at2 (V m c main_v5 : S512x256.Idx → EReal) G K = at1 (argS m c) (43 * G + K) := by
  simp only [V, V0, hostOps0, hostOps0_1, hostOps0_2, List.flatten_cons, List.flatten_nil, List.cons_append, List.nil_append, List.append_nil]
  entry_read
  unfold at2
  have key : ∀ (g : Fin 512) (k : Fin 256) (z : S_.Idx → EReal), g.val = G → k.val = K →
      pad S512x256 ![0, 0] ![0, 213] ![0, 0] (shapeCast S512x43 (argS m c) shapeCasts_S22016_S512x43) z pads_S512x43_S512x256_000_02130 h_S_ (ix2 g k)
        = at1 (argS m c) (43 * G + K) := by
    intro g k z hg hk
    pointwise
    rw [dif_pos (by omega)]
    exact at1_of (argS m c) _ _ (by show g.val * 43 + k.val = _; omega)
  exact key _ _ _ (Nat.mod_eq_of_lt hG) (Nat.mod_eq_of_lt (by omega))

theorem w_at (c : Dev nD) (r l b : ℕ) (hr : r < 44032) (hl : l < 128) (hb : b < 4) :
    byteOf b (at2 (V m c main_v2 : S44032x128.Idx → BitVec 32) r l) = at1 (argW m c) ((4 * r + b) * 128 + l) := by
  simp only [V, V0, hostOps0, hostOps0_1, hostOps0_2, List.flatten_cons, List.flatten_nil, List.cons_append, List.nil_append, List.append_nil]
  entry_read
  refine BitVec.eq_of_getLsbD_eq fun i hi => ?_
  unfold byteOf at2
  rw [BitVec.getLsbD_extractLsb', Host.bitcastConvertWiden_getLsbD _ _ _ _ _ _ (by omega)]
  pointwise
  rw [show decide (i < 8) = true from decide_eq_true hi, Bool.true_and]
  have e : ∀ (g : S22544384.Idx) (q : ℕ), (g 0).val = (4 * r + b) * 128 + l → q = i → (argW m c g).getLsbD q = (at1 (argW m c) ((4 * r + b) * 128 + l)).getLsbD i := by
    intro g q hg hq
    rw [at1_of (argW m c) g _ hg, hq]
  refine e _ _ ?_ (by omega)
  have hr' : r % 44032 = r := Nat.mod_eq_of_lt hr
  have hl' : l % 128 = l := Nat.mod_eq_of_lt hl
  have hb' : (8 * b + i) / 8 = b := by omega
  show (r % 44032) * 512 + ((8 * b + i) / 8) * 128 + l % 128 = _
  rw [hr', hl', hb']; ring

end Cert.Proof.Val
end
-- ==== Proof.Val.Launch.lean ====
/-
  The kernel's result is the reference's.
-/
module

public import proofs.«01_k».proof.Defs
public import proofs.«01_k».proof.Proof.Ref
public import proofs.«01_k».proof.Proof.Val.Final
public import proofs.«01_k».proof.Proof.Val.Host
public import Idealize.ShloMosaic.Lib.Pipeline.FrameSuffixV

@[expose] public section

noncomputable section

namespace Cert.Proof.Val

open Cert.KernelIdeal Cert.KernelIdeal.Gen Cert.Proof.Str Cert.Proof.KI
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

theorem holds (c : Dev nD) : Holds (argX m c) (argW m c) (argS m c) (V m c main_v6) (V m c main_v2) (V m c main_v5) where
  x := x_at m c
  s := s_at m c
  w := w_at m c

/-- The result at the call's end. -/
def res (c : Dev nD) : Buf (Elt Ideal) ((c : Thread nD τ).loc main_v7) := spec (argX m c) (argW m c) (argS m c)

/-- The buffers at the call's end. -/
def G (c : Dev nD) (b : Ref sig .tc) : Buf (Elt Ideal) ((c.tc : Thread nD τ).loc b) := Function.update (V m c) main_v7 (res m c) b

theorem G_eq (c : Dev nD) : G m c main_v7 = res m c := Function.update_self _ _ _

theorem enterV (c : Dev nD) : Pipeline.ΦDRV osem0 (cfg0.spec) H0 R0 (V m) (V m) c ⊢ (dats m (fun _ => (BI.emp : sProp 𝕄)) 0 c).Φ 0 := by
  rw [show (dats m (fun _ => (BI.emp : sProp 𝕄)) 0 c).Φ 0 = around m c (BI.emp : sProp 𝕄) (fun _ => True) from congrArg (around m c _) (if_pos rfl)]
  unfold Pipeline.ΦDRV
  rw [scopedRest0_eq, ownSems00_eq, H0_eq, R0_eq]
  unfold around
  iintro ⟨H1, H3, H4, H5⟩
  isplitl [H1]; iexact H1
  isplitr; iempintro
  isplitl [H3]; iexact H3
  isplitl [H4]; iexact H4
  iexists (V m c main_v7)
  isplitr
  · ipureintro; trivial
  iexact H5

theorem leaveV (c : Dev nD) : (dats m (fun _ => (BI.emp : sProp 𝕄)) 0 c).Φ (Fin.last _) ⊢ Pipeline.ΦDRV osem0 (cfg0.spec) H0 R0 (V m) (G m) c := by
  rw [show (dats m (fun _ => (BI.emp : sProp 𝕄)) 0 c).Φ (Fin.last _) = around m c (BI.emp : sProp 𝕄) (Ends c (V m c main_v6) (V m c main_v2) (V m c main_v5)) from
    congrArg (around m c _) (if_neg (by decide))]
  unfold Pipeline.ΦDRV
  rw [scopedRest0_eq, ownSems00_eq, H0_eq, R0_eq, G_eq]
  unfold around
  iintro ⟨H1, -, H3, H4, ⟨%g, %hg, H5⟩⟩
  have e : g = res m c := ends_spec (holds m c) c g hg
  subst e
  isplitl [H1]; iexact H1
  isplitl [H3]; iexact H3
  isplitl [H4]; iexact H4
  iexact H5

/-- The returned array. -/
def ret (c : Dev nD) : Buf (Elt Ideal) ((c.tc : Thread nD τ).loc main_v8) :=
  (broadcastInDim S1x128x11008 ![1, 2] bcast_S128x11008_S1x128x11008_1_2 (spec (argX m c) (argW m c) (argS m c)) : S1x128x11008.Idx → EReal)

theorem tail_read (c : Dev nD) (A) :
    StableHlo.after ([hostOps1].flatten : List (HloOp τ sig (Elt Ideal))) (Pipeline.withArrays (cfg0.spec) c (Pipeline.withR (V0 m c) R0 c (G m c)) A) (Proc.devRef .tc main_v8)
      = ret m c := by
  simp only [hostOps1, List.flatten_cons, List.flatten_nil, List.append_nil]
  rw [StableHlo.after_cons, StableHlo.after_nil, StableHlo.unary_result]
  have e : Pipeline.withArrays (cfg0.spec) c (Pipeline.withR (V0 m c) R0 c (G m c)) A (Proc.devRef .tc main_v7) = res m c :=
    (Pipeline.withArrays_of_ne (cfg0.spec) c _ A main_v7 (by exact (by decide : ∀ w, Pipeline.arrRef (cfg0.spec) w ≠ main_v7))).trans
      ((Pipeline.withR_of_mem (V0 m c) R0 c (G m c) main_v7 (by decide)).trans (G_eq m c))
  exact congrArg (broadcastInDim S1x128x11008 ![1, 2] bcast_S128x11008_S1x128x11008_1_2 : (S128x11008.Idx → EReal) → (S1x128x11008.Idx → EReal)) e

set_option backward.isDefEq.respectTransparency.types false in
theorem run_value : θ_run defs (onTc (τ := τ) (main (F := Ideal))) (s₀ m ρ) (fun r => ∀ c : Dev nD, r.2.mem ((c.tc : Thread nD τ).loc main_v8) = ret m c) :=
  Pipeline.θ_run_frame_dmaR_aroundV cfgs (dats m (fun _ => (BI.emp : sProp 𝕄))) (0 : Fin 1) launch0 osem0 defs₀ Variants.none ownSemFacts0 H0 R0 H0_sub R0_sub m ρ main
    (hbody := fun c => (body_obligation m _ c).loose) (hshare := fun c w => w.elim0)
    (howed := fun _ _ => rfl) (V₀ := V0 m) (opss := [hostOps1]) (hsub := sfx_sub) (hfresh := sfx_fresh) (hkeep := sfx_keeps) (G := G m)
    (hmain := hmainD m Variants.none) (hA := A_eq m _)
    (hin := enterV m) (hout := leaveV m)
    (Q' := fun r => ∀ c : Dev nD, r.2.mem ((c.tc : Thread nD τ).loc main_v8) = ret m c)
    (hQ' := fun r h c => ((h.1 c).2 main_v8 (Pipeline.mem_restRefs_of main_v8 (by decide) (by decide))).trans (tail_read m c _))

theorem ret_eq (c : Dev nD) (x : S1x128x4096.Idx → EReal) (w : S22544384.Idx → BitVec 8) (s : S22016.Idx → EReal)
    (hx : x = argX m c) (hw : w = argW m c) (hs : s = argS m c) :
    (Cert.Proof.Ref.out (F := Ideal) x w s : S1x128x11008.Idx → EReal) = ret m c := by
  subst hx hw hs
  funext p
  obtain ⟨R, L, rfl⟩ : ∃ (R : Fin 128) (L : Fin 11008), p = ix3 0 R L := ⟨p 1, p 2, by funext d; match d with
    | ⟨0, _⟩ => exact Fin.ext (by have : (p (0 : Fin 3)).val < 1 := (p (0 : Fin 3)).isLt; show (p (0 : Fin 3)).val = 0; omega)
    | ⟨1, _⟩ => rfl
    | ⟨2, _⟩ => rfl⟩
  refine (out_at (argX m c) (argW m c) (argS m c) R L).trans ?_
  have e : (ret m c : S1x128x11008.Idx → EReal) (ix3 0 R L) = spec (argX m c) (argW m c) (argS m c) (ix2 R L) := by
    unfold ret
    pointwise
  refine Eq.trans ?_ e.symm
  show ∑ k : Fin 4096, _ = ∑ k : Fin 4096, _
  refine Finset.sum_congr rfl fun k _ => congrArg (fun a : EReal => a * wt (argW m c) (argS m c) (L.val % 2) k.val (L.val / 2)) ?_
  exact at3_of (argX m c) (ix3 0 R k) 0 R.val k.val rfl rfl rfl

theorem algebraic : letI := Cert.KernelIdeal.Gen.facts; letI := Cert.ReferenceIdeal.Gen.facts; Cert.algebraic_KernelIdeal_ReferenceIdeal := by
  intro m g m' g' _ hm
  refine ⟨ret m, ?_, ?_⟩
  · exact θ_run_mono (θ_run_and (run_value m g) (Cert.Proof.KI.frame m g)) fun r h c => ⟨h.1 c, h.2.1 c⟩
  · exact θ_run_mono (Cert.Proof.Ref.run_main (F := Ideal) m' g') fun r h c =>
      ⟨(h c).1.trans (ret_eq m c _ _ _ (hm c).1 (hm c).2.1 (hm c).2.2), (h c).2⟩

end Cert.Proof.Val
end
-- ==== Proof.lean ====
/-
  The proof of `Cert.Claim`: the three programs run and hand their arguments back, the idealized kernel is the kernel
  rewritten by the rules it names, and its result is the reference's.
-/
module

public import proofs.«01_k».proof.Defs
public import proofs.«01_k».proof.Proof.KI.Frame
public import proofs.«01_k».proof.Proof.KB.Frame
public import proofs.«01_k».proof.Proof.Ref
public import proofs.«01_k».proof.Proof.Preserves
public import proofs.«01_k».proof.Proof.Val.Launch

@[expose] public section

noncomputable section

namespace Cert.Proof

open Idealize.ShloMosaic Idealize.SL.Sem

/-- The reference's frame. -/
theorem frame_r : letI := Cert.ReferenceIdeal.Gen.facts; Cert.quiescent_ReferenceIdeal := by
  intro m ρ _
  exact (θ_run Cert.ReferenceIdeal.defs _ _).mono (fun r h => ⟨fun c => (h c).2,
      Idealize.ShloMosaic.sem_eq_zero_of_no_sems (by decide) r.2⟩) (Cert.Proof.Ref.run_main (F := Ideal) m ρ)

theorem claim : Cert.Claim :=
  ⟨Cert.Kernel.Gen.facts, Cert.KernelIdeal.Gen.facts, Cert.ReferenceIdeal.Gen.facts,
    fun m ρ _ => Cert.Proof.KB.frame m ρ, fun m ρ _ => Cert.Proof.KI.frame m ρ, frame_r, preserves, Cert.Proof.Val.algebraic⟩

end Cert.Proof

end
